-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_1)) (v1 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_1) = v0 c
          ∧ r.2.mem ((c.tc : Thread Cert.Kernel4Ideal.nD Cert.Kernel4Ideal.τ).loc Cert.Kernel4Ideal.main_v6_2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v6_1)) (v1 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_1) = v0 c
          ∧ r.2.mem ((c.tc : Thread Cert.Kernel6Ideal.nD Cert.Kernel6Ideal.τ).loc Cert.Kernel6Ideal.main_v6_2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v74_0)) (v1 : (c : Dev Cert.Kernel7Ideal.nD) → Buf (Elt Ideal) ((c.tc : Thread Cert.Kernel7Ideal.nD Cert.Kernel7Ideal.τ).loc Cert.Kernel7Ideal.main_v74_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v74_0) = v0 c
          ∧ r.2.mem ((c.tc : Thread Cert.Kernel7Ideal.nD Cert.Kernel7Ideal.τ).loc Cert.Kernel7Ideal.main_v74_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v162) = v0 c
          ∧ r.2.mem ((c.tc : Thread Cert.Reference7Ideal.nD Cert.Reference7Ideal.τ).loc Cert.Reference7Ideal.main_v167) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v16_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v16_2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v11_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11_2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S4x4096x18432 : Shape := ⟨3, ![4, 4096, 18432]⟩
abbrev S8x128 : Shape := ⟨2, ![8, 128]⟩
abbrev S2x4x8x128x128 : Shape := ⟨5, ![2, 4, 8, 128, 128]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8 : Shape := ⟨1, ![8]⟩
abbrev S64x1 : Shape := ⟨2, ![64, 1]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S8x64x128 : Shape := ⟨3, ![8, 64, 128]⟩
abbrev S8x1x128 : Shape := ⟨3, ![8, 1, 128]⟩
abbrev S1x1024 : Shape := ⟨2, ![1, 1024]⟩
abbrev S4x4096x1024 : Shape := ⟨3, ![4, 4096, 1024]⟩
abbrev S1x512x1024 : Shape := ⟨3, ![1, 512, 1024]⟩
abbrev S512x128 : Shape := ⟨2, ![512, 128]⟩
abbrev S1x1x8x128x128 : Shape := ⟨5, ![1, 1, 8, 128, 128]⟩
abbrev S8x128x128 : Shape := ⟨3, ![8, 128, 128]⟩
abbrev S64x128 : Shape := ⟨2, ![64, 128]⟩
abbrev S1x64x128 : Shape := ⟨3, ![1, 64, 128]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩

abbrev nBuf : Space → Nat
  | .hbm => 88
  | .vmem => 22
  | .smem => 0
  | _ => 0

abbrev bufTy : (tb : Table) → Fin (tcTables nBuf tb) → BufTy
  | .hbm, ⟨0, _⟩ => ⟨S4x4096x18432, .f32⟩
  | .hbm, ⟨1, _⟩ => ⟨S8x128, .f32⟩
  | .hbm, ⟨2, _⟩ => ⟨S2x4x8x128x128, .f32⟩
  | .hbm, ⟨3, _⟩ => ⟨S4096, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S4096, .f32⟩
  | .hbm, ⟨13, _⟩ => ⟨S4096x1, .f32⟩
  | .hbm, ⟨14, _⟩ => ⟨S1x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x128, .f32⟩
  | .hbm, ⟨21, _⟩ => ⟨S4096x64, .f32⟩
  | .hbm, ⟨22, _⟩ => ⟨S4096x128, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S64, .f32⟩
  | .hbm, ⟨34, _⟩ => ⟨S64x1, .f32⟩
  | .hbm, ⟨35, _⟩ => ⟨S1x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S8x1x1, .f32⟩
  | .hbm, ⟨40, _⟩ => ⟨S_, .f32⟩
  | .hbm, ⟨41, _⟩ => ⟨S64x64, .f32⟩
  | .hbm, ⟨42, _⟩ => ⟨S64x64, .i1⟩
  | .hbm, ⟨43, _⟩ => ⟨S_, .f32⟩
  | .hbm, ⟨44, _⟩ => ⟨S64x64, .f32⟩
  | .hbm, ⟨45, _⟩ => ⟨S64x64, .f32⟩
  | .hbm, ⟨46, _⟩ => ⟨S1x64x64, .f32⟩
  | .hbm, ⟨47, _⟩ => ⟨S8x64x64, .f32⟩
  | .hbm, ⟨48, _⟩ => ⟨S8x64x64, .f32⟩
  | .hbm, ⟨49, _⟩ => ⟨S8x64x64, .f32⟩
  | .hbm, ⟨50, _⟩ => ⟨S8x64x64, .f32⟩
  | .hbm, ⟨51, _⟩ => ⟨S_, .f32⟩
  | .hbm, ⟨52, _⟩ => ⟨S_, .f32⟩
  | .hbm, ⟨53, _⟩ => ⟨S8x64x64, .i1⟩
  | .hbm, ⟨54, _⟩ => ⟨S8x64x64, .f32⟩
  | .hbm, ⟨55, _⟩ => ⟨S8x64x64, .f32⟩
  | .hbm, ⟨56, _⟩ => ⟨S8x1, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S1x64, .f32⟩
  | .hbm, ⟨61, _⟩ => ⟨S8x64, .f32⟩
  | .hbm, ⟨62, _⟩ => ⟨S8x64, .f32⟩
  | .hbm, ⟨63, _⟩ => ⟨S8x64, .f32⟩
  | .hbm, ⟨64, _⟩ => ⟨S8x64, .f32⟩
  | .hbm, ⟨65, _⟩ => ⟨S8x1, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S1x64, .f32⟩
  | .hbm, ⟨70, _⟩ => ⟨S8x64, .f32⟩
  | .hbm, ⟨71, _⟩ => ⟨S8x64, .f32⟩
  | .hbm, ⟨72, _⟩ => ⟨S8x64, .f32⟩
  | .hbm, ⟨73, _⟩ => ⟨S8x64, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S8, .f32⟩
  | .hbm, ⟨78, _⟩ => ⟨S8x64x1, .f32⟩
  | .hbm, ⟨79, _⟩ => ⟨S8x64x128, .f32⟩
  | .hbm, ⟨80, _⟩ => ⟨S8x64x1, .f32⟩
  | .hbm, ⟨81, _⟩ => ⟨S8x64x128, .f32⟩
  | .hbm, ⟨82, _⟩ => ⟨S8x1, .f32⟩
  | .hbm, ⟨83, _⟩ => ⟨S8x1x1, .f32⟩
  | .hbm, ⟨84, _⟩ => ⟨S8x1x128, .f32⟩
  | .hbm, ⟨85, _⟩ => ⟨S1x1024, .f32⟩
  | .hbm, ⟨86, _⟩ => ⟨S4x4096x1024, .bf16⟩
  | .hbm, ⟨87, _⟩ => ⟨S2x4x8x128x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S8x64x64, .f32⟩
  | .local _ .vmem, ⟨13, _⟩ => ⟨S8x64x128, .f32⟩
  | .local _ .vmem, ⟨14, _⟩ => ⟨S8x64x128, .f32⟩
  | .local _ .vmem, ⟨15, _⟩ => ⟨S8x1x128, .f32⟩
  | .local _ .vmem, ⟨16, _⟩ => ⟨S1x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x1x8x128x128, .f32⟩
  | .local _ .vmem, ⟨20, _⟩ => ⟨S1x1x8x128x128, .f32⟩
  | .local _ .vmem, ⟨21, _⟩ => ⟨S8x128x128, .f32⟩
  | _, _ => ⟨S4x4096x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v4555 : BitVec 1 := Scalar.cmpi .eq arg1 c7_i32
  let v4556 : BitVec 32 := Scalar.extui v4555
  let c0_i32_2684 : BitVec 32 := 0#32
  let v4557 : BitVec 1 := Scalar.cmpi .ne v4556 c0_i32_2684
  v4557

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S4x4096x18432 : Shape := ⟨3, ![4, 4096, 18432]⟩
abbrev S8x128 : Shape := ⟨2, ![8, 128]⟩
abbrev S2x4x8x128x128 : Shape := ⟨5, ![2, 4, 8, 128, 128]⟩
abbrev S4096 : Shape := ⟨1, ![4096]⟩
abbrev S8 : Shape := ⟨1, ![8]⟩
abbrev S_ : Shape := ⟨0, ![]⟩
abbrev S4x4096x1024 : Shape := ⟨3, ![4, 4096, 1024]⟩
abbrev S4x4096x8x128 : Shape := ⟨4, ![4, 4096, 8, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4x4096x8x64 : Shape := ⟨4, ![4, 4096, 8, 64]⟩
abbrev S4x8x128x128 : Shape := ⟨4, ![4, 8, 128, 128]⟩
abbrev S4x8x4096x128 : Shape := ⟨4, ![4, 8, 4096, 128]⟩
abbrev S4x8x64x64x128 : Shape := ⟨5, ![4, 8, 64, 64, 128]⟩
abbrev S64x1 : Shape := ⟨2, ![64, 1]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S4x8x64x64x64 : Shape := ⟨5, ![4, 8, 64, 64, 64]⟩
abbrev S1x8x1x64x64 : Shape := ⟨5, ![1, 8, 1, 64, 64]⟩
abbrev S8x1 : Shape := ⟨2, ![8, 1]⟩
abbrev S8x64 : Shape := ⟨2, ![8, 64]⟩
abbrev S1x8x64x1 : Shape := ⟨4, ![1, 8, 64, 1]⟩
abbrev S1x8x1x1 : Shape := ⟨4, ![1, 8, 1, 1]⟩
abbrev S64x4x8x64x128 : Shape := ⟨5, ![64, 4, 8, 64, 128]⟩
abbrev S64x4x8x64x64 : Shape := ⟨5, ![64, 4, 8, 64, 64]⟩
abbrev S1x4x8x64x128 : Shape := ⟨5, ![1, 4, 8, 64, 128]⟩
abbrev S4x8x64x128 : Shape := ⟨4, ![4, 8, 64, 128]⟩
abbrev S1x4x8x64x64 : Shape := ⟨5, ![1, 4, 8, 64, 64]⟩
abbrev S4x8x64x64 : Shape := ⟨4, ![4, 8, 64, 64]⟩
abbrev S4x4096x8 : Shape := ⟨3, ![4, 4096, 8]⟩
abbrev S4x4096x8x1 : Shape := ⟨4, ![4, 4096, 8, 1]⟩
abbrev S1x1x8x128 : Shape := ⟨4, ![1, 1, 8, 128]⟩
abbrev S1x4x8x128x128 : Shape := ⟨5, ![1, 4, 8, 128, 128]⟩

abbrev nBuf : Space → Nat
  | .hbm => 254
  | .vmem => 0
  | .smem => 0
  | _ => 0

abbrev hbmTy0_0 (i : Nat) : BufTy := match i % 128 with
  | 0 => ⟨S4x4096x18432, .f32⟩
  | 1 => ⟨S8x128, .f32⟩
  | 2 => ⟨S2x4x8x128x128, .f32⟩
  | 3 => ⟨S4096, .i32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S8, .f32⟩
  | 12 => ⟨S8, .f32⟩
  | 13 => ⟨S8, .f32⟩
  | 14 => ⟨S4x4096x1024, .f32⟩
  | 15 => ⟨S4x4096x8x128, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S4096, .f32⟩
  | 25 => ⟨S4096x1, .f32⟩
  | 26 => ⟨S1x64, .f32⟩
  | 27 => ⟨S4096x64, .f32⟩
  | 28 => ⟨S4096x64, .f32⟩
  | 29 => ⟨S4096x64, .f32⟩
  | 30 => ⟨S4096x64, .f32⟩
  | 31 => ⟨S1x4096x1x64, .f32⟩
  | 32 => ⟨S4096x64, .f32⟩
  | 33 => ⟨S1x4096x1x64, .f32⟩
  | 34 => ⟨S4x4096x8x64, .f32⟩
  | 35 => ⟨S4x4096x8x64, .f32⟩
  | 36 => ⟨S4x4096x8x64, .f32⟩
  | 37 => ⟨S4x4096x8x64, .f32⟩
  | 38 => ⟨S4x4096x8x64, .f32⟩
  | 39 => ⟨S4x4096x8x64, .f32⟩
  | 40 => ⟨S4x4096x8x64, .f32⟩
  | 41 => ⟨S4x4096x8x64, .f32⟩
  | 42 => ⟨S4x4096x8x64, .f32⟩
  | 43 => ⟨S4x4096x8x64, .f32⟩
  | 44 => ⟨S4x4096x8x64, .f32⟩
  | 45 => ⟨S4x4096x8x64, .f32⟩
  | 46 => ⟨S4x4096x8x128, .f32⟩
  | 47 => ⟨S4x4096x1024, .f32⟩
  | 48 => ⟨S4x4096x8x128, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S4096, .f32⟩
  | 58 => ⟨S4096x1, .f32⟩
  | 59 => ⟨S1x64, .f32⟩
  | 60 => ⟨S4096x64, .f32⟩
  | 61 => ⟨S4096x64, .f32⟩
  | 62 => ⟨S4096x64, .f32⟩
  | 63 => ⟨S4096x64, .f32⟩
  | 64 => ⟨S1x4096x1x64, .f32⟩
  | 65 => ⟨S4096x64, .f32⟩
  | 66 => ⟨S1x4096x1x64, .f32⟩
  | 67 => ⟨S4x4096x8x64, .f32⟩
  | 68 => ⟨S4x4096x8x64, .f32⟩
  | 69 => ⟨S4x4096x8x64, .f32⟩
  | 70 => ⟨S4x4096x8x64, .f32⟩
  | 71 => ⟨S4x4096x8x64, .f32⟩
  | 72 => ⟨S4x4096x8x64, .f32⟩
  | 73 => ⟨S4x4096x8x64, .f32⟩
  | 74 => ⟨S4x4096x8x64, .f32⟩
  | 75 => ⟨S4x4096x8x64, .f32⟩
  | 76 => ⟨S4x4096x8x64, .f32⟩
  | 77 => ⟨S4x4096x8x64, .f32⟩
  | 78 => ⟨S4x4096x8x64, .f32⟩
  | 79 => ⟨S4x4096x8x128, .f32⟩
  | 80 => ⟨S_, .f32⟩
  | 81 => ⟨S4x4096x8x128, .f32⟩
  | 82 => ⟨S4x4096x8x128, .f32⟩
  | 83 => ⟨S_, .f32⟩
  | 84 => ⟨S4x8x128x128, .f32⟩
  | 85 => ⟨S4x4096x1024, .f32⟩
  | 86 => ⟨S4x4096x8x128, .f32⟩
  | 87 => ⟨S4x8x4096x128, .f32⟩
  | 88 => ⟨S4x8x64x64x128, .f32⟩
  | 89 => ⟨S4x8x4096x128, .f32⟩
  | 90 => ⟨S4x8x64x64x128, .f32⟩
  | 91 => ⟨S4x8x4096x128, .f32⟩
  | 92 => ⟨S4x8x64x64x128, .f32⟩
  | 93 => ⟨S64, .f32⟩
  | 94 => ⟨S64x1, .f32⟩
  | 95 => ⟨S1x64, .f32⟩
  | 96 => ⟨S64x64, .f32⟩
  | 97 => ⟨S64x64, .f32⟩
  | 98 => ⟨S64x64, .f32⟩
  | 99 => ⟨S8x1x1, .f32⟩
  | 100 => ⟨S_, .f32⟩
  | 101 => ⟨S64x64, .f32⟩
  | 102 => ⟨S64x64, .i1⟩
  | 103 => ⟨S_, .f32⟩
  | 104 => ⟨S64x64, .f32⟩
  | 105 => ⟨S64x64, .f32⟩
  | 106 => ⟨S1x64x64, .f32⟩
  | 107 => ⟨S8x64x64, .f32⟩
  | 108 => ⟨S8x64x64, .f32⟩
  | 109 => ⟨S8x64x64, .f32⟩
  | 110 => ⟨S8x64x64, .f32⟩
  | 111 => ⟨S_, .f32⟩
  | 112 => ⟨S_, .f32⟩
  | 113 => ⟨S8x64x64, .i1⟩
  | 114 => ⟨S8x64x64, .f32⟩
  | 115 => ⟨S8x64x64, .f32⟩
  | 116 => ⟨S4x8x64x64x64, .f32⟩
  | 117 => ⟨S1x8x1x64x64, .f32⟩
  | 118 => ⟨S4x8x64x64x64, .f32⟩
  | 119 => ⟨S4x8x64x64x64, .f32⟩
  | 120 => ⟨S8x1, .f32⟩
  | 121 => ⟨S_, .f32⟩
  | 122 => ⟨S64, .f32⟩
  | 123 => ⟨S64, .f32⟩
  | 124 => ⟨S1x64, .f32⟩
  | 125 => ⟨S8x64, .f32⟩
  | 126 => ⟨S8x64, .f32⟩
  | 127 => ⟨S8x64, .f32⟩
  | _ => ⟨S4x4096x18432, .f32⟩

abbrev hbmTy0_1 (i : Nat) : BufTy := match i % 128 with
  | 0 => ⟨S8x64, .f32⟩
  | 1 => ⟨S1x8x64x1, .f32⟩
  | 2 => ⟨S8x1, .f32⟩
  | 3 => ⟨S_, .f32⟩
  | 4 => ⟨S64, .f32⟩
  | 5 => ⟨S64, .f32⟩
  | 6 => ⟨S1x64, .f32⟩
  | 7 => ⟨S8x64, .f32⟩
  | 8 => ⟨S8x64, .f32⟩
  | 9 => ⟨S8x64, .f32⟩
  | 10 => ⟨S8x64, .f32⟩
  | 11 => ⟨S1x8x64x1, .f32⟩
  | 12 => ⟨S_, .f32⟩
  | 13 => ⟨S8, .f32⟩
  | 14 => ⟨S8, .f32⟩
  | 15 => ⟨S8, .f32⟩
  | 16 => ⟨S1x8x1x1, .f32⟩
  | 17 => ⟨S64x4x8x64x128, .f32⟩
  | 18 => ⟨S64x4x8x64x128, .f32⟩
  | 19 => ⟨S64x4x8x64x128, .f32⟩
  | 20 => ⟨S64x4x8x64x64, .f32⟩
  | 21 => ⟨S_, .f32⟩
  | 22 => ⟨S64x4x8x64x128, .f32⟩
  | 23 => ⟨S_, .i32⟩
  | 24 => ⟨S64x4x8x64x128, .f32⟩
  | 25 => ⟨S64x4x8x64x128, .f32⟩
  | 26 => ⟨S64x4x8x64x128, .f32⟩
  | 27 => ⟨S64x4x8x64x64, .f32⟩
  | 28 => ⟨S1x8x64x1, .f32⟩
  | 29 => ⟨S1x8x1x1, .f32⟩
  | 30 => ⟨S1x8x64x1, .f32⟩
  | 31 => ⟨S_, .i32⟩
  | 32 => ⟨S4x8x128x128, .f32⟩
  | 33 => ⟨S64x4x8x64x128, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S1x4x8x64x128, .f32⟩
  | 41 => ⟨S4x8x64x128, .f32⟩
  | 42 => ⟨S_, .i32⟩
  | 43 => ⟨S_, .i32⟩
  | 44 => ⟨S_, .i32⟩
  | 45 => ⟨S_, .i32⟩
  | 46 => ⟨S1x4x8x64x128, .f32⟩
  | 47 => ⟨S4x8x64x128, .f32⟩
  | 48 => ⟨S_, .i32⟩
  | 49 => ⟨S_, .i32⟩
  | 50 => ⟨S_, .i32⟩
  | 51 => ⟨S_, .i32⟩
  | 52 => ⟨S1x4x8x64x128, .f32⟩
  | 53 => ⟨S4x8x64x128, .f32⟩
  | 54 => ⟨S_, .i32⟩
  | 55 => ⟨S_, .i32⟩
  | 56 => ⟨S_, .i32⟩
  | 57 => ⟨S_, .i32⟩
  | 58 => ⟨S1x4x8x64x64, .f32⟩
  | 59 => ⟨S4x8x64x64, .f32⟩
  | 60 => ⟨S4x8x64x128, .f32⟩
  | 61 => ⟨S4x8x64x128, .f32⟩
  | 62 => ⟨S4x8x64x128, .f32⟩
  | 63 => ⟨S4x8x64x128, .f32⟩
  | 64 => ⟨S4x8x64x128, .f32⟩
  | 65 => ⟨S4x8x128x128, .f32⟩
  | 66 => ⟨S4x8x128x128, .f32⟩
  | 67 => ⟨S4x8x64x128, .f32⟩
  | 68 => ⟨S4x8x64x128, .f32⟩
  | 69 => ⟨S4x8x128x128, .f32⟩
  | 70 => ⟨S4x8x128x128, .f32⟩
  | 71 => ⟨S1x4x8x64x128, .f32⟩
  | 72 => ⟨S_, .i32⟩
  | 73 => ⟨S_, .i32⟩
  | 74 => ⟨S_, .i32⟩
  | 75 => ⟨S_, .i32⟩
  | 76 => ⟨S64x4x8x64x128, .f32⟩
  | 77 => ⟨S_, .i32⟩
  | 78 => ⟨S_, .i32⟩
  | 79 => ⟨S4x8x64x64x128, .f32⟩
  | 80 => ⟨S4x8x4096x128, .f32⟩
  | 81 => ⟨S4x4096x8x128, .f32⟩
  | 82 => ⟨S_, .f32⟩
  | 83 => ⟨S4x4096x8, .f32⟩
  | 84 => ⟨S4x4096x8x1, .f32⟩
  | 85 => ⟨S_, .f32⟩
  | 86 => ⟨S4x4096x8x1, .f32⟩
  | 87 => ⟨S4x4096x8x1, .f32⟩
  | 88 => ⟨S4x4096x8x128, .f32⟩
  | 89 => ⟨S4x4096x8x128, .f32⟩
  | 90 => ⟨S4x4096x8x128, .f32⟩
  | 91 => ⟨S_, .f32⟩
  | 92 => ⟨S4x4096x8, .f32⟩
  | 93 => ⟨S4x4096x8x1, .f32⟩
  | 94 => ⟨S_, .f32⟩
  | 95 => ⟨S4x4096x8x1, .f32⟩
  | 96 => ⟨S4x4096x8x1, .f32⟩
  | 97 => ⟨S4x4096x8x128, .f32⟩
  | 98 => ⟨S4x4096x8x128, .f32⟩
  | 99 => ⟨S_, .f32⟩
  | 100 => ⟨S4x4096x8x1, .f32⟩
  | 101 => ⟨S4x4096x8x1, .f32⟩
  | 102 => ⟨S4x4096x8x1, .f32⟩
  | 103 => ⟨S4x4096x8x128, .f32⟩
  | 104 => ⟨S4x4096x8x128, .f32⟩
  | 105 => ⟨S1x1x8x128, .f32⟩
  | 106 => ⟨S4x4096x8x128, .f32⟩
  | 107 => ⟨S4x4096x8x128, .f32⟩
  | 108 => ⟨S4x4096x1024, .f32⟩
  | 109 => ⟨S4x4096x1024, .f32⟩
  | 110 => ⟨S4x4096x1024, .f32⟩
  | 111 => ⟨S4x4096x1024, .f32⟩
  | 112 => ⟨S_, .f32⟩
  | 113 => ⟨S4x4096x1024, .f32⟩
  | 114 => ⟨S4x4096x1024, .f32⟩
  | 115 => ⟨S_, .f32⟩
  | 116 => ⟨S4x4096x1024, .f32⟩
  | 117 => ⟨S4x4096x1024, .f32⟩
  | 118 => ⟨S4x4096x1024, .f32⟩
  | 119 => ⟨S4x4096x1024, .f32⟩
  | 120 => ⟨S4x4096x1024, .bf16⟩
  | 121 => ⟨S1x4x8x128x128, .f32⟩
  | 122 => ⟨S4x8x128x128, .f32⟩
  | 123 => ⟨S1x4x8x128x128, .f32⟩
  | 124 => ⟨S1x4x8x128x128, .f32⟩
  | 125 => ⟨S2x4x8x128x128, .f32⟩
  | _ => ⟨S4x4096x18432, .f32⟩

abbrev hbmTy (i : Nat) : BufTy := match i / 128 with
  | 0 => hbmTy0_0 i
  | 1 => hbmTy0_1 i
  | _ => ⟨S4x4096x18432, .f32⟩

abbrev bufTy : (tb : Table) → Fin (tcTables nBuf tb) → BufTy
  | .hbm, ⟨i, _⟩ => hbmTy i
  | _, _ => ⟨S4x4096x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_5 : Ref sig .tc := ⟨.hbm, 80, rfl⟩
abbrev main_v71 : Ref sig .tc := ⟨.hbm, 81, rfl⟩
abbrev main_v72 : Ref sig .tc := ⟨.hbm, 82, rfl⟩
abbrev main_cst_6 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_7 : Ref sig .tc := ⟨.hbm, 100, rfl⟩
abbrev main_v89 : Ref sig .tc := ⟨.hbm, 101, rfl⟩
abbrev main_v90 : Ref sig .tc := ⟨.hbm, 102, rfl⟩
abbrev main_cst_8 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_9 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_cst_10 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_11 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_12 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_cst_13 : Ref sig .tc := ⟨.hbm, 149, rfl⟩
abbrev main_v129 : Ref sig .tc := ⟨.hbm, 150, rfl⟩
abbrev main_c : Ref sig .tc := ⟨.hbm, 151, rfl⟩
abbrev main_v130_0 : Ref sig .tc := ⟨.hbm, 152, rfl⟩
abbrev main_v130_1 : Ref sig .tc := ⟨.hbm, 153, rfl⟩
abbrev main_v130_2 : Ref sig .tc := ⟨.hbm, 154, rfl⟩
abbrev main_v130_3 : Ref sig .tc := ⟨.hbm, 155, rfl⟩
abbrev main_v130_4 : Ref sig .tc := ⟨.hbm, 156, rfl⟩
abbrev main_v130_5 : Ref sig .tc := ⟨.hbm, 157, rfl⟩
abbrev main_v130_6 : Ref sig .tc := ⟨.hbm, 158, rfl⟩
abbrev main_v130_7 : Ref sig .tc := ⟨.hbm, 159, rfl⟩
abbrev main_v130_8 : Ref sig .tc := ⟨.hbm, 160, rfl⟩
abbrev main_v130_9 : Ref sig .tc := ⟨.hbm, 161, rfl⟩
abbrev main_while0c_c_28 : Ref sig .tc := ⟨.hbm, 162, rfl⟩
abbrev main_while0c_v165 : Ref sig .tc := ⟨.hbm, 163, rfl⟩
abbrev main_while0b_call1_c : Ref sig .tc := ⟨.hbm, 164, rfl⟩
abbrev main_while0b_call1_c_0 : Ref sig .tc := ⟨.hbm, 165, rfl⟩
abbrev main_while0b_call1_c_1 : Ref sig .tc := ⟨.hbm, 166, rfl⟩
abbrev main_while0b_call1_c_2 : Ref sig .tc := ⟨.hbm, 167, rfl⟩
abbrev main_while0b_call1_v0 : Ref sig .tc := ⟨.hbm, 168, rfl⟩
abbrev main_while0b_v165 : Ref sig .tc := ⟨.hbm, 169, rfl⟩
abbrev main_while0b_call2_c : Ref sig .tc := ⟨.hbm, 170, rfl⟩
abbrev main_while0b_call2_c_0 : Ref sig .tc := ⟨.hbm, 171, rfl⟩
abbrev main_while0b_call2_c_1 : Ref sig .tc := ⟨.hbm, 172, rfl⟩
abbrev main_while0b_call2_c_2 : Ref sig .tc := ⟨.hbm, 173, rfl⟩
abbrev main_while0b_call2_v0 : Ref sig .tc := ⟨.hbm, 174, rfl⟩
abbrev main_while0b_v166 : Ref sig .tc := ⟨.hbm, 175, rfl⟩
abbrev main_while0b_call3_c : Ref sig .tc := ⟨.hbm, 176, rfl⟩
abbrev main_while0b_call3_c_0 : Ref sig .tc := ⟨.hbm, 177, rfl⟩
abbrev main_while0b_call3_c_1 : Ref sig .tc := ⟨.hbm, 178, rfl⟩
abbrev main_while0b_call3_c_2 : Ref sig .tc := ⟨.hbm, 179, rfl⟩
abbrev main_while0b_call3_v0 : Ref sig .tc := ⟨.hbm, 180, rfl⟩
abbrev main_while0b_v167 : Ref sig .tc := ⟨.hbm, 181, rfl⟩
abbrev main_while0b_call4_c : Ref sig .tc := ⟨.hbm, 182, rfl⟩
abbrev main_while0b_call4_c_0 : Ref sig .tc := ⟨.hbm, 183, rfl⟩
abbrev main_while0b_call4_c_1 : Ref sig .tc := ⟨.hbm, 184, rfl⟩
abbrev main_while0b_call4_c_2 : Ref sig .tc := ⟨.hbm, 185, rfl⟩
abbrev main_while0b_call4_v0 : Ref sig .tc := ⟨.hbm, 186, rfl⟩
abbrev main_while0b_v168 : Ref sig .tc := ⟨.hbm, 187, rfl⟩
abbrev main_while0b_v169 : Ref sig .tc := ⟨.hbm, 188, rfl⟩
abbrev main_while0b_v170 : Ref sig .tc := ⟨.hbm, 189, rfl⟩
abbrev main_while0b_v171 : Ref sig .tc := ⟨.hbm, 190, rfl⟩
abbrev main_while0b_v172 : Ref sig .tc := ⟨.hbm, 191, rfl⟩
abbrev main_while0b_v173 : Ref sig .tc := ⟨.hbm, 192, rfl⟩
abbrev main_while0b_v174 : Ref sig .tc := ⟨.hbm, 193, rfl⟩
abbrev main_while0b_v175 : Ref sig .tc := ⟨.hbm, 194, rfl⟩
abbrev main_while0b_v176 : Ref sig .tc := ⟨.hbm, 195, rfl⟩
abbrev main_while0b_v177 : Ref sig .tc := ⟨.hbm, 196, rfl⟩
abbrev main_while0b_v178 : Ref sig .tc := ⟨.hbm, 197, rfl⟩
abbrev main_while0b_v179 : Ref sig .tc := ⟨.hbm, 198, rfl⟩
abbrev main_while0b_call5_v0 : Ref sig .tc := ⟨.hbm, 199, rfl⟩
abbrev main_while0b_call5_c : Ref sig .tc := ⟨.hbm, 200, rfl⟩
abbrev main_while0b_call5_c_0 : Ref sig .tc := ⟨.hbm, 201, rfl⟩
abbrev main_while0b_call5_c_1 : Ref sig .tc := ⟨.hbm, 202, rfl⟩
abbrev main_while0b_call5_c_2 : Ref sig .tc := ⟨.hbm, 203, rfl⟩
abbrev main_while0b_v180 : Ref sig .tc := ⟨.hbm, 204, rfl⟩
abbrev main_while0b_c_28 : Ref sig .tc := ⟨.hbm, 205, rfl⟩
abbrev main_while0b_v181 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_cst_14 : Ref sig .tc := ⟨.hbm, 210, rfl⟩
abbrev main_v134 : Ref sig .tc := ⟨.hbm, 211, rfl⟩
abbrev main_v135 : Ref sig .tc := ⟨.hbm, 212, rfl⟩
abbrev main_cst_15 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_cst_16 : Ref sig .tc := ⟨.hbm, 219, rfl⟩
abbrev main_v141 : Ref sig .tc := ⟨.hbm, 220, rfl⟩
abbrev main_v142 : Ref sig .tc := ⟨.hbm, 221, rfl⟩
abbrev main_cst_17 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_cst_18 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_call6_v0 : Ref sig .tc := ⟨.hbm, 238, rfl⟩
abbrev main_call6_v1 : Ref sig .tc := ⟨.hbm, 239, rfl⟩
abbrev main_call6_cst : Ref sig .tc := ⟨.hbm, 240, rfl⟩
abbrev main_call6_v2 : Ref sig .tc := ⟨.hbm, 241, rfl⟩
abbrev main_call6_v3 : Ref sig .tc := ⟨.hbm, 242, rfl⟩
abbrev main_call6_cst_0 : Ref sig .tc := ⟨.hbm, 243, rfl⟩
abbrev main_call6_v4 : Ref sig .tc := ⟨.hbm, 244, rfl⟩
abbrev main_call6_v5 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x1024 : Shape := ⟨2, ![16384, 1024]⟩
abbrev S16384x18432 : Shape := ⟨2, ![16384, 18432]⟩
abbrev S16384x2048 : Shape := ⟨2, ![16384, 2048]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x18432, .f32⟩
  | .hbm, ⟨4, _⟩ => ⟨S16384x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048, .f32⟩
  | .hbm, ⟨10, _⟩ => ⟨S1024x2048, .bf16⟩
  | .hbm, ⟨11, _⟩ => ⟨S1024x2048, .bf16⟩
  | .hbm, ⟨12, _⟩ => ⟨S1024x2048, .bf16⟩
  | .hbm, ⟨13, _⟩ => ⟨S2048x2048, .bf16⟩
  | .hbm, ⟨14, _⟩ => ⟨S1x2048, .f32⟩
  | .hbm, ⟨15, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S16384x1024 : Shape := ⟨2, ![16384, 1024]⟩
abbrev S16384x18432 : Shape := ⟨2, ![16384, 18432]⟩
abbrev S16384x2048 : Shape := ⟨2, ![16384, 2048]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x18432, .f32⟩
  | .hbm, ⟨4, _⟩ => ⟨S16384x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x2048, .f32⟩
  | .hbm, ⟨61, _⟩ => ⟨S16384x2048, .f32⟩
  | .hbm, ⟨62, _⟩ => ⟨S1x2048, .f32⟩
  | .hbm, ⟨63, _⟩ => ⟨S16384x2048, .f32⟩
  | .hbm, ⟨64, _⟩ => ⟨S16384x2048, .f32⟩
  | .hbm, ⟨65, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x18432 : Shape := ⟨2, ![2048, 18432]⟩
abbrev S128x2048 : Shape := ⟨2, ![128, 2048]⟩
abbrev S1x2048 : Shape := ⟨2, ![1, 2048]⟩
abbrev S16384x18432 : Shape := ⟨2, ![16384, 18432]⟩
abbrev S16384x128 : Shape := ⟨2, ![16384, 128]⟩
abbrev S1024x2048 : Shape := ⟨2, ![1024, 2048]⟩
abbrev S2048x2048 : Shape := ⟨2, ![2048, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x18432, .bf16⟩
  | .hbm, ⟨3, _⟩ => ⟨S128x2048, .bf16⟩
  | .hbm, ⟨4, _⟩ => ⟨S1x2048, .f32⟩
  | .hbm, ⟨5, _⟩ => ⟨S16384x18432, .f32⟩
  | .hbm, ⟨6, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S128x2048, .bf16⟩
  | .local _ .vmem, ⟨6, _⟩ => ⟨S1024x2048, .f32⟩
  | .local _ .vmem, ⟨7, _⟩ => ⟨S1024x2048, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x2048 : Shape := ⟨2, ![16384, 2048]⟩
abbrev S2048 : Shape := ⟨1, ![2048]⟩
abbrev S2048x18432 : Shape := ⟨2, ![2048, 18432]⟩
abbrev S128x2048 : Shape := ⟨2, ![128, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x18432 : Shape := ⟨2, ![16384, 18432]⟩
abbrev S2048x128 : Shape := ⟨2, ![2048, 128]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x18432, .bf16⟩
  | .hbm, ⟨3, _⟩ => ⟨S128x2048, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x18432, .f32⟩
  | .hbm, ⟨21, _⟩ => ⟨S16384x18432, .f32⟩
  | .hbm, ⟨22, _⟩ => ⟨S128x2048, .f32⟩
  | .hbm, ⟨23, _⟩ => ⟨S2048x128, .f32⟩
  | .hbm, ⟨24, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel4.lean ====
abbrev S4x4096x18432 : Shape := ⟨3, ![4, 4096, 18432]⟩
abbrev S8x257 : Shape := ⟨2, ![8, 257]⟩
abbrev S2x4x512x8x128 : Shape := ⟨5, ![2, 4, 512, 8, 128]⟩
abbrev S8x192 : Shape := ⟨2, ![8, 192]⟩
abbrev S8x1 : Shape := ⟨2, ![8, 1]⟩
abbrev S8x447 : Shape := ⟨2, ![8, 447]⟩
abbrev S8x639 : Shape := ⟨2, ![8, 639]⟩
abbrev S_ : Shape := ⟨0, ![]⟩
abbrev S8x640 : Shape := ⟨2, ![8, 640]⟩
abbrev S4x4096x1024 : Shape := ⟨3, ![4, 4096, 1024]⟩
abbrev S1x512x1024 : Shape := ⟨3, ![1, 512, 1024]⟩
abbrev S1x1x512x8x128 : Shape := ⟨5, ![1, 1, 512, 8, 128]⟩
abbrev S8x128x1024 : Shape := ⟨3, ![8, 128, 1024]⟩
abbrev S1024x1024 : Shape := ⟨2, ![1024, 1024]⟩
abbrev S8x128x640 : Shape := ⟨3, ![8, 128, 640]⟩
abbrev S64x640 : Shape := ⟨2, ![64, 640]⟩
abbrev S1x640 : Shape := ⟨2, ![1, 640]⟩
abbrev S64x128 : Shape := ⟨2, ![64, 128]⟩
abbrev S64x1024 : Shape := ⟨2, ![64, 1024]⟩
abbrev S1x64x640 : Shape := ⟨3, ![1, 64, 640]⟩
abbrev S128x128 : Shape := ⟨2, ![128, 128]⟩
abbrev S8x128x512 : Shape := ⟨3, ![8, 128, 512]⟩
abbrev S512x1024 : Shape := ⟨2, ![512, 1024]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S128x640 : Shape := ⟨2, ![128, 640]⟩
abbrev S1x128x640 : Shape := ⟨3, ![1, 128, 640]⟩
abbrev S1x128x128 : Shape := ⟨3, ![1, 128, 128]⟩
abbrev S128 : Shape := ⟨1, ![128]⟩
abbrev S128x1 : Shape := ⟨2, ![128, 1]⟩
abbrev S640x128 : Shape := ⟨2, ![640, 128]⟩
abbrev S1x1x512x1x128 : Shape := ⟨5, ![1, 1, 512, 1, 128]⟩

abbrev nBuf : Space → Nat
  | .hbm => 15
  | .vmem => 18
  | .smem => 0
  | _ => 0

abbrev bufTy : (tb : Table) → Fin (tcTables nBuf tb) → BufTy
  | .hbm, ⟨0, _⟩ => ⟨S4x4096x18432, .f32⟩
  | .hbm, ⟨1, _⟩ => ⟨S8x257, .f32⟩
  | .hbm, ⟨2, _⟩ => ⟨S2x4x512x8x128, .f32⟩
  | .hbm, ⟨3, _⟩ => ⟨S2x4x512x8x128, .f32⟩
  | .hbm, ⟨4, _⟩ => ⟨S8x192, .f32⟩
  | .hbm, ⟨5, _⟩ => ⟨S8x1, .f32⟩
  | .hbm, ⟨6, _⟩ => ⟨S8x447, .f32⟩
  | .hbm, ⟨7, _⟩ => ⟨S8x639, .f32⟩
  | .hbm, ⟨8, _⟩ => ⟨S8x639, .f32⟩
  | .hbm, ⟨9, _⟩ => ⟨S_, .i32⟩
  | .hbm, ⟨10, _⟩ => ⟨S_, .f32⟩
  | .hbm, ⟨11, _⟩ => ⟨S8x640, .f32⟩
  | .hbm, ⟨12, _⟩ => ⟨S4x4096x1024, .bf16⟩
  | .hbm, ⟨13, _⟩ => ⟨S2x4x512x8x128, .f32⟩
  | .hbm, ⟨14, _⟩ => ⟨S2x4x512x8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S8x640, .f32⟩
  | .local _ .vmem, ⟨9, _⟩ => ⟨S1x512x1024, .bf16⟩
  | .local _ .vmem, ⟨10, _⟩ => ⟨S1x512x1024, .bf16⟩
  | .local _ .vmem, ⟨11, _⟩ => ⟨S1x1x512x8x128, .f32⟩
  | .local _ .vmem, ⟨12, _⟩ => ⟨S1x1x512x8x128, .f32⟩
  | .local _ .vmem, ⟨13, _⟩ => ⟨S1x1x512x8x128, .f32⟩
  | .local _ .vmem, ⟨14, _⟩ => ⟨S1x1x512x8x128, .f32⟩
  | .local _ .vmem, ⟨15, _⟩ => ⟨S8x128x1024, .bf16⟩
  | .local _ .vmem, ⟨16, _⟩ => ⟨S1024x1024, .bf16⟩
  | .local _ .vmem, ⟨17, _⟩ => ⟨S8x128x640, .f32⟩
  | _, _ => ⟨S4x4096x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

def k0_cond4 (i : grid0.Coords) : BitVec 1 :=
  let arg1 : BitVec 32 := BitVec.ofNat 32 (i 1).val
  let c7_i32 : BitVec 32 := 7#32
  let v1256 : BitVec 1 := Scalar.cmpi .eq arg1 c7_i32
  let v1257 : BitVec 32 := Scalar.extui v1256
  let c0_i32_807 : BitVec 32 := 0#32
  let v1258 : BitVec 1 := Scalar.cmpi .ne v1257 c0_i32_807
  v1258

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S4x4096x18432 : Shape := ⟨3, ![4, 4096, 18432]⟩
abbrev S8x257 : Shape := ⟨2, ![8, 257]⟩
abbrev S2x4x512x8x128 : Shape := ⟨5, ![2, 4, 512, 8, 128]⟩
abbrev S4x4096x1024 : Shape := ⟨3, ![4, 4096, 1024]⟩
abbrev S4x4096x8x128 : Shape := ⟨4, ![4, 4096, 8, 128]⟩
abbrev S4x512x8x128 : Shape := ⟨4, ![4, 512, 8, 128]⟩
abbrev S1x4x512x8x128 : Shape := ⟨5, ![1, 4, 512, 8, 128]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x18432, .f32⟩
  | .hbm, ⟨1, _⟩ => ⟨S8x257, .f32⟩
  | .hbm, ⟨2, _⟩ => ⟨S2x4x512x8x128, .f32⟩
  | .hbm, ⟨3, _⟩ => ⟨S2x4x512x8x128, .f32⟩
  | .hbm, ⟨4, _⟩ => ⟨S4x4096x1024, .f32⟩
  | .hbm, ⟨5, _⟩ => ⟨S4x4096x8x128, .f32⟩
  | .hbm, ⟨6, _⟩ => ⟨S4x512x8x128, .f32⟩
  | .hbm, ⟨7, _⟩ => ⟨S4x4096x1024, .f32⟩
  | .hbm, ⟨8, _⟩ => ⟨S4x4096x8x128, .f32⟩
  | .hbm, ⟨9, _⟩ => ⟨S4x512x8x128, .f32⟩
  | .hbm, ⟨10, _⟩ => ⟨S1x4x512x8x128, .f32⟩
  | .hbm, ⟨11, _⟩ => ⟨S4x512x8x128, .f32⟩
  | .hbm, ⟨12, _⟩ => ⟨S1x4x512x8x128, .f32⟩
  | .hbm, ⟨13, _⟩ => ⟨S1x4x512x8x128, .f32⟩
  | .hbm, ⟨14, _⟩ => ⟨S2x4x512x8x128, .f32⟩
  | .hbm, ⟨15, _⟩ => ⟨S1x4x512x8x128, .f32⟩
  | .hbm, ⟨16, _⟩ => ⟨S4x512x8x128, .f32⟩
  | .hbm, ⟨17, _⟩ => ⟨S1x4x512x8x128, .f32⟩
  | .hbm, ⟨18, _⟩ => ⟨S1x4x512x8x128, .f32⟩
  | .hbm, ⟨19, _⟩ => ⟨S2x4x512x8x128, .f32⟩
  | _, _ => ⟨S4x4096x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel5.lean ====
abbrev S512x1024 : Shape := ⟨2, ![512, 1024]⟩
abbrev S512x18432 : Shape := ⟨2, ![512, 18432]⟩
abbrev S512x2048 : Shape := ⟨2, ![512, 2048]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 21
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S512x1024, .bf16⟩
  | .hbm, ⟨3, _⟩ => ⟨S512x18432, .f32⟩
  | .hbm, ⟨4, _⟩ => ⟨S512x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048, .f32⟩
  | .hbm, ⟨10, _⟩ => ⟨S1024x2048, .bf16⟩
  | .hbm, ⟨11, _⟩ => ⟨S1024x2048, .bf16⟩
  | .hbm, ⟨12, _⟩ => ⟨S1024x2048, .bf16⟩
  | .hbm, ⟨13, _⟩ => ⟨S2048x2048, .bf16⟩
  | .hbm, ⟨14, _⟩ => ⟨S1x2048, .f32⟩
  | .hbm, ⟨15, _⟩ => ⟨S512x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S512x1024 : Shape := ⟨2, ![512, 1024]⟩
abbrev S512x18432 : Shape := ⟨2, ![512, 18432]⟩
abbrev S512x2048 : Shape := ⟨2, ![512, 2048]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S512x1024, .bf16⟩
  | .hbm, ⟨3, _⟩ => ⟨S512x18432, .f32⟩
  | .hbm, ⟨4, _⟩ => ⟨S512x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S_, .f32⟩
  | .hbm, ⟨40, _⟩ => ⟨S512x2048, .f32⟩
  | .hbm, ⟨41, _⟩ => ⟨S512x2048, .f32⟩
  | .hbm, ⟨42, _⟩ => ⟨S_, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S512x2048, .f32⟩
  | .hbm, ⟨47, _⟩ => ⟨S512x2048, .f32⟩
  | .hbm, ⟨48, _⟩ => ⟨S512x2048, .f32⟩
  | .hbm, ⟨49, _⟩ => ⟨S512x2048, .f32⟩
  | .hbm, ⟨50, _⟩ => ⟨S_, .f32⟩
  | .hbm, ⟨51, _⟩ => ⟨S512, .f32⟩
  | .hbm, ⟨52, _⟩ => ⟨S512x1, .f32⟩
  | .hbm, ⟨53, _⟩ => ⟨S_, .f32⟩
  | .hbm, ⟨54, _⟩ => ⟨S512x1, .f32⟩
  | .hbm, ⟨55, _⟩ => ⟨S512x1, .f32⟩
  | .hbm, ⟨56, _⟩ => ⟨S_, .f32⟩
  | .hbm, ⟨57, _⟩ => ⟨S512x1, .f32⟩
  | .hbm, ⟨58, _⟩ => ⟨S512x1, .f32⟩
  | .hbm, ⟨59, _⟩ => ⟨S512x1, .f32⟩
  | .hbm, ⟨60, _⟩ => ⟨S512x2048, .f32⟩
  | .hbm, ⟨61, _⟩ => ⟨S512x2048, .f32⟩
  | .hbm, ⟨62, _⟩ => ⟨S1x2048, .f32⟩
  | .hbm, ⟨63, _⟩ => ⟨S512x2048, .f32⟩
  | .hbm, ⟨64, _⟩ => ⟨S512x2048, .f32⟩
  | .hbm, ⟨65, _⟩ => ⟨S512x2048, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel6.lean ====
abbrev S8x64x18432 : Shape := ⟨3, ![8, 64, 18432]⟩
abbrev S8x257 : Shape := ⟨2, ![8, 257]⟩
abbrev S2x8x512x8x128 : Shape := ⟨5, ![2, 8, 512, 8, 128]⟩
abbrev S8x192 : Shape := ⟨2, ![8, 192]⟩
abbrev S8x1 : Shape := ⟨2, ![8, 1]⟩
abbrev S8x447 : Shape := ⟨2, ![8, 447]⟩
abbrev S8x639 : Shape := ⟨2, ![8, 639]⟩
abbrev S_ : Shape := ⟨0, ![]⟩
abbrev S8x640 : Shape := ⟨2, ![8, 640]⟩
abbrev S8x64x1024 : Shape := ⟨3, ![8, 64, 1024]⟩
abbrev S1x64x1024 : Shape := ⟨3, ![1, 64, 1024]⟩
abbrev S1x1x512x8x128 : Shape := ⟨5, ![1, 1, 512, 8, 128]⟩
abbrev S8x128x576 : Shape := ⟨3, ![8, 128, 576]⟩
abbrev S576x1024 : Shape := ⟨2, ![576, 1024]⟩
abbrev S8x64x640 : Shape := ⟨3, ![8, 64, 640]⟩
abbrev S64x640 : Shape := ⟨2, ![64, 640]⟩
abbrev S1x640 : Shape := ⟨2, ![1, 640]⟩
abbrev S64x128 : Shape := ⟨2, ![64, 128]⟩
abbrev S64x1024 : Shape := ⟨2, ![64, 1024]⟩
abbrev S1x64x640 : Shape := ⟨3, ![1, 64, 640]⟩
abbrev S128x128 : Shape := ⟨2, ![128, 128]⟩
abbrev S1x1x512x1x128 : Shape := ⟨5, ![1, 1, 512, 1, 128]⟩
abbrev S512x128 : Shape := ⟨2, ![512, 128]⟩
abbrev S128x512 : Shape := ⟨2, ![128, 512]⟩
abbrev S1x128x512 : Shape := ⟨3, ![1, 128, 512]⟩
abbrev S1x64x128 : Shape := ⟨3, ![1, 64, 128]⟩
abbrev S128x64 : Shape := ⟨2, ![128, 64]⟩
abbrev S1x128x64 : Shape := ⟨3, ![1, 128, 64]⟩
abbrev S64x576 : Shape := ⟨2, ![64, 576]⟩
abbrev S1x128x576 : Shape := ⟨3, ![1, 128, 576]⟩
abbrev S128x576 : Shape := ⟨2, ![128, 576]⟩
abbrev S64 : Shape := ⟨1, ![64]⟩
abbrev S64x1 : Shape := ⟨2, ![64, 1]⟩
abbrev S576x128 : Shape := ⟨2, ![576, 128]⟩
abbrev S1x1x448x8x128 : Shape := ⟨5, ![1, 1, 448, 8, 128]⟩
abbrev S448x8x128 : Shape := ⟨3, ![448, 8, 128]⟩
abbrev S1x1x64x1x128 : Shape := ⟨5, ![1, 1, 64, 1, 128]⟩

abbrev nBuf : Space → Nat
  | .hbm => 17
  | .vmem => 22
  | .smem => 0
  | _ => 0

abbrev bufTy : (tb : Table) → Fin (tcTables nBuf tb) → BufTy
  | .hbm, ⟨0, _⟩ => ⟨S8x64x18432, .f32⟩
  | .hbm, ⟨1, _⟩ => ⟨S8x257, .f32⟩
  | .hbm, ⟨2, _⟩ => ⟨S2x8x512x8x128, .f32⟩
  | .hbm, ⟨3, _⟩ => ⟨S2x8x512x8x128, .f32⟩
  | .hbm, ⟨4, _⟩ => ⟨S2x8x512x8x128, .f32⟩
  | .hbm, ⟨5, _⟩ => ⟨S2x8x512x8x128, .f32⟩
  | .hbm, ⟨6, _⟩ => ⟨S8x192, .f32⟩
  | .hbm, ⟨7, _⟩ => ⟨S8x1, .f32⟩
  | .hbm, ⟨8, _⟩ => ⟨S8x447, .f32⟩
  | .hbm, ⟨9, _⟩ => ⟨S8x639, .f32⟩
  | .hbm, ⟨10, _⟩ => ⟨S8x639, .f32⟩
  | .hbm, ⟨11, _⟩ => ⟨S_, .i32⟩
  | .hbm, ⟨12, _⟩ => ⟨S_, .f32⟩
  | .hbm, ⟨13, _⟩ => ⟨S8x640, .f32⟩
  | .hbm, ⟨14, _⟩ => ⟨S8x64x1024, .bf16⟩
  | .hbm, ⟨15, _⟩ => ⟨S2x8x512x8x128, .f32⟩
  | .hbm, ⟨16, _⟩ => ⟨S2x8x512x8x128, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S8x640, .f32⟩
  | .local _ .vmem, ⟨9, _⟩ => ⟨S1x1x512x8x128, .f32⟩
  | .local _ .vmem, ⟨10, _⟩ => ⟨S1x1x512x8x128, .f32⟩
  | .local _ .vmem, ⟨11, _⟩ => ⟨S1x1x512x8x128, .f32⟩
  | .local _ .vmem, ⟨12, _⟩ => ⟨S1x1x512x8x128, .f32⟩
  | .local _ .vmem, ⟨13, _⟩ => ⟨S1x64x1024, .bf16⟩
  | .local _ .vmem, ⟨14, _⟩ => ⟨S1x64x1024, .bf16⟩
  | .local _ .vmem, ⟨15, _⟩ => ⟨S1x1x512x8x128, .f32⟩
  | .local _ .vmem, ⟨16, _⟩ => ⟨S1x1x512x8x128, .f32⟩
  | .local _ .vmem, ⟨17, _⟩ => ⟨S1x1x512x8x128, .f32⟩
  | .local _ .vmem, ⟨18, _⟩ => ⟨S1x1x512x8x128, .f32⟩
  | .local _ .vmem, ⟨19, _⟩ => ⟨S8x128x576, .bf16⟩
  | .local _ .vmem, ⟨20, _⟩ => ⟨S576x1024, .bf16⟩
  | .local _ .vmem, ⟨21, _⟩ => ⟨S8x64x640, .f32⟩
  | _, _ => ⟨S8x64x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_351 : BitVec 32 := 0#32
  let v457 : BitVec 1 := Scalar.cmpi .eq arg1 c0_i32_351
  let v458 : BitVec 32 := Scalar.extui v457
  let c0_i32_352 : BitVec 32 := 0#32
  let v459 : BitVec 1 := Scalar.cmpi .ne v458 c0_i32_352
  v459

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_11 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x512x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x512x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference6Ideal.lean ====
abbrev S8x64x18432 : Shape := ⟨3, ![8, 64, 18432]⟩
abbrev S8x257 : Shape := ⟨2, ![8, 257]⟩
abbrev S2x8x512x8x128 : Shape := ⟨5, ![2, 8, 512, 8, 128]⟩
abbrev S1x8x512x8x128 : Shape := ⟨5, ![1, 8, 512, 8, 128]⟩
abbrev S8x512x8x128 : Shape := ⟨4, ![8, 512, 8, 128]⟩
abbrev S8x64x1024 : Shape := ⟨3, ![8, 64, 1024]⟩
abbrev S8x64x8x128 : Shape := ⟨4, ![8, 64, 8, 128]⟩
abbrev S8x576x8x128 : Shape := ⟨4, ![8, 576, 8, 128]⟩

abbrev nBuf : Space → Nat
  | .hbm => 28
  | .vmem => 0
  | .smem => 0
  | _ => 0

abbrev bufTy : (tb : Table) → Fin (tcTables nBuf tb) → BufTy
  | .hbm, ⟨0, _⟩ => ⟨S8x64x18432, .f32⟩
  | .hbm, ⟨1, _⟩ => ⟨S8x257, .f32⟩
  | .hbm, ⟨2, _⟩ => ⟨S2x8x512x8x128, .f32⟩
  | .hbm, ⟨3, _⟩ => ⟨S2x8x512x8x128, .f32⟩
  | .hbm, ⟨4, _⟩ => ⟨S2x8x512x8x128, .f32⟩
  | .hbm, ⟨5, _⟩ => ⟨S2x8x512x8x128, .f32⟩
  | .hbm, ⟨6, _⟩ => ⟨S1x8x512x8x128, .f32⟩
  | .hbm, ⟨7, _⟩ => ⟨S8x512x8x128, .f32⟩
  | .hbm, ⟨8, _⟩ => ⟨S8x64x1024, .f32⟩
  | .hbm, ⟨9, _⟩ => ⟨S8x64x8x128, .f32⟩
  | .hbm, ⟨10, _⟩ => ⟨S8x576x8x128, .f32⟩
  | .hbm, ⟨11, _⟩ => ⟨S8x512x8x128, .f32⟩
  | .hbm, ⟨12, _⟩ => ⟨S1x8x512x8x128, .f32⟩
  | .hbm, ⟨13, _⟩ => ⟨S8x512x8x128, .f32⟩
  | .hbm, ⟨14, _⟩ => ⟨S8x64x1024, .f32⟩
  | .hbm, ⟨15, _⟩ => ⟨S8x64x8x128, .f32⟩
  | .hbm, ⟨16, _⟩ => ⟨S8x576x8x128, .f32⟩
  | .hbm, ⟨17, _⟩ => ⟨S8x512x8x128, .f32⟩
  | .hbm, ⟨18, _⟩ => ⟨S1x8x512x8x128, .f32⟩
  | .hbm, ⟨19, _⟩ => ⟨S8x512x8x128, .f32⟩
  | .hbm, ⟨20, _⟩ => ⟨S1x8x512x8x128, .f32⟩
  | .hbm, ⟨21, _⟩ => ⟨S1x8x512x8x128, .f32⟩
  | .hbm, ⟨22, _⟩ => ⟨S2x8x512x8x128, .f32⟩
  | .hbm, ⟨23, _⟩ => ⟨S1x8x512x8x128, .f32⟩
  | .hbm, ⟨24, _⟩ => ⟨S8x512x8x128, .f32⟩
  | .hbm, ⟨25, _⟩ => ⟨S1x8x512x8x128, .f32⟩
  | .hbm, ⟨26, _⟩ => ⟨S1x8x512x8x128, .f32⟩
  | .hbm, ⟨27, _⟩ => ⟨S2x8x512x8x128, .f32⟩
  | _, _ => ⟨S8x64x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel7.lean ====
abbrev S8x64x18432 : Shape := ⟨3, ![8, 64, 18432]⟩
abbrev S8x128 : Shape := ⟨2, ![8, 128]⟩
abbrev S2x8x8x128x128 : Shape := ⟨5, ![2, 8, 8, 128, 128]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x128 : Shape := ⟨2, ![64, 128]⟩
abbrev S8 : Shape := ⟨1, ![8]⟩
abbrev S8x1x1 : Shape := ⟨3, ![8, 1, 1]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S8x64x128 : Shape := ⟨3, ![8, 64, 128]⟩
abbrev S8x1x128 : Shape := ⟨3, ![8, 1, 128]⟩
abbrev S1x1024 : Shape := ⟨2, ![1, 1024]⟩
abbrev S1x8x8x128x128 : Shape := ⟨5, ![1, 8, 8, 128, 128]⟩
abbrev S8x8x128x128 : Shape := ⟨4, ![8, 8, 128, 128]⟩
abbrev S8x64x1024 : Shape := ⟨3, ![8, 64, 1024]⟩
abbrev S1x64x1024 : Shape := ⟨3, ![1, 64, 1024]⟩
abbrev S1x8x128x128 : Shape := ⟨4, ![1, 8, 128, 128]⟩
abbrev S1x1x8x128x128 : Shape := ⟨5, ![1, 1, 8, 128, 128]⟩
abbrev S8x128x128 : Shape := ⟨3, ![8, 128, 128]⟩
abbrev S1x64x128 : Shape := ⟨3, ![1, 64, 128]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩

abbrev nBuf : Space → Nat
  | .hbm => 94
  | .vmem => 22
  | .smem => 0
  | _ => 0

abbrev bufTy : (tb : Table) → Fin (tcTables nBuf tb) → BufTy
  | .hbm, ⟨0, _⟩ => ⟨S8x64x18432, .f32⟩
  | .hbm, ⟨1, _⟩ => ⟨S8x128, .f32⟩
  | .hbm, ⟨2, _⟩ => ⟨S2x8x8x128x128, .f32⟩
  | .hbm, ⟨3, _⟩ => ⟨S2x8x8x128x128, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64x1, .f32⟩
  | .hbm, ⟨18, _⟩ => ⟨S1x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x128, .f32⟩
  | .hbm, ⟨25, _⟩ => ⟨S64x64, .f32⟩
  | .hbm, ⟨26, _⟩ => ⟨S64x128, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S64, .f32⟩
  | .hbm, ⟨38, _⟩ => ⟨S64x1, .f32⟩
  | .hbm, ⟨39, _⟩ => ⟨S1x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S8x1x1, .f32⟩
  | .hbm, ⟨44, _⟩ => ⟨S_, .f32⟩
  | .hbm, ⟨45, _⟩ => ⟨S64x64, .f32⟩
  | .hbm, ⟨46, _⟩ => ⟨S64x64, .i1⟩
  | .hbm, ⟨47, _⟩ => ⟨S_, .f32⟩
  | .hbm, ⟨48, _⟩ => ⟨S64x64, .f32⟩
  | .hbm, ⟨49, _⟩ => ⟨S64x64, .f32⟩
  | .hbm, ⟨50, _⟩ => ⟨S1x64x64, .f32⟩
  | .hbm, ⟨51, _⟩ => ⟨S8x64x64, .f32⟩
  | .hbm, ⟨52, _⟩ => ⟨S8x64x64, .f32⟩
  | .hbm, ⟨53, _⟩ => ⟨S8x64x64, .f32⟩
  | .hbm, ⟨54, _⟩ => ⟨S8x64x64, .f32⟩
  | .hbm, ⟨55, _⟩ => ⟨S_, .f32⟩
  | .hbm, ⟨56, _⟩ => ⟨S_, .f32⟩
  | .hbm, ⟨57, _⟩ => ⟨S8x64x64, .i1⟩
  | .hbm, ⟨58, _⟩ => ⟨S8x64x64, .f32⟩
  | .hbm, ⟨59, _⟩ => ⟨S8x64x64, .f32⟩
  | .hbm, ⟨60, _⟩ => ⟨S8x1, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S1x64, .f32⟩
  | .hbm, ⟨65, _⟩ => ⟨S8x64, .f32⟩
  | .hbm, ⟨66, _⟩ => ⟨S8x64, .f32⟩
  | .hbm, ⟨67, _⟩ => ⟨S8x64, .f32⟩
  | .hbm, ⟨68, _⟩ => ⟨S8x64, .f32⟩
  | .hbm, ⟨69, _⟩ => ⟨S8x1, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S1x64, .f32⟩
  | .hbm, ⟨74, _⟩ => ⟨S8x64, .f32⟩
  | .hbm, ⟨75, _⟩ => ⟨S8x64, .f32⟩
  | .hbm, ⟨76, _⟩ => ⟨S8x64, .f32⟩
  | .hbm, ⟨77, _⟩ => ⟨S8x64, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S8, .f32⟩
  | .hbm, ⟨82, _⟩ => ⟨S8x64x1, .f32⟩
  | .hbm, ⟨83, _⟩ => ⟨S8x64x128, .f32⟩
  | .hbm, ⟨84, _⟩ => ⟨S8x64x1, .f32⟩
  | .hbm, ⟨85, _⟩ => ⟨S8x64x128, .f32⟩
  | .hbm, ⟨86, _⟩ => ⟨S8x1, .f32⟩
  | .hbm, ⟨87, _⟩ => ⟨S8x1x1, .f32⟩
  | .hbm, ⟨88, _⟩ => ⟨S8x1x128, .f32⟩
  | .hbm, ⟨89, _⟩ => ⟨S1x1024, .f32⟩
  | .hbm, ⟨90, _⟩ => ⟨S1x8x8x128x128, .f32⟩
  | .hbm, ⟨91, _⟩ => ⟨S8x8x128x128, .f32⟩
  | .hbm, ⟨92, _⟩ => ⟨S8x64x1024, .bf16⟩
  | .hbm, ⟨93, _⟩ => ⟨S2x8x8x128x128, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S64x128, .f32⟩
  | .local _ .vmem, ⟨9, _⟩ => ⟨S64x128, .f32⟩
  | .local _ .vmem, ⟨10, _⟩ => ⟨S8x64x64, .f32⟩
  | .local _ .vmem, ⟨11, _⟩ => ⟨S8x64x128, .f32⟩
  | .local _ .vmem, ⟨12, _⟩ => ⟨S8x64x128, .f32⟩
  | .local _ .vmem, ⟨13, _⟩ => ⟨S8x1x128, .f32⟩
  | .local _ .vmem, ⟨14, _⟩ => ⟨S1x1024, .f32⟩
  | .local _ .vmem, ⟨15, _⟩ => ⟨S1x8x128x128, .f32⟩
  | .local _ .vmem, ⟨16, _⟩ => ⟨S1x8x128x128, .f32⟩
  | .local _ .vmem, ⟨17, _⟩ => ⟨S1x64x1024, .bf16⟩
  | .local _ .vmem, ⟨18, _⟩ => ⟨S1x64x1024, .bf16⟩
  | .local _ .vmem, ⟨19, _⟩ => ⟨S1x1x8x128x128, .f32⟩
  | .local _ .vmem, ⟨20, _⟩ => ⟨S1x1x8x128x128, .f32⟩
  | .local _ .vmem, ⟨21, _⟩ => ⟨S8x128x128, .f32⟩
  | _, _ => ⟨S8x64x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74_0 : Ref sig .tc := ⟨.hbm, 92, rfl⟩
abbrev main_v74_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_364 : BitVec 32 := 0#32
  let v607 : BitVec 1 := Scalar.cmpi .eq arg1 c0_i32_364
  let v608 : BitVec 32 := Scalar.extui v607
  let c0_i32_365 : BitVec 32 := 0#32
  let v609 : BitVec 1 := Scalar.cmpi .ne v608 c0_i32_365
  v609

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x8x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference7Ideal.lean ====
abbrev S8x64x18432 : Shape := ⟨3, ![8, 64, 18432]⟩
abbrev S8x128 : Shape := ⟨2, ![8, 128]⟩
abbrev S2x8x8x128x128 : Shape := ⟨5, ![2, 8, 8, 128, 128]⟩
abbrev S64 : Shape := ⟨1, ![64]⟩
abbrev S_ : Shape := ⟨0, ![]⟩
abbrev S8 : Shape := ⟨1, ![8]⟩
abbrev S8x64x1024 : Shape := ⟨3, ![8, 64, 1024]⟩
abbrev S8x64x8x128 : Shape := ⟨4, ![8, 64, 8, 128]⟩
abbrev S64x1 : Shape := ⟨2, ![64, 1]⟩
abbrev S1x64 : Shape := ⟨2, ![1, 64]⟩
abbrev S64x64 : Shape := ⟨2, ![64, 64]⟩
abbrev S1x64x1x64 : Shape := ⟨4, ![1, 64, 1, 64]⟩
abbrev S8x64x8x64 : Shape := ⟨4, ![8, 64, 8, 64]⟩
abbrev S1x8x8x128x128 : Shape := ⟨5, ![1, 8, 8, 128, 128]⟩
abbrev S8x8x128x128 : Shape := ⟨4, ![8, 8, 128, 128]⟩
abbrev S8x8x64x128 : Shape := ⟨4, ![8, 8, 64, 128]⟩
abbrev S8x8x1x64x128 : Shape := ⟨5, ![8, 8, 1, 64, 128]⟩
abbrev S8x1x1 : Shape := ⟨3, ![8, 1, 1]⟩
abbrev S1x64x64 : Shape := ⟨3, ![1, 64, 64]⟩
abbrev S8x64x64 : Shape := ⟨3, ![8, 64, 64]⟩
abbrev S8x8x1x64x64 : Shape := ⟨5, ![8, 8, 1, 64, 64]⟩
abbrev S1x8x1x64x64 : Shape := ⟨5, ![1, 8, 1, 64, 64]⟩
abbrev S8x1 : Shape := ⟨2, ![8, 1]⟩
abbrev S8x64 : Shape := ⟨2, ![8, 64]⟩
abbrev S1x8x64x1 : Shape := ⟨4, ![1, 8, 64, 1]⟩
abbrev S1x8x1x1 : Shape := ⟨4, ![1, 8, 1, 1]⟩
abbrev S1x8x8x64x128 : Shape := ⟨5, ![1, 8, 8, 64, 128]⟩
abbrev S1x8x8x64x64 : Shape := ⟨5, ![1, 8, 8, 64, 64]⟩
abbrev S8x8x64x64 : Shape := ⟨4, ![8, 8, 64, 64]⟩
abbrev S8x64x8 : Shape := ⟨3, ![8, 64, 8]⟩
abbrev S8x64x8x1 : Shape := ⟨4, ![8, 64, 8, 1]⟩
abbrev S1x1x8x128 : Shape := ⟨4, ![1, 1, 8, 128]⟩

abbrev nBuf : Space → Nat
  | .hbm => 258
  | .vmem => 0
  | .smem => 0
  | _ => 0

abbrev hbmTy0_0 (i : Nat) : BufTy := match i % 128 with
  | 0 => ⟨S8x64x18432, .f32⟩
  | 1 => ⟨S8x128, .f32⟩
  | 2 => ⟨S2x8x8x128x128, .f32⟩
  | 3 => ⟨S2x8x8x128x128, .f32⟩
  | 4 => ⟨S64, .i32⟩
  | 5 => ⟨S_, .i32⟩
  | 6 => ⟨S64, .i32⟩
  | 7 => ⟨S64, .i32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S8, .f32⟩
  | 17 => ⟨S8, .f32⟩
  | 18 => ⟨S8x64x1024, .f32⟩
  | 19 => ⟨S8x64x8x128, .f32⟩
  | 20 => ⟨S64, .f32⟩
  | 21 => ⟨S64, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S64, .f32⟩
  | 29 => ⟨S64x1, .f32⟩
  | 30 => ⟨S1x64, .f32⟩
  | 31 => ⟨S64x64, .f32⟩
  | 32 => ⟨S64x64, .f32⟩
  | 33 => ⟨S64x64, .f32⟩
  | 34 => ⟨S64x64, .f32⟩
  | 35 => ⟨S1x64x1x64, .f32⟩
  | 36 => ⟨S64x64, .f32⟩
  | 37 => ⟨S1x64x1x64, .f32⟩
  | 38 => ⟨S8x64x8x64, .f32⟩
  | 39 => ⟨S8x64x8x64, .f32⟩
  | 40 => ⟨S8x64x8x64, .f32⟩
  | 41 => ⟨S8x64x8x64, .f32⟩
  | 42 => ⟨S8x64x8x64, .f32⟩
  | 43 => ⟨S8x64x8x64, .f32⟩
  | 44 => ⟨S8x64x8x64, .f32⟩
  | 45 => ⟨S8x64x8x64, .f32⟩
  | 46 => ⟨S8x64x8x64, .f32⟩
  | 47 => ⟨S8x64x8x64, .f32⟩
  | 48 => ⟨S8x64x8x64, .f32⟩
  | 49 => ⟨S8x64x8x64, .f32⟩
  | 50 => ⟨S8x64x8x128, .f32⟩
  | 51 => ⟨S8x64x1024, .f32⟩
  | 52 => ⟨S8x64x8x128, .f32⟩
  | 53 => ⟨S64, .f32⟩
  | 54 => ⟨S64, .f32⟩
  | 55 => ⟨S_, .f32⟩
  | 56 => ⟨S64, .f32⟩
  | 57 => ⟨S64, .f32⟩
  | 58 => ⟨S_, .f32⟩
  | 59 => ⟨S64, .f32⟩
  | 60 => ⟨S64, .f32⟩
  | 61 => ⟨S64, .f32⟩
  | 62 => ⟨S64x1, .f32⟩
  | 63 => ⟨S1x64, .f32⟩
  | 64 => ⟨S64x64, .f32⟩
  | 65 => ⟨S64x64, .f32⟩
  | 66 => ⟨S64x64, .f32⟩
  | 67 => ⟨S64x64, .f32⟩
  | 68 => ⟨S1x64x1x64, .f32⟩
  | 69 => ⟨S64x64, .f32⟩
  | 70 => ⟨S1x64x1x64, .f32⟩
  | 71 => ⟨S8x64x8x64, .f32⟩
  | 72 => ⟨S8x64x8x64, .f32⟩
  | 73 => ⟨S8x64x8x64, .f32⟩
  | 74 => ⟨S8x64x8x64, .f32⟩
  | 75 => ⟨S8x64x8x64, .f32⟩
  | 76 => ⟨S8x64x8x64, .f32⟩
  | 77 => ⟨S8x64x8x64, .f32⟩
  | 78 => ⟨S8x64x8x64, .f32⟩
  | 79 => ⟨S8x64x8x64, .f32⟩
  | 80 => ⟨S8x64x8x64, .f32⟩
  | 81 => ⟨S8x64x8x64, .f32⟩
  | 82 => ⟨S8x64x8x64, .f32⟩
  | 83 => ⟨S8x64x8x128, .f32⟩
  | 84 => ⟨S_, .f32⟩
  | 85 => ⟨S8x64x8x128, .f32⟩
  | 86 => ⟨S8x64x8x128, .f32⟩
  | 87 => ⟨S8x64x1024, .f32⟩
  | 88 => ⟨S8x64x8x128, .f32⟩
  | 89 => ⟨S1x8x8x128x128, .f32⟩
  | 90 => ⟨S8x8x128x128, .f32⟩
  | 91 => ⟨S8x8x64x128, .f32⟩
  | 92 => ⟨S8x8x1x64x128, .f32⟩
  | 93 => ⟨S8x8x64x128, .f32⟩
  | 94 => ⟨S8x8x1x64x128, .f32⟩
  | 95 => ⟨S8x8x64x128, .f32⟩
  | 96 => ⟨S8x8x1x64x128, .f32⟩
  | 97 => ⟨S64, .f32⟩
  | 98 => ⟨S64x1, .f32⟩
  | 99 => ⟨S1x64, .f32⟩
  | 100 => ⟨S64x64, .f32⟩
  | 101 => ⟨S64x64, .f32⟩
  | 102 => ⟨S64x64, .f32⟩
  | 103 => ⟨S8x1x1, .f32⟩
  | 104 => ⟨S_, .f32⟩
  | 105 => ⟨S64x64, .f32⟩
  | 106 => ⟨S64x64, .i1⟩
  | 107 => ⟨S_, .f32⟩
  | 108 => ⟨S64x64, .f32⟩
  | 109 => ⟨S64x64, .f32⟩
  | 110 => ⟨S1x64x64, .f32⟩
  | 111 => ⟨S8x64x64, .f32⟩
  | 112 => ⟨S8x64x64, .f32⟩
  | 113 => ⟨S8x64x64, .f32⟩
  | 114 => ⟨S8x64x64, .f32⟩
  | 115 => ⟨S_, .f32⟩
  | 116 => ⟨S_, .f32⟩
  | 117 => ⟨S8x64x64, .i1⟩
  | 118 => ⟨S8x64x64, .f32⟩
  | 119 => ⟨S8x64x64, .f32⟩
  | 120 => ⟨S8x8x1x64x64, .f32⟩
  | 121 => ⟨S1x8x1x64x64, .f32⟩
  | 122 => ⟨S8x8x1x64x64, .f32⟩
  | 123 => ⟨S8x8x1x64x64, .f32⟩
  | 124 => ⟨S8x1, .f32⟩
  | 125 => ⟨S_, .f32⟩
  | 126 => ⟨S64, .f32⟩
  | 127 => ⟨S64, .f32⟩
  | _ => ⟨S8x64x18432, .f32⟩

abbrev hbmTy0_1 (i : Nat) : BufTy := match i % 128 with
  | 0 => ⟨S1x64, .f32⟩
  | 1 => ⟨S8x64, .f32⟩
  | 2 => ⟨S8x64, .f32⟩
  | 3 => ⟨S8x64, .f32⟩
  | 4 => ⟨S8x64, .f32⟩
  | 5 => ⟨S1x8x64x1, .f32⟩
  | 6 => ⟨S8x1, .f32⟩
  | 7 => ⟨S_, .f32⟩
  | 8 => ⟨S64, .f32⟩
  | 9 => ⟨S64, .f32⟩
  | 10 => ⟨S1x64, .f32⟩
  | 11 => ⟨S8x64, .f32⟩
  | 12 => ⟨S8x64, .f32⟩
  | 13 => ⟨S8x64, .f32⟩
  | 14 => ⟨S8x64, .f32⟩
  | 15 => ⟨S1x8x64x1, .f32⟩
  | 16 => ⟨S_, .f32⟩
  | 17 => ⟨S8, .f32⟩
  | 18 => ⟨S8, .f32⟩
  | 19 => ⟨S8, .f32⟩
  | 20 => ⟨S1x8x1x1, .f32⟩
  | 21 => ⟨S1x8x8x64x128, .f32⟩
  | 22 => ⟨S1x8x8x64x128, .f32⟩
  | 23 => ⟨S1x8x8x64x128, .f32⟩
  | 24 => ⟨S1x8x8x64x64, .f32⟩
  | 25 => ⟨S_, .f32⟩
  | 26 => ⟨S1x8x8x64x128, .f32⟩
  | 27 => ⟨S_, .i32⟩
  | 28 => ⟨S1x8x8x64x128, .f32⟩
  | 29 => ⟨S1x8x8x64x128, .f32⟩
  | 30 => ⟨S1x8x8x64x128, .f32⟩
  | 31 => ⟨S1x8x8x64x64, .f32⟩
  | 32 => ⟨S1x8x64x1, .f32⟩
  | 33 => ⟨S1x8x1x1, .f32⟩
  | 34 => ⟨S1x8x64x1, .f32⟩
  | 35 => ⟨S_, .i32⟩
  | 36 => ⟨S8x8x128x128, .f32⟩
  | 37 => ⟨S1x8x8x64x128, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S1x8x8x64x128, .f32⟩
  | 45 => ⟨S8x8x64x128, .f32⟩
  | 46 => ⟨S_, .i32⟩
  | 47 => ⟨S_, .i32⟩
  | 48 => ⟨S_, .i32⟩
  | 49 => ⟨S_, .i32⟩
  | 50 => ⟨S1x8x8x64x128, .f32⟩
  | 51 => ⟨S8x8x64x128, .f32⟩
  | 52 => ⟨S_, .i32⟩
  | 53 => ⟨S_, .i32⟩
  | 54 => ⟨S_, .i32⟩
  | 55 => ⟨S_, .i32⟩
  | 56 => ⟨S1x8x8x64x128, .f32⟩
  | 57 => ⟨S8x8x64x128, .f32⟩
  | 58 => ⟨S_, .i32⟩
  | 59 => ⟨S_, .i32⟩
  | 60 => ⟨S_, .i32⟩
  | 61 => ⟨S_, .i32⟩
  | 62 => ⟨S1x8x8x64x64, .f32⟩
  | 63 => ⟨S8x8x64x64, .f32⟩
  | 64 => ⟨S8x8x64x128, .f32⟩
  | 65 => ⟨S8x8x64x128, .f32⟩
  | 66 => ⟨S8x8x64x128, .f32⟩
  | 67 => ⟨S8x8x64x128, .f32⟩
  | 68 => ⟨S8x8x64x128, .f32⟩
  | 69 => ⟨S8x8x128x128, .f32⟩
  | 70 => ⟨S8x8x128x128, .f32⟩
  | 71 => ⟨S8x8x64x128, .f32⟩
  | 72 => ⟨S8x8x64x128, .f32⟩
  | 73 => ⟨S8x8x128x128, .f32⟩
  | 74 => ⟨S8x8x128x128, .f32⟩
  | 75 => ⟨S1x8x8x64x128, .f32⟩
  | 76 => ⟨S_, .i32⟩
  | 77 => ⟨S_, .i32⟩
  | 78 => ⟨S_, .i32⟩
  | 79 => ⟨S_, .i32⟩
  | 80 => ⟨S1x8x8x64x128, .f32⟩
  | 81 => ⟨S_, .i32⟩
  | 82 => ⟨S_, .i32⟩
  | 83 => ⟨S8x8x1x64x128, .f32⟩
  | 84 => ⟨S8x8x64x128, .f32⟩
  | 85 => ⟨S8x64x8x128, .f32⟩
  | 86 => ⟨S_, .f32⟩
  | 87 => ⟨S8x64x8, .f32⟩
  | 88 => ⟨S8x64x8x1, .f32⟩
  | 89 => ⟨S_, .f32⟩
  | 90 => ⟨S8x64x8x1, .f32⟩
  | 91 => ⟨S8x64x8x1, .f32⟩
  | 92 => ⟨S8x64x8x128, .f32⟩
  | 93 => ⟨S8x64x8x128, .f32⟩
  | 94 => ⟨S8x64x8x128, .f32⟩
  | 95 => ⟨S_, .f32⟩
  | 96 => ⟨S8x64x8, .f32⟩
  | 97 => ⟨S8x64x8x1, .f32⟩
  | 98 => ⟨S_, .f32⟩
  | 99 => ⟨S8x64x8x1, .f32⟩
  | 100 => ⟨S8x64x8x1, .f32⟩
  | 101 => ⟨S8x64x8x128, .f32⟩
  | 102 => ⟨S8x64x8x128, .f32⟩
  | 103 => ⟨S_, .f32⟩
  | 104 => ⟨S8x64x8x1, .f32⟩
  | 105 => ⟨S8x64x8x1, .f32⟩
  | 106 => ⟨S8x64x8x1, .f32⟩
  | 107 => ⟨S8x64x8x128, .f32⟩
  | 108 => ⟨S8x64x8x128, .f32⟩
  | 109 => ⟨S1x1x8x128, .f32⟩
  | 110 => ⟨S8x64x8x128, .f32⟩
  | 111 => ⟨S8x64x8x128, .f32⟩
  | 112 => ⟨S8x64x1024, .f32⟩
  | 113 => ⟨S8x64x1024, .f32⟩
  | 114 => ⟨S8x64x1024, .f32⟩
  | 115 => ⟨S8x64x1024, .f32⟩
  | 116 => ⟨S_, .f32⟩
  | 117 => ⟨S8x64x1024, .f32⟩
  | 118 => ⟨S8x64x1024, .f32⟩
  | 119 => ⟨S_, .f32⟩
  | 120 => ⟨S8x64x1024, .f32⟩
  | 121 => ⟨S8x64x1024, .f32⟩
  | 122 => ⟨S8x64x1024, .f32⟩
  | 123 => ⟨S8x64x1024, .f32⟩
  | 124 => ⟨S8x64x1024, .bf16⟩
  | 125 => ⟨S1x8x8x128x128, .f32⟩
  | 126 => ⟨S8x8x128x128, .f32⟩
  | 127 => ⟨S1x8x8x128x128, .f32⟩
  | _ => ⟨S8x64x18432, .f32⟩

abbrev hbmTy0_2 (i : Nat) : BufTy := match i % 128 with
  | 0 => ⟨S1x8x8x128x128, .f32⟩
  | 1 => ⟨S2x8x8x128x128, .f32⟩
  | _ => ⟨S8x64x18432, .f32⟩

abbrev hbmTy (i : Nat) : BufTy := match i / 128 with
  | 0 => hbmTy0_0 i
  | 1 => hbmTy0_1 i
  | 2 => hbmTy0_2 i
  | _ => ⟨S8x64x18432, .f32⟩

abbrev bufTy : (tb : Table) → Fin (tcTables nBuf tb) → BufTy
  | .hbm, ⟨i, _⟩ => hbmTy i
  | _, _ => ⟨S8x64x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_cst_4 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_5 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_6 : Ref sig .tc := ⟨.hbm, 104, rfl⟩
abbrev main_v92 : Ref sig .tc := ⟨.hbm, 105, rfl⟩
abbrev main_v93 : Ref sig .tc := ⟨.hbm, 106, rfl⟩
abbrev main_cst_7 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_cst_8 : Ref sig .tc := ⟨.hbm, 115, rfl⟩
abbrev main_call0_v0 : Ref sig .tc := ⟨.hbm, 116, rfl⟩
abbrev main_call0_v1 : Ref sig .tc := ⟨.hbm, 117, rfl⟩
abbrev main_call0_v2 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_9 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_cst_10 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_11 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_cst_12 : Ref sig .tc := ⟨.hbm, 153, rfl⟩
abbrev main_v132 : Ref sig .tc := ⟨.hbm, 154, rfl⟩
abbrev main_c_13 : Ref sig .tc := ⟨.hbm, 155, rfl⟩
abbrev main_v133_0 : Ref sig .tc := ⟨.hbm, 156, rfl⟩
abbrev main_v133_1 : Ref sig .tc := ⟨.hbm, 157, rfl⟩
abbrev main_v133_2 : Ref sig .tc := ⟨.hbm, 158, rfl⟩
abbrev main_v133_3 : Ref sig .tc := ⟨.hbm, 159, rfl⟩
abbrev main_v133_4 : Ref sig .tc := ⟨.hbm, 160, rfl⟩
abbrev main_v133_5 : Ref sig .tc := ⟨.hbm, 161, rfl⟩
abbrev main_v133_6 : Ref sig .tc := ⟨.hbm, 162, rfl⟩
abbrev main_v133_7 : Ref sig .tc := ⟨.hbm, 163, rfl⟩
abbrev main_v133_8 : Ref sig .tc := ⟨.hbm, 164, rfl⟩
abbrev main_v133_9 : Ref sig .tc := ⟨.hbm, 165, rfl⟩
abbrev main_while0c_c_28 : Ref sig .tc := ⟨.hbm, 166, rfl⟩
abbrev main_while0c_v168 : Ref sig .tc := ⟨.hbm, 167, rfl⟩
abbrev main_while0b_call1_c : Ref sig .tc := ⟨.hbm, 168, rfl⟩
abbrev main_while0b_call1_c_0 : Ref sig .tc := ⟨.hbm, 169, rfl⟩
abbrev main_while0b_call1_c_1 : Ref sig .tc := ⟨.hbm, 170, rfl⟩
abbrev main_while0b_call1_c_2 : Ref sig .tc := ⟨.hbm, 171, rfl⟩
abbrev main_while0b_call1_v0 : Ref sig .tc := ⟨.hbm, 172, rfl⟩
abbrev main_while0b_v168 : Ref sig .tc := ⟨.hbm, 173, rfl⟩
abbrev main_while0b_call2_c : Ref sig .tc := ⟨.hbm, 174, rfl⟩
abbrev main_while0b_call2_c_0 : Ref sig .tc := ⟨.hbm, 175, rfl⟩
abbrev main_while0b_call2_c_1 : Ref sig .tc := ⟨.hbm, 176, rfl⟩
abbrev main_while0b_call2_c_2 : Ref sig .tc := ⟨.hbm, 177, rfl⟩
abbrev main_while0b_call2_v0 : Ref sig .tc := ⟨.hbm, 178, rfl⟩
abbrev main_while0b_v169 : Ref sig .tc := ⟨.hbm, 179, rfl⟩
abbrev main_while0b_call3_c : Ref sig .tc := ⟨.hbm, 180, rfl⟩
abbrev main_while0b_call3_c_0 : Ref sig .tc := ⟨.hbm, 181, rfl⟩
abbrev main_while0b_call3_c_1 : Ref sig .tc := ⟨.hbm, 182, rfl⟩
abbrev main_while0b_call3_c_2 : Ref sig .tc := ⟨.hbm, 183, rfl⟩
abbrev main_while0b_call3_v0 : Ref sig .tc := ⟨.hbm, 184, rfl⟩
abbrev main_while0b_v170 : Ref sig .tc := ⟨.hbm, 185, rfl⟩
abbrev main_while0b_call4_c : Ref sig .tc := ⟨.hbm, 186, rfl⟩
abbrev main_while0b_call4_c_0 : Ref sig .tc := ⟨.hbm, 187, rfl⟩
abbrev main_while0b_call4_c_1 : Ref sig .tc := ⟨.hbm, 188, rfl⟩
abbrev main_while0b_call4_c_2 : Ref sig .tc := ⟨.hbm, 189, rfl⟩
abbrev main_while0b_call4_v0 : Ref sig .tc := ⟨.hbm, 190, rfl⟩
abbrev main_while0b_v171 : Ref sig .tc := ⟨.hbm, 191, rfl⟩
abbrev main_while0b_v172 : Ref sig .tc := ⟨.hbm, 192, rfl⟩
abbrev main_while0b_v173 : Ref sig .tc := ⟨.hbm, 193, rfl⟩
abbrev main_while0b_v174 : Ref sig .tc := ⟨.hbm, 194, rfl⟩
abbrev main_while0b_v175 : Ref sig .tc := ⟨.hbm, 195, rfl⟩
abbrev main_while0b_v176 : Ref sig .tc := ⟨.hbm, 196, rfl⟩
abbrev main_while0b_v177 : Ref sig .tc := ⟨.hbm, 197, rfl⟩
abbrev main_while0b_v178 : Ref sig .tc := ⟨.hbm, 198, rfl⟩
abbrev main_while0b_v179 : Ref sig .tc := ⟨.hbm, 199, rfl⟩
abbrev main_while0b_v180 : Ref sig .tc := ⟨.hbm, 200, rfl⟩
abbrev main_while0b_v181 : Ref sig .tc := ⟨.hbm, 201, rfl⟩
abbrev main_while0b_v182 : Ref sig .tc := ⟨.hbm, 202, rfl⟩
abbrev main_while0b_call5_v0 : Ref sig .tc := ⟨.hbm, 203, rfl⟩
abbrev main_while0b_call5_c : Ref sig .tc := ⟨.hbm, 204, rfl⟩
abbrev main_while0b_call5_c_0 : Ref sig .tc := ⟨.hbm, 205, rfl⟩
abbrev main_while0b_call5_c_1 : Ref sig .tc := ⟨.hbm, 206, rfl⟩
abbrev main_while0b_call5_c_2 : Ref sig .tc := ⟨.hbm, 207, rfl⟩
abbrev main_while0b_v183 : Ref sig .tc := ⟨.hbm, 208, rfl⟩
abbrev main_while0b_c_28 : Ref sig .tc := ⟨.hbm, 209, rfl⟩
abbrev main_while0b_v184 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_cst_14 : Ref sig .tc := ⟨.hbm, 214, rfl⟩
abbrev main_v137 : Ref sig .tc := ⟨.hbm, 215, rfl⟩
abbrev main_v138 : Ref sig .tc := ⟨.hbm, 216, rfl⟩
abbrev main_cst_15 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_cst_16 : Ref sig .tc := ⟨.hbm, 223, rfl⟩
abbrev main_v144 : Ref sig .tc := ⟨.hbm, 224, rfl⟩
abbrev main_v145 : Ref sig .tc := ⟨.hbm, 225, rfl⟩
abbrev main_cst_17 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_cst_18 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_call6_v0 : Ref sig .tc := ⟨.hbm, 242, rfl⟩
abbrev main_call6_v1 : Ref sig .tc := ⟨.hbm, 243, rfl⟩
abbrev main_call6_cst : Ref sig .tc := ⟨.hbm, 244, rfl⟩
abbrev main_call6_v2 : Ref sig .tc := ⟨.hbm, 245, rfl⟩
abbrev main_call6_v3 : Ref sig .tc := ⟨.hbm, 246, rfl⟩
abbrev main_call6_cst_0 : Ref sig .tc := ⟨.hbm, 247, rfl⟩
abbrev main_call6_v4 : Ref sig .tc := ⟨.hbm, 248, rfl⟩
abbrev main_call6_v5 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩

abbrev nD : Nat := 1
abbrev τ : Topo := Topo.v7x

variable {F : FTy → Type} [FloatOps F]

abbrev main_while0_count : Scf.Loop 32 := ⟨0#32, 1#32, 1#32⟩
-- ==== Kernel8.lean ====
abbrev S8x64x18432 : Shape := ⟨3, ![8, 64, 18432]⟩
abbrev S8x64x128 : Shape := ⟨3, ![8, 64, 128]⟩
abbrev S4x3072 : Shape := ⟨2, ![4, 3072]⟩
abbrev S8 : Shape := ⟨1, ![8]⟩
abbrev S128 : Shape := ⟨1, ![128]⟩
abbrev S2x8x3x3072 : Shape := ⟨4, ![2, 8, 3, 3072]⟩
abbrev S2x8x8x128x128 : Shape := ⟨5, ![2, 8, 8, 128, 128]⟩
abbrev S2x8x8x3072 : Shape := ⟨4, ![2, 8, 8, 3072]⟩
abbrev S1x8x3x3072 : Shape := ⟨4, ![1, 8, 3, 3072]⟩
abbrev S8x3x3072 : Shape := ⟨3, ![8, 3, 3072]⟩
abbrev S_ : Shape := ⟨0, ![]⟩
abbrev S8x8x3072 : Shape := ⟨3, ![8, 8, 3072]⟩
abbrev S1x128 : Shape := ⟨2, ![1, 128]⟩
abbrev S1 : Shape := ⟨1, ![1]⟩
abbrev S2 : Shape := ⟨1, ![2]⟩
abbrev S1x8x8x128x128 : Shape := ⟨5, ![1, 8, 8, 128, 128]⟩
abbrev S8x8x128x128 : Shape := ⟨4, ![8, 8, 128, 128]⟩
abbrev S8x64x1024 : Shape := ⟨3, ![8, 64, 1024]⟩
abbrev S1x64x1024 : Shape := ⟨3, ![1, 64, 1024]⟩
abbrev S1x64x128 : Shape := ⟨3, ![1, 64, 128]⟩
abbrev S1x8x3072 : Shape := ⟨3, ![1, 8, 3072]⟩
abbrev S1x8x128x128 : Shape := ⟨4, ![1, 8, 128, 128]⟩
abbrev S1x1x8x128x128 : Shape := ⟨5, ![1, 1, 8, 128, 128]⟩
abbrev S1x1x8x3072 : Shape := ⟨4, ![1, 1, 8, 3072]⟩
abbrev S3x8x72x128 : Shape := ⟨4, ![3, 8, 72, 128]⟩
abbrev S8x128x128 : Shape := ⟨3, ![8, 128, 128]⟩
abbrev S1x8x128 : Shape := ⟨3, ![1, 8, 128]⟩
abbrev S8x128 : Shape := ⟨2, ![8, 128]⟩
abbrev S1x1x8x128 : Shape := ⟨4, ![1, 1, 8, 128]⟩
abbrev S3x8x8x128 : Shape := ⟨4, ![3, 8, 8, 128]⟩
abbrev S64x128 : Shape := ⟨2, ![64, 128]⟩
abbrev S1x1x64x128 : Shape := ⟨4, ![1, 1, 64, 128]⟩
abbrev S64x64 : Shape := ⟨2, ![64, 64]⟩
abbrev S128x64 : Shape := ⟨2, ![128, 64]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S64x256 : Shape := ⟨2, ![64, 256]⟩
abbrev S128x256 : Shape := ⟨2, ![128, 256]⟩
abbrev S128x128 : Shape := ⟨2, ![128, 128]⟩
abbrev S1x128x128 : Shape := ⟨3, ![1, 128, 128]⟩

abbrev nBuf : Space → Nat
  | .hbm => 37
  | .vmem => 26
  | .smem => 0
  | _ => 0

abbrev bufTy : (tb : Table) → Fin (tcTables nBuf tb) → BufTy
  | .hbm, ⟨0, _⟩ => ⟨S8x64x18432, .f32⟩
  | .hbm, ⟨1, _⟩ => ⟨S8x64x128, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S128, .f32⟩
  | .hbm, ⟨6, _⟩ => ⟨S2x8x3x3072, .f32⟩
  | .hbm, ⟨7, _⟩ => ⟨S2x8x8x128x128, .f32⟩
  | .hbm, ⟨8, _⟩ => ⟨S2x8x8x128x128, .f32⟩
  | .hbm, ⟨9, _⟩ => ⟨S2x8x8x3072, .f32⟩
  | .hbm, ⟨10, _⟩ => ⟨S1x8x3x3072, .f32⟩
  | .hbm, ⟨11, _⟩ => ⟨S8x3x3072, .f32⟩
  | .hbm, ⟨12, _⟩ => ⟨S_, .i32⟩
  | .hbm, ⟨13, _⟩ => ⟨S_, .f32⟩
  | .hbm, ⟨14, _⟩ => ⟨S8x8x3072, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S1x128, .f32⟩
  | .hbm, ⟨32, _⟩ => ⟨S1x8x8x128x128, .f32⟩
  | .hbm, ⟨33, _⟩ => ⟨S8x8x128x128, .f32⟩
  | .hbm, ⟨34, _⟩ => ⟨S8x64x1024, .bf16⟩
  | .hbm, ⟨35, _⟩ => ⟨S2x8x8x128x128, .f32⟩
  | .hbm, ⟨36, _⟩ => ⟨S2x8x8x3072, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x128, .f32⟩
  | .local _ .vmem, ⟨9, _⟩ => ⟨S1x64x128, .f32⟩
  | .local _ .vmem, ⟨10, _⟩ => ⟨S4x3072, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x8x3072, .f32⟩
  | .local _ .vmem, ⟨15, _⟩ => ⟨S1x8x3072, .f32⟩
  | .local _ .vmem, ⟨16, _⟩ => ⟨S1x8x128x128, .f32⟩
  | .local _ .vmem, ⟨17, _⟩ => ⟨S1x8x128x128, .f32⟩
  | .local _ .vmem, ⟨18, _⟩ => ⟨S1x64x1024, .bf16⟩
  | .local _ .vmem, ⟨19, _⟩ => ⟨S1x64x1024, .bf16⟩
  | .local _ .vmem, ⟨20, _⟩ => ⟨S1x1x8x128x128, .f32⟩
  | .local _ .vmem, ⟨21, _⟩ => ⟨S1x1x8x128x128, .f32⟩
  | .local _ .vmem, ⟨22, _⟩ => ⟨S1x1x8x3072, .f32⟩
  | .local _ .vmem, ⟨23, _⟩ => ⟨S1x1x8x3072, .f32⟩
  | .local _ .vmem, ⟨24, _⟩ => ⟨S3x8x72x128, .f32⟩
  | .local _ .vmem, ⟨25, _⟩ => ⟨S8x128x128, .f32⟩
  | _, _ => ⟨S8x64x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_c_3 : Ref sig .tc := ⟨.hbm, 25, rfl⟩
abbrev main_v9 : Ref sig .tc := ⟨.hbm, 26, rfl⟩
abbrev main_c_4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev main_v16_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_1106 : BitVec 32 := 0#32
  let v1955 : BitVec 1 := Scalar.cmpi .eq arg1 c0_i32_1106
  let v1956 : BitVec 32 := Scalar.extui v1955
  let c0_i32_1107 : BitVec 32 := 0#32
  let v1957 : BitVec 1 := Scalar.cmpi .ne v1956 c0_i32_1107
  v1957

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x8x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference8Ideal.lean ====
abbrev S8x64x18432 : Shape := ⟨3, ![8, 64, 18432]⟩
abbrev S8x64x128 : Shape := ⟨3, ![8, 64, 128]⟩
abbrev S4x3072 : Shape := ⟨2, ![4, 3072]⟩
abbrev S8 : Shape := ⟨1, ![8]⟩
abbrev S128 : Shape := ⟨1, ![128]⟩
abbrev S2x8x3x3072 : Shape := ⟨4, ![2, 8, 3, 3072]⟩
abbrev S2x8x8x128x128 : Shape := ⟨5, ![2, 8, 8, 128, 128]⟩
abbrev S2x8x8x3072 : Shape := ⟨4, ![2, 8, 8, 3072]⟩
abbrev S8x64x3072 : Shape := ⟨3, ![8, 64, 3072]⟩
abbrev S1x8x3x3072 : Shape := ⟨4, ![1, 8, 3, 3072]⟩
abbrev S8x3x3072 : Shape := ⟨3, ![8, 3, 3072]⟩
abbrev S8x67x3072 : Shape := ⟨3, ![8, 67, 3072]⟩
abbrev S1x8x8x3072 : Shape := ⟨4, ![1, 8, 8, 3072]⟩
abbrev S8x8x3072 : Shape := ⟨3, ![8, 8, 3072]⟩

abbrev nBuf : Space → Nat
  | .hbm => 20
  | .vmem => 0
  | .smem => 0
  | _ => 0

abbrev bufTy : (tb : Table) → Fin (tcTables nBuf tb) → BufTy
  | .hbm, ⟨0, _⟩ => ⟨S8x64x18432, .f32⟩
  | .hbm, ⟨1, _⟩ => ⟨S8x64x128, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S128, .f32⟩
  | .hbm, ⟨6, _⟩ => ⟨S2x8x3x3072, .f32⟩
  | .hbm, ⟨7, _⟩ => ⟨S2x8x8x128x128, .f32⟩
  | .hbm, ⟨8, _⟩ => ⟨S2x8x8x128x128, .f32⟩
  | .hbm, ⟨9, _⟩ => ⟨S2x8x8x3072, .f32⟩
  | .hbm, ⟨10, _⟩ => ⟨S8x64x3072, .f32⟩
  | .hbm, ⟨11, _⟩ => ⟨S1x8x3x3072, .f32⟩
  | .hbm, ⟨12, _⟩ => ⟨S8x3x3072, .f32⟩
  | .hbm, ⟨13, _⟩ => ⟨S8x67x3072, .f32⟩
  | .hbm, ⟨14, _⟩ => ⟨S1x8x8x3072, .f32⟩
  | .hbm, ⟨15, _⟩ => ⟨S8x8x3072, .f32⟩
  | .hbm, ⟨16, _⟩ => ⟨S8x8x3072, .f32⟩
  | .hbm, ⟨17, _⟩ => ⟨S1x8x8x3072, .f32⟩
  | .hbm, ⟨18, _⟩ => ⟨S1x8x8x3072, .f32⟩
  | .hbm, ⟨19, _⟩ => ⟨S2x8x8x3072, .f32⟩
  | _, _ => ⟨S8x64x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel9.lean ====
abbrev S4x4096x18432 : Shape := ⟨3, ![4, 4096, 18432]⟩
abbrev S4x4096x128 : Shape := ⟨3, ![4, 4096, 128]⟩
abbrev S4x3072 : Shape := ⟨2, ![4, 3072]⟩
abbrev S8 : Shape := ⟨1, ![8]⟩
abbrev S128 : Shape := ⟨1, ![128]⟩
abbrev S2x4x8x128x128 : Shape := ⟨5, ![2, 4, 8, 128, 128]⟩
abbrev S2x4x8x3072 : Shape := ⟨4, ![2, 4, 8, 3072]⟩
abbrev S_ : Shape := ⟨0, ![]⟩
abbrev S1x128 : Shape := ⟨2, ![1, 128]⟩
abbrev S1 : Shape := ⟨1, ![1]⟩
abbrev S2 : Shape := ⟨1, ![2]⟩
abbrev S4x4096x1024 : Shape := ⟨3, ![4, 4096, 1024]⟩
abbrev S1x256x1024 : Shape := ⟨3, ![1, 256, 1024]⟩
abbrev S1x256x128 : Shape := ⟨3, ![1, 256, 128]⟩
abbrev S1x1x8x128x128 : Shape := ⟨5, ![1, 1, 8, 128, 128]⟩
abbrev S1x1x8x3072 : Shape := ⟨4, ![1, 1, 8, 3072]⟩
abbrev S3x8x264x128 : Shape := ⟨4, ![3, 8, 264, 128]⟩
abbrev S8x128x128 : Shape := ⟨3, ![8, 128, 128]⟩
abbrev S3x8x8x128 : Shape := ⟨4, ![3, 8, 8, 128]⟩
abbrev S256x128 : Shape := ⟨2, ![256, 128]⟩
abbrev S1x1x256x128 : Shape := ⟨4, ![1, 1, 256, 128]⟩
abbrev S64x64 : Shape := ⟨2, ![64, 64]⟩
abbrev S1x64x128 : Shape := ⟨3, ![1, 64, 128]⟩
abbrev S64x128 : Shape := ⟨2, ![64, 128]⟩
abbrev S128x64 : Shape := ⟨2, ![128, 64]⟩
abbrev S1x1x64x128 : Shape := ⟨4, ![1, 1, 64, 128]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S64x256 : Shape := ⟨2, ![64, 256]⟩
abbrev S128x256 : Shape := ⟨2, ![128, 256]⟩
abbrev S128x128 : Shape := ⟨2, ![128, 128]⟩
abbrev S1x128x128 : Shape := ⟨3, ![1, 128, 128]⟩
abbrev S1x1x8x128 : Shape := ⟨4, ![1, 1, 8, 128]⟩
abbrev S8x128 : Shape := ⟨2, ![8, 128]⟩

abbrev nBuf : Space → Nat
  | .hbm => 28
  | .vmem => 22
  | .smem => 0
  | _ => 0

abbrev bufTy : (tb : Table) → Fin (tcTables nBuf tb) → BufTy
  | .hbm, ⟨0, _⟩ => ⟨S4x4096x18432, .f32⟩
  | .hbm, ⟨1, _⟩ => ⟨S4x4096x128, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S128, .f32⟩
  | .hbm, ⟨6, _⟩ => ⟨S2x4x8x128x128, .f32⟩
  | .hbm, ⟨7, _⟩ => ⟨S2x4x8x3072, .f32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S1x128, .f32⟩
  | .hbm, ⟨24, _⟩ => ⟨S1x128, .f32⟩
  | .hbm, ⟨25, _⟩ => ⟨S4x4096x1024, .bf16⟩
  | .hbm, ⟨26, _⟩ => ⟨S2x4x8x128x128, .f32⟩
  | .hbm, ⟨27, _⟩ => ⟨S2x4x8x3072, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x128, .f32⟩
  | .local _ .vmem, ⟨9, _⟩ => ⟨S1x256x128, .f32⟩
  | .local _ .vmem, ⟨10, _⟩ => ⟨S4x3072, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x256x1024, .bf16⟩
  | .local _ .vmem, ⟨15, _⟩ => ⟨S1x256x1024, .bf16⟩
  | .local _ .vmem, ⟨16, _⟩ => ⟨S1x1x8x128x128, .f32⟩
  | .local _ .vmem, ⟨17, _⟩ => ⟨S1x1x8x128x128, .f32⟩
  | .local _ .vmem, ⟨18, _⟩ => ⟨S1x1x8x3072, .f32⟩
  | .local _ .vmem, ⟨19, _⟩ => ⟨S1x1x8x3072, .f32⟩
  | .local _ .vmem, ⟨20, _⟩ => ⟨S3x8x264x128, .f32⟩
  | .local _ .vmem, ⟨21, _⟩ => ⟨S8x128x128, .f32⟩
  | _, _ => ⟨S4x4096x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_c_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v7181 : BitVec 1 := Scalar.cmpi .eq arg1 c15_i32
  let v7182 : BitVec 32 := Scalar.extui v7181
  let c0_i32_3813 : BitVec 32 := 0#32
  let v7183 : BitVec 1 := Scalar.cmpi .ne v7182 c0_i32_3813
  v7183

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x8x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference9Ideal.lean ====
abbrev S4x4096x18432 : Shape := ⟨3, ![4, 4096, 18432]⟩
abbrev S4x4096x128 : Shape := ⟨3, ![4, 4096, 128]⟩
abbrev S4x3072 : Shape := ⟨2, ![4, 3072]⟩
abbrev S8 : Shape := ⟨1, ![8]⟩
abbrev S128 : Shape := ⟨1, ![128]⟩
abbrev S2x4x8x128x128 : Shape := ⟨5, ![2, 4, 8, 128, 128]⟩
abbrev S2x4x8x3072 : Shape := ⟨4, ![2, 4, 8, 3072]⟩
abbrev S4x4096x3072 : Shape := ⟨3, ![4, 4096, 3072]⟩
abbrev S_ : Shape := ⟨0, ![]⟩
abbrev S4x3x3072 : Shape := ⟨3, ![4, 3, 3072]⟩
abbrev S4x4099x3072 : Shape := ⟨3, ![4, 4099, 3072]⟩
abbrev S1x4x8x3072 : Shape := ⟨4, ![1, 4, 8, 3072]⟩
abbrev S4x8x3072 : Shape := ⟨3, ![4, 8, 3072]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x18432, .f32⟩
  | .hbm, ⟨1, _⟩ => ⟨S4x4096x128, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S128, .f32⟩
  | .hbm, ⟨6, _⟩ => ⟨S2x4x8x128x128, .f32⟩
  | .hbm, ⟨7, _⟩ => ⟨S2x4x8x3072, .f32⟩
  | .hbm, ⟨8, _⟩ => ⟨S4x4096x3072, .f32⟩
  | .hbm, ⟨9, _⟩ => ⟨S_, .f32⟩
  | .hbm, ⟨10, _⟩ => ⟨S4x3x3072, .f32⟩
  | .hbm, ⟨11, _⟩ => ⟨S4x4099x3072, .f32⟩
  | .hbm, ⟨12, _⟩ => ⟨S1x4x8x3072, .f32⟩
  | .hbm, ⟨13, _⟩ => ⟨S4x8x3072, .f32⟩
  | .hbm, ⟨14, _⟩ => ⟨S4x8x3072, .f32⟩
  | .hbm, ⟨15, _⟩ => ⟨S1x4x8x3072, .f32⟩
  | .hbm, ⟨16, _⟩ => ⟨S1x4x8x3072, .f32⟩
  | .hbm, ⟨17, _⟩ => ⟨S2x4x8x3072, .f32⟩
  | _, _ => ⟨S4x4096x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== Proof.Ret.Pieces.lean ====
/-
  One point of the retention kernel, chunk by chunk: the operations on one chunk of one head as functions of what they
  load, and the fact that each branch of the body stores exactly these tiles.
-/
module

public import proofs.«01_k».proof.Proof.Gen.KernelIdeal.Value
public import Idealize.ShloMosaic.Lib.WholeRead

@[expose] public section

noncomputable section

namespace Cert.Proof.Ret

open Cert.KernelIdeal Cert.KernelIdeal.Gen Idealize.ShloMosaic Idealize.ShloMosaic.TcCoe Idealize.SL.Sem

variable {F : FTy → Type} [FloatOps F]

/-- The rotary product of one chunk of one head: the rows times cosine plus the half-rotated rows times signed sine. -/
def rotT (x : Vec F S1x64x128 .f32) (cs sn : Vec F S64x128 .f32) : FVec F S64x128 .f32 :=
  addf (mulf (shapeCast S64x128 x shapeCasts_S1x64x128_S64x128) (shapeCast S64x128 cs shapeCasts_S64x128_S64x128))
    (mulf (dynamicRotate 1 64#32 none (shapeCast S64x128 x shapeCasts_S1x64x128_S64x128) rotates_S64x128_d1)
      (shapeCast S64x128 sn shapeCasts_S64x128_S64x128))

/-- The scaled rotated keys. -/
def keyT (x : Vec F S1x64x128 .f32) (cs sn : Vec F S64x128 .f32) : FVec F S64x128 .f32 :=
  mulf (rotT x cs sn) (broadcast S64x128 (Scalar.ofBits .f32 0x3DB504F3#32))

/-- What the chunk adds to the state: decayed keys against values. -/
def kvT (k v : Vec F S1x64x128 .f32) (cs sn : Vec F S64x128 .f32) (zeta : Vec F S1x64x128 .f32) : FVec F S128x128 .f32 :=
  matmul dot_S64x128_S64x128_S128x128_0_0_1_1_n_n none
    (truncf .bf16 (mulf (keyT k cs sn) (shapeCast S64x128 zeta shapeCasts_S1x64x128_S64x128)) bitsLt_bf16_f32)
    (truncf .bf16 (shapeCast S64x128 v shapeCasts_S1x64x128_S64x128) bitsLt_bf16_f32)
    (constant S128x128 .f32 0x00000000#32)

/-- The state after the chunk: the state before, decayed, plus the chunk's share. -/
def stateT (S : FVec F S128x128 .f32) (g : Vec F S1x1x128 .f32) (kv : FVec F S128x128 .f32) : FVec F S128x128 .f32 :=
  addf (mulf S (broadcastTo S128x128 (shapeCast S1x128 g shapeCasts_S1x1x128_S1x128) broadcasts_S1x128_S128x128)) kv

/-- The chunk's rows before the norm: the product inside the chunk plus the queries against the state before it. -/
def rowsT (q k v : Vec F S1x64x128 .f32) (cs sn : Vec F S64x128 .f32) (dm : Vec F S1x64x64 .f32) (xi : Vec F S1x64x128 .f32)
    (S : FVec F S128x128 .f32) : FVec F S64x128 .f32 :=
  addf
    (matmul dot_S64x64_S64x128_S64x128_1_0_0_1_n_n none
      (truncf .bf16
        (mulf
          (matmul dot_S64x128_S64x128_S64x64_1_1_0_0_n_n none (truncf .bf16 (rotT q cs sn) bitsLt_bf16_f32)
            (truncf .bf16 (keyT k cs sn) bitsLt_bf16_f32) (constant S64x64 .f32 0x00000000#32))
          (shapeCast S64x64 dm shapeCasts_S1x64x64_S64x64)) bitsLt_bf16_f32)
      (truncf .bf16 (shapeCast S64x128 v shapeCasts_S1x64x128_S64x128) bitsLt_bf16_f32) (constant S64x128 .f32 0x00000000#32))
    (mulf
      (matmul dot_S64x128_S128x128_S64x128_1_0_0_1_n_n none (truncf .bf16 (rotT q cs sn) bitsLt_bf16_f32)
        (truncf .bf16 S bitsLt_bf16_f32) (constant S64x128 .f32 0x00000000#32))
      (shapeCast S64x128 xi shapeCasts_S1x64x128_S64x128))

/-- The rows less their mean. -/
def centredT (o : FVec F S64x128 .f32) : FVec F S64x128 .f32 :=
  subf o (broadcastTo S64x128
    (divf (shapeCast S64x1 (multiReduction .add [1] S64 o 0x00000000#32 reduces_S64x128_S64 (.inl rfl) rfl) shapeCasts_S64_S64x1)
      (broadcast S64x1 (Scalar.ofBits .f32 0x43000000#32))) broadcasts_S64x1_S64x128)

/-- The rows' variance. -/
def varT (d : FVec F S64x128 .f32) : FVec F S64x1 .f32 :=
  divf (shapeCast S64x1 (multiReduction .add [1] S64 (mulf d d) 0x00000000#32 reduces_S64x128_S64 (.inl rfl) rfl) shapeCasts_S64_S64x1)
    (broadcast S64x1 (Scalar.ofBits .f32 0x43000000#32))

/-- Norm and gate: the stored tile. -/
def tileT (o : FVec F S64x128 .f32) (rn : Vec F S1x128 .f32) (z : Vec F S1x64x128 .f32) : FVec F S1x64x128 .bf16 :=
  shapeCast S1x64x128
    (truncf .bf16
      (mulf
        (mulf
          (mulf (centredT o)
            (broadcastTo S64x128
              (rsqrt (addf (varT (centredT o)) (broadcast S64x1 (Scalar.ofBits .f32 0x358637BD#32)))) broadcasts_S64x1_S64x128))
          (broadcastTo S64x128 (shapeCast S1x128 rn shapeCasts_S1x128_S1x128) broadcasts_S1x128_S64x128))
        (mulf (shapeCast S64x128 z shapeCasts_S1x64x128_S64x128)
          (logistic (shapeCast S64x128 z shapeCasts_S1x64x128_S64x128)))) bitsLt_bf16_f32) shapeCasts_S64x128_S1x64x128

/-- What a point loads, by chunk and head. -/
structure Loads (F : FTy → Type) where
  q : ℕ → ℕ → Vec F S1x64x128 .f32
  k : ℕ → ℕ → Vec F S1x64x128 .f32
  v : ℕ → ℕ → Vec F S1x64x128 .f32
  z : ℕ → ℕ → Vec F S1x64x128 .f32
  cs : ℕ → Vec F S64x128 .f32
  sn : ℕ → Vec F S64x128 .f32
  dm : ℕ → Vec F S1x64x64 .f32
  xi : ℕ → Vec F S1x64x128 .f32
  zeta : ℕ → Vec F S1x64x128 .f32
  g : ℕ → Vec F S1x1x128 .f32
  rn : ℕ → Vec F S1x128 .f32

namespace Loads

variable (L : Loads F) (S0 : ℕ → FVec F S128x128 .f32)

/-- Head `h`'s state before chunk `n` of the point, from the state `S0` before the point. -/
def state (h : ℕ) : ℕ → FVec F S128x128 .f32
  | 0 => S0 h
  | n + 1 => stateT (state h n) (L.g h) (kvT (L.k n h) (L.v n h) (L.cs n) (L.sn n) (L.zeta h))

/-- The tile stored for chunk `n` of head `h`. -/
def tile (n h : ℕ) : FVec F S1x64x128 .bf16 :=
  tileT (rowsT (L.q n h) (L.k n h) (L.v n h) (L.cs n) (L.sn n) (L.dm h) (L.xi h) (L.state S0 h n)) (L.rn h) (L.z n h)

end Loads

theorem tile_fits (n h : ℕ) : ∀ a, (![0, 64 * (n % 8), 128 * (h % 8)] : Fin 3 → ℕ) a + S1x64x128.size a ≤ S1x512x1024.size a := by
  intro a
  have hn := Nat.mod_lt n (show 0 < 8 by decide)
  have hh := Nat.mod_lt h (show 0 < 8 by decide)
  fin_cases a <;> simp [Shape.size] <;> omega

theorem rows_fit (n : ℕ) : ∀ a, (![64 * (n % 8), 0] : Fin 2 → ℕ) a + S64x128.size a ≤ S512x128.size a := by
  intro a
  have hn := Nat.mod_lt n (show 0 < 8 by decide)
  fin_cases a <;> simp [Shape.size] <;> omega

theorem head_fits {p q : ℕ} (h : ℕ) :
    ∀ a, (![h % 8, 0, 0] : Fin 3 → ℕ) a + (⟨3, ![1, p, q]⟩ : Shape).size a ≤ (⟨3, ![8, p, q]⟩ : Shape).size a := by
  intro a
  have hh := Nat.mod_lt h (show 0 < 8 by decide)
  fin_cases a <;> simp [Shape.size] <;> omega

theorem lane_fits (h : ℕ) : ∀ a, (![0, 128 * (h % 8)] : Fin 2 → ℕ) a + S1x128.size a ≤ S1x1024.size a := by
  intro a
  have hh := Nat.mod_lt h (show 0 < 8 by decide)
  fin_cases a <;> simp [Shape.size] <;> omega

/-- The box of chunk `n` and head `h` in a block of 512 rows. -/
abbrev tileBox (n h : ℕ) : Rect S1x512x1024 := Rect.unit ![0, 64 * (n % 8), 128 * (h % 8)] S1x64x128.size (tile_fits n h)

/-- Head `h`'s box in the carried scratch. -/
abbrev headBox (h : ℕ) : Rect S8x128x128 := Rect.unit ![h % 8, 0, 0] S1x128x128.size (head_fits h)

/-- The loads a point makes from its staged blocks. -/
def loads
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x1024 .f32) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S8x64x64 .f32) (harg8 : arg8.IsWhole)
  (arg9 : Memref sig .tc .vmem S8x64x128 .f32) (harg9 : arg9.IsWhole)
  (arg10 : Memref sig .tc .vmem S8x64x128 .f32) (harg10 : arg10.IsWhole)
  (arg11 : Memref sig .tc .vmem S8x1x128 .f32) (harg11 : arg11.IsWhole)
  (arg12 : Memref sig .tc .vmem S1x1024 .f32) (harg12 : arg12.IsWhole)
  (x0 x1 x2 x3 : Vec F S1x512x1024 .f32) (x4 x5 : Vec F S512x128 .f32) (x6 : Vec F S8x64x64 .f32) (x7 x8 : Vec F S8x64x128 .f32)
  (x9 : Vec F S8x1x128 .f32) (x10 : Vec F S1x1024 .f32) : Loads F where
  q n h := View.readAt (Elt F) arg2.view (tileBox n h).toLoadRect (harg2.unread x0)
  k n h := View.readAt (Elt F) arg3.view (tileBox n h).toLoadRect (harg3.unread x1)
  v n h := View.readAt (Elt F) arg4.view (tileBox n h).toLoadRect (harg4.unread x2)
  z n h := View.readAt (Elt F) arg5.view (tileBox n h).toLoadRect (harg5.unread x3)
  cs n := View.readAt (Elt F) arg6.view (Rect.unit (s := S512x128) ![64 * (n % 8), 0] S64x128.size (rows_fit n)).toLoadRect (harg6.unread x4)
  sn n := View.readAt (Elt F) arg7.view (Rect.unit (s := S512x128) ![64 * (n % 8), 0] S64x128.size (rows_fit n)).toLoadRect (harg7.unread x5)
  dm h := View.readAt (Elt F) arg8.view (Rect.unit (s := S8x64x64) ![h % 8, 0, 0] S1x64x64.size (head_fits h)).toLoadRect (harg8.unread x6)
  xi h := View.readAt (Elt F) arg9.view (Rect.unit (s := S8x64x128) ![h % 8, 0, 0] S1x64x128.size (head_fits h)).toLoadRect (harg9.unread x7)
  zeta h := View.readAt (Elt F) arg10.view (Rect.unit (s := S8x64x128) ![h % 8, 0, 0] S1x64x128.size (head_fits h)).toLoadRect (harg10.unread x8)
  g h := View.readAt (Elt F) arg11.view (Rect.unit (s := S8x1x128) ![h % 8, 0, 0] S1x1x128.size (head_fits h)).toLoadRect (harg11.unread x9)
  rn h := View.readAt (Elt F) arg12.view (Rect.unit (s := S1x1024) ![0, 128 * (h % 8)] S1x128.size (lane_fits h)).toLoadRect (harg12.unread x10)

/-- The list of stored tiles, last first. -/
def tilePieces (L : Loads F) (S0 : ℕ → FVec F S128x128 .f32) : List (View.Piece (Elt F) S1x512x1024 .bf16) :=
  ((List.range 64).map fun i => ⟨tileBox (i / 8) (i % 8), L.tile S0 (i / 8) (i % 8)⟩).reverse

/-- The list of stored states, last first. -/
def statePieces (L : Loads F) (S0 : ℕ → FVec F S128x128 .f32) : List (View.Piece (Elt F) S8x128x128 .f32) :=
  ((List.range 8).map fun h => ⟨headBox h, shapeCast S1x128x128 (L.state S0 h 8) shapeCasts_S128x128_S1x128x128⟩).reverse

/-- A head's state as the scratch `xs` carried it in. -/
def carried (arg16 : Memref sig .tc .vmem S8x128x128 .f32) (harg16 : arg16.IsWhole) (xs : Vec F S8x128x128 .f32) (h : ℕ) :
    FVec F S128x128 .f32 :=
  shapeCast S128x128 (View.readAt (Elt F) arg16.view (headBox h).toLoadRect (harg16.unread xs)) shapeCasts_S1x128x128_S128x128

/-- The one store that clears the scratch. -/
def cleared : List (View.Piece (Elt F) S8x128x128 .f32) :=
  [⟨Rect.unit ![0, 0, 0] S8x128x128.size inb_S8x128x128_S8x128x128_0_0_0,
    shapeCast S8x128x128 (broadcast S8x128x128 (Scalar.ofBits .f32 0x00000000#32)) shapeCasts_S8x128x128_S8x128x128⟩]

/-- A head's state as loaded from the cleared scratch. -/
def fresh (arg16 : Memref sig .tc .vmem S8x128x128 .f32) (h : ℕ) : FVec F S128x128 .f32 :=
  shapeCast S128x128 (arg16.view.readCov cleared (headBox h).toLoadRect) shapeCasts_S1x128x128_S128x128

section Branches

variable (c : Dev nD) (i : grid0.Coords)
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x1024 .f32) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S8x64x64 .f32) (harg8 : arg8.IsWhole)
  (arg9 : Memref sig .tc .vmem S8x64x128 .f32) (harg9 : arg9.IsWhole)
  (arg10 : Memref sig .tc .vmem S8x64x128 .f32) (harg10 : arg10.IsWhole)
  (arg11 : Memref sig .tc .vmem S8x1x128 .f32) (harg11 : arg11.IsWhole)
  (arg12 : Memref sig .tc .vmem S1x1024 .f32) (harg12 : arg12.IsWhole)
  (arg14 : Memref sig .tc .vmem S1x512x1024 .bf16) (harg14 : arg14.IsWhole)
  (arg15 : Memref sig .tc .vmem S1x1x8x128x128 .f32) (harg15 : arg15.IsWhole)
  (arg16 : Memref sig .tc .vmem S8x128x128 .f32) (harg16 : arg16.IsWhole)
  (x0 x1 x2 x3 : Vec F S1x512x1024 .f32) (x4 x5 : Vec F S512x128 .f32) (x6 : Vec F S8x64x64 .f32) (x7 x8 : Vec F S8x64x128 .f32)
  (x9 : Vec F S8x1x128 .f32) (x10 : Vec F S1x1024 .f32)

/-- A row of points' first point stores these tiles and leaves these states. -/
theorem tiles_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10).1 = tilePieces (loads arg2 harg2 arg3 harg3 arg4 harg4 arg5 harg5 arg6 harg6 arg7 harg7 arg8 harg8 arg9 harg9 arg10 harg10 arg11 harg11 arg12 harg12 x0 x1 x2 x3 x4 x5 x6 x7 x8 x9 x10) (fresh arg16) := by
  sl_kernel_rfl

theorem states_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10).2.2.1 = statePieces (loads arg2 harg2 arg3 harg3 arg4 harg4 arg5 harg5 arg6 harg6 arg7 harg7 arg8 harg8 arg9 harg9 arg10 harg10 arg11 harg11 arg12 harg12 x0 x1 x2 x3 x4 x5 x6 x7 x8 x9 x10) (fresh arg16) ++ cleared := by
  sl_kernel_rfl

/-- A row of points' middle point stores these tiles and leaves these states. -/
theorem tiles_B (hc0 : ¬cond0_0 i) (hc1 : ¬cond0_1 i) (xs : Vec F S8x128x128 .f32) :
    (kernelRun0_B c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs).1 = tilePieces (loads arg2 harg2 arg3 harg3 arg4 harg4 arg5 harg5 arg6 harg6 arg7 harg7 arg8 harg8 arg9 harg9 arg10 harg10 arg11 harg11 arg12 harg12 x0 x1 x2 x3 x4 x5 x6 x7 x8 x9 x10) (carried arg16 harg16 xs) := by
  sl_kernel_rfl

theorem states_B (hc0 : ¬cond0_0 i) (hc1 : ¬cond0_1 i) (xs : Vec F S8x128x128 .f32) :
    (kernelRun0_B c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs).2.2.1 = statePieces (loads arg2 harg2 arg3 harg3 arg4 harg4 arg5 harg5 arg6 harg6 arg7 harg7 arg8 harg8 arg9 harg9 arg10 harg10 arg11 harg11 arg12 harg12 x0 x1 x2 x3 x4 x5 x6 x7 x8 x9 x10) (carried arg16 harg16 xs) := by
  sl_kernel_rfl

/-- A row of points' last point stores these tiles and leaves these states. -/
theorem tiles_C (hc0 : ¬cond0_0 i) (hc1 : cond0_1 i) (xs : Vec F S8x128x128 .f32) :
    (kernelRun0_C c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs).1 = tilePieces (loads arg2 harg2 arg3 harg3 arg4 harg4 arg5 harg5 arg6 harg6 arg7 harg7 arg8 harg8 arg9 harg9 arg10 harg10 arg11 harg11 arg12 harg12 x0 x1 x2 x3 x4 x5 x6 x7 x8 x9 x10) (carried arg16 harg16 xs) := by
  sl_kernel_rfl

theorem states_C (hc0 : ¬cond0_0 i) (hc1 : cond0_1 i) (xs : Vec F S8x128x128 .f32) :
    (kernelRun0_C c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs).2.2.1 = statePieces (loads arg2 harg2 arg3 harg3 arg4 harg4 arg5 harg5 arg6 harg6 arg7 harg7 arg8 harg8 arg9 harg9 arg10 harg10 arg11 harg11 arg12 harg12 x0 x1 x2 x3 x4 x5 x6 x7 x8 x9 x10) (carried arg16 harg16 xs) := by
  sl_kernel_rfl

end Branches

end Cert.Proof.Ret

end
-- ==== Proof.Ret.RefRun.lean ====
/-
  The reference's loop over chunks, read as a recursion: after k trips the loop's buffers hold state number k of the
  printed step, so the reference's two results are functions of state 64.
-/
module

public import proofs.«01_k».proof.Proof.Gen.ReferenceIdeal.Run
public import proofs.«01_k».proof.Proof.Gen.ReferenceIdeal.Step

@[expose] public section

noncomputable section

namespace Cert.Proof.Ret

open Idealize.ShloMosaic Idealize.ShloMosaic.TcCoe Idealize.SL.Sem Idealize.ShloMosaic.StableHlo
open Cert.ReferenceIdeal Cert.ReferenceIdeal.Value
open Cert.ReferenceIdeal.Step (State)

variable {F : FTy → Type} [FloatOps F]

/-- A valuation agrees with state `s` before trip `j`: the carried buffers, the trip's number, the three decay tables. -/
def Agrees (V : Valuation τ sig (Elt F)) (s : State F) (j : ℕ) : Prop :=
  (V (Proc.devRef .tc main_v130_8) = s.main_v130_8 ∧ V (Proc.devRef .tc main_v130_9) = s.main_v130_9)
  ∧ (V (Proc.devRef .tc main_v130_0) = s.main_v130_0 ∧ V (Proc.devRef .tc main_v130_1) = s.main_v130_1
    ∧ V (Proc.devRef .tc main_v130_2) = s.main_v130_2 ∧ V (Proc.devRef .tc main_v130_3) = s.main_v130_3)
  ∧ V (Proc.devRef .tc main_v130_7) = constantI S_ 32 (BitVec.ofNat 32 j)
  ∧ (V (Proc.devRef .tc main_v130_4) = Step.K_main_v111 (F := F) ∧ V (Proc.devRef .tc main_v130_5) = Step.K_main_v124 (F := F)
    ∧ V (Proc.devRef .tc main_v130_6) = Step.K_main_v120 (F := F))

/-- The states the trips go through. -/
def states (p : (⟨S4x4096x18432, .f32⟩ : BufTy).Contents (Elt F)) : ℕ → State F
  | 0 => Step.init p
  | k + 1 => Step.step k (states p k)

set_option maxRecDepth 16384 in
/-- One trip takes an agreeing valuation to one agreeing with the next state. -/
theorem agrees_step {V : Valuation τ sig (Elt F)} {s : State F} {j : ℕ} (h : Agrees V s j) :
    Agrees (STEP V) (Step.step j s) (j + 1) := by
  obtain ⟨⟨h8, h9⟩, ⟨h0, h1, h2, h3⟩, h7, h4, h5, h6⟩ := h
  refine ⟨⟨(STEP_main_v130_8 V).trans ?_, (STEP_main_v130_9 V).trans ?_⟩,
    ⟨(STEP_main_v130_0 V).trans h0, (STEP_main_v130_1 V).trans h1, (STEP_main_v130_2 V).trans h2,
      (STEP_main_v130_3 V).trans h3⟩, (STEP_main_v130_7 V).trans ?_,
    (STEP_main_v130_4 V).trans h4, (STEP_main_v130_5 V).trans h5, (STEP_main_v130_6 V).trans h6⟩
  · rw [Step.step_main_v130_8]
    unfold step_main_v130_8 res_main_while0b_v167
    rw [h8, h1, h2, h7, h5, h6]
    rfl
  · rw [Step.step_main_v130_9]
    unfold step_main_v130_9 res_main_while0b_v167
    rw [h9, h8, h0, h2, h3, h7, h4]
    rfl
  · unfold step_main_v130_7
    rw [h7]
    funext i
    show BitVec.ofNat 32 j + 1#32 = BitVec.ofNat 32 (j + 1)
    simp only [BitVec.ofNat_add]

variable (m : (ℓ : Loc nD τ sig) → Buf (Elt F) ℓ)

set_option maxRecDepth 65536 in
set_option maxHeartbeats 800000 in
/-- What the operations before the loop leave agrees with the first state. -/
theorem agrees_entry (c : Dev nD) :
    Agrees (entryContents preI m c) (Step.init (m ((c.tc : Thread nD τ).loc main_arg0))) 0 := by
  refine ⟨⟨?_, ?_⟩, ⟨?_, ?_, ?_, ?_⟩, ?_, ?_, ?_, ?_⟩ <;>
    (simp only [entryContents, afterL_cons, afterL_nil]; after_reads_simp) <;> rfl

theorem agrees_iter (c : Dev nD) :
    ∀ k, Agrees (STEP^[k] (entryContents preI m c)) (states (m ((c.tc : Thread nD τ).loc main_arg0)) k) k
  | 0 => agrees_entry m c
  | k + 1 => by
    rw [Function.iterate_succ_apply']
    exact agrees_step (agrees_iter c k)

set_option maxRecDepth 16384 in
/-- The reference's run: its two results from state 64, its arguments kept. -/
theorem run_states (ρ : Dev nD → PrngReg) :
    θ_run (defs (F := F)) (onTc (τ := τ) (main (F := F))) ⟨m, fun _ => 0, ρ⟩ fun r => ∀ c : Dev nD,
      (r.2.mem ((c.tc : Thread nD τ).loc main_v159)
          = Step.R_main_v159 (states (m ((c.tc : Thread nD τ).loc main_arg0)) 64) (m ((c.tc : Thread nD τ).loc main_arg0))
              (m ((c.tc : Thread nD τ).loc main_arg1))
        ∧ r.2.mem ((c.tc : Thread nD τ).loc main_v164)
          = Step.R_main_v164 (states (m ((c.tc : Thread nD τ).loc main_arg0)) 64) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨e1, e2, keep⟩ := h c
  obtain ⟨⟨h8, h9⟩, _⟩ := agrees_iter m c 64
  refine ⟨⟨e1.trans ?_, e2.trans ?_⟩, keep⟩
  · unfold out_main_v159 Step.R_main_v159
    rw [h9, iter_main_arg0 m c 64, iter_main_arg1 m c 64]
    rfl
  · unfold out_main_v164 Step.R_main_v164
    rw [h8, iter_main_arg2 m c 64]

end Cert.Proof.Ret

end
-- ==== Proof.Ret.Rotary.lean ====
/-
  The rotary product of one chunk of one head, element by element: the kernel's product with the signed sine is the
  reference's pair of products on the two halves.
-/
module

public import proofs.«01_k».proof.Proof.Ret.Pieces
public import proofs.«01_k».proof.Proof.Ret.RefRun
public import Idealize.ShloMosaic.Lib.Pointwise

@[expose] public section

set_option maxRecDepth 16384

noncomputable section

namespace Cert.Proof.Ret

open Idealize.ShloMosaic Cert.ReferenceIdeal Cert.ReferenceIdeal.Gen

/-- The reference's rotary product of the heads `X`: of the two halves, the first and the second half of the result. -/
def refFst (lo hi : FVec Ideal S4x4096x8x64 .f32) : FVec Ideal S4x4096x8x64 .f32 :=
  subf (mulf lo (Step.K_main_v29 (F := Ideal))) (mulf hi (Step.K_main_v31 (F := Ideal)))

def refSnd (lo hi : FVec Ideal S4x4096x8x64 .f32) : FVec Ideal S4x4096x8x64 .f32 :=
  addf (mulf lo (Step.K_main_v34 (F := Ideal))) (mulf hi (Step.K_main_v36 (F := Ideal)))

def refRot (X : FVec Ideal S4x4096x8x128 .f32) : FVec Ideal S4x4096x8x128 .f32 :=
  concatenate S4x4096x8x128 3
    [⟨S4x4096x8x64, refFst (extractStridedSlice S4x4096x8x64 ![0, 0, 0, 0] X slices_S4x4096x8x128_S4x4096x8x64_0_0_0_0)
        (extractStridedSlice S4x4096x8x64 ![0, 0, 0, 64] X slices_S4x4096x8x128_S4x4096x8x64_0_0_0_64)⟩,
      ⟨S4x4096x8x64, refSnd (extractStridedSlice S4x4096x8x64 ![0, 0, 0, 0] X slices_S4x4096x8x128_S4x4096x8x64_0_0_0_0)
        (extractStridedSlice S4x4096x8x64 ![0, 0, 0, 64] X slices_S4x4096x8x128_S4x4096x8x64_0_0_0_64)⟩]
    concatenates_S4x4096x8x64_S4x4096x8x64_S4x4096x8x128_d3

section
variable (X : (⟨S4x4096x8x128, .f32⟩ : BufTy).Contents (Elt Ideal)) (b : Fin 4) (R : Fin 4096) (h : Fin 8) (e : Fin 64)

theorem refRot_lo : refRot X (ix4 b R h ⟨e.val, by omega⟩)
    = X (ix4 b R h ⟨e.val, by omega⟩) * Step.K_main_v23 (F := Ideal) (ix2 R e)
      - X (ix4 b R h ⟨64 + e.val, by omega⟩) * Step.K_main_v25 (F := Ideal) (ix2 R e) := by
  pointwise [refRot, refFst, refSnd, Step.K_main_v29, Step.K_main_v31, Step.K_main_v34, Step.K_main_v36, Step.K_main_v24, Step.K_main_v26]

theorem refRot_hi : refRot X (ix4 b R h ⟨64 + e.val, by omega⟩)
    = X (ix4 b R h ⟨e.val, by omega⟩) * Step.K_main_v25 (F := Ideal) (ix2 R e)
      + X (ix4 b R h ⟨64 + e.val, by omega⟩) * Step.K_main_v23 (F := Ideal) (ix2 R e) := by
  pointwise [refRot, refFst, refSnd, Step.K_main_v29, Step.K_main_v31, Step.K_main_v34, Step.K_main_v36, Step.K_main_v24, Step.K_main_v26]

end

theorem rotT_apply (x : Vec Ideal Cert.KernelIdeal.S1x64x128 .f32) (cs sn : Vec Ideal Cert.KernelIdeal.S64x128 .f32)
    (r : Fin 64) (d : Fin 128) : rotT x cs sn (ix2 r d)
      = x (ix3 0 r d) * cs (ix2 r d) + x (ix3 0 r ⟨(d.val + 128 - 64) % 128, Nat.mod_lt _ (by decide)⟩) * sn (ix2 r d) := by
  pointwise [rotT]

/-- A lane of a head lies in its first half or its second. -/
theorem lane_half (d : Fin 128) :
    (∃ e : Fin 64, d = ⟨e.val, by omega⟩) ∨ ∃ e : Fin 64, d = ⟨64 + e.val, by omega⟩ := by
  rcases Nat.lt_or_ge d.val 64 with hd | hd
  · exact .inl ⟨⟨d.val, hd⟩, rfl⟩
  · exact .inr ⟨⟨d.val - 64, by omega⟩, Fin.ext (by show d.val = 64 + (d.val - 64); omega)⟩

/-- A chunk's rotary product in the kernel is the reference's, when the chunk's row `r` is row `R` of the sequence. -/
theorem rot_apply (X : (⟨S4x4096x8x128, .f32⟩ : BufTy).Contents (Elt Ideal)) (x : Vec Ideal Cert.KernelIdeal.S1x64x128 .f32)
    (cs sn : Vec Ideal Cert.KernelIdeal.S64x128 .f32) (b : Fin 4) (R : Fin 4096) (h : Fin 8) (r : Fin 64)
    (hx : ∀ d : Fin 128, x (ix3 0 r d) = X (ix4 b R h d))
    (hc : ∀ d : Fin 128, cs (ix2 r d) = Step.K_main_v23 (F := Ideal) (ix2 R ⟨d.val % 64, Nat.mod_lt _ (by decide)⟩))
    (hlo : ∀ e : Fin 64, sn (ix2 r ⟨e.val, by omega⟩) = -Step.K_main_v25 (F := Ideal) (ix2 R e))
    (hhi : ∀ e : Fin 64, sn (ix2 r ⟨64 + e.val, by omega⟩) = Step.K_main_v25 (F := Ideal) (ix2 R e)) (d : Fin 128) :
    rotT x cs sn (ix2 r d) = refRot X (ix4 b R h d) := by
  obtain ⟨e, rfl⟩ | ⟨e, rfl⟩ := lane_half d
  · rw [refRot_lo, ← hx, ← hx]
    rw [rotT_apply, hlo, hc]
    have e1 : ∀ q, (⟨(e.val + 128 - 64) % 128, q⟩ : Fin 128) = ⟨64 + e.val, by omega⟩ := fun q => Fin.ext (by show (e.val + 128 - 64) % 128 = 64 + e.val; omega)
    have e2 : ∀ q, (⟨(e.val) % 64, q⟩ : Fin 64) = e := fun q => Fin.ext (by show (e.val) % 64 = e.val; omega)
    simp only [e1, e2]
    rw [mul_neg, sub_eq_add_neg]
  · rw [refRot_hi, ← hx, ← hx]
    rw [rotT_apply, hhi, hc]
    have e1 : ∀ q, (⟨(64 + e.val + 128 - 64) % 128, q⟩ : Fin 128) = ⟨e.val, by omega⟩ := fun q => Fin.ext (by show (64 + e.val + 128 - 64) % 128 = e.val; omega)
    have e2 : ∀ q, (⟨(64 + e.val) % 64, q⟩ : Fin 64) = e := fun q => Fin.ext (by show (64 + e.val) % 64 = e.val; omega)
    simp only [e1, e2]
    rw [add_comm]

section
variable (n : Fin 64) (b : Fin 4) (h : Fin 8) (r : Fin 64) (d : Fin 128)

theorem chunk_first (X : (⟨S4x8x64x64x128, .f32⟩ : BufTy).Contents (Elt Ideal)) :
    (transpose S64x4x8x64x128 [2, 0, 1, 3, 4] X transposes_S4x8x64x64x128_S64x4x8x64x128_2_0_1_3_4) (ix5 n b h r d)
      = X (ix5 b h n r d) := by
  pointwise []

theorem chunk_rows (X : (⟨S4x4096x8x128, .f32⟩ : BufTy).Contents (Elt Ideal)) :
    (shapeCast S4x8x64x64x128 (transpose S4x8x4096x128 [0, 2, 1, 3] X transposes_S4x4096x8x128_S4x8x4096x128_0_2_1_3)
        shapeCasts_S4x8x4096x128_S4x8x64x64x128) (ix5 b h n r d)
      = X (ix4 b ⟨n.val * 64 + r.val, by omega⟩ h d) := by
  pointwise []

variable (p : (⟨S4x4096x18432, .f32⟩ : BufTy).Contents (Elt Ideal))

theorem turned_q : Step.A_main_v39 p = refRot (Step.A_main_v10 p) := by
  unfold Step.A_main_v39 Step.A_main_v33 Step.A_main_v38 Step.A_main_v30 Step.A_main_v32 Step.A_main_v35 Step.A_main_v37
    Step.A_main_v27 Step.A_main_v28 refRot refFst refSnd
  rfl

theorem turned_k : Step.A_main_v70 p = refRot (Step.A_main_v41 p) := by
  unfold Step.A_main_v70 Step.A_main_v64 Step.A_main_v69 Step.A_main_v61 Step.A_main_v63 Step.A_main_v66 Step.A_main_v68
    Step.A_main_v58 Step.A_main_v59 refRot refFst refSnd
  rfl

/-- The reference's queries, keys and values of chunk `n`. -/
theorem ref_q : Step.A_main_v125 p (ix5 n b h r d) = refRot (Step.A_main_v10 p) (ix4 b ⟨n.val * 64 + r.val, by omega⟩ h d) := by
  unfold Step.A_main_v125
  rw [chunk_first]
  unfold Step.A_main_v77 Step.A_main_v76
  rw [chunk_rows, turned_q]

theorem ref_k : Step.A_main_v126 p (ix5 n b h r d)
    = refRot (Step.A_main_v41 p) (ix4 b ⟨n.val * 64 + r.val, by omega⟩ h d) * (FloatOps.ofBits .f32 0x3DB504F3#32 : Ideal .f32) := by
  unfold Step.A_main_v126
  rw [chunk_first]
  unfold Step.A_main_v79 Step.A_main_v78
  rw [chunk_rows]
  unfold Step.A_main_v72
  rw [turned_k]
  rfl

theorem ref_v : Step.A_main_v127 p (ix5 n b h r d) = Step.A_main_v75 p (ix4 b ⟨n.val * 64 + r.val, by omega⟩ h d) := by
  unfold Step.A_main_v127
  rw [chunk_first]
  unfold Step.A_main_v81 Step.A_main_v80
  rw [chunk_rows]

theorem head_q (R : Fin 4096) : Step.A_main_v10 p (ix4 b R h d) = p (ix3 b R ⟨8192 + (h.val * 128 + d.val), by omega⟩) := by
  pointwise [Step.A_main_v10, Step.A_main_v9]

theorem head_k (R : Fin 4096) : Step.A_main_v41 p (ix4 b R h d) = p (ix3 b R ⟨9216 + (h.val * 128 + d.val), by omega⟩) := by
  pointwise [Step.A_main_v41, Step.A_main_v40]

theorem head_v (R : Fin 4096) : Step.A_main_v75 p (ix4 b R h d) = p (ix3 b R ⟨10240 + (h.val * 128 + d.val), by omega⟩) := by
  pointwise [Step.A_main_v75, Step.A_main_v74]

end

end Cert.Proof.Ret

end
-- ==== Proof.Ret.Trip.lean ====
/-
  One trip of the reference's loop, element by element, over the chunk the trip takes.
-/
module

public import proofs.«01_k».proof.Proof.Ret.RefRun
public import Idealize.ShloMosaic.Lib.Pointwise
public import Idealize.ShloMosaic.Lib.DynamicIndex
public import Idealize.ShloMosaic.Lib.WordCmp

@[expose] public section

set_option maxRecDepth 16384

noncomputable section

namespace Cert.Proof.Ret

open Idealize.ShloMosaic Cert.ReferenceIdeal Cert.ReferenceIdeal.Gen
open Cert.ReferenceIdeal.Step (State)

/-- A chunk's number, as the loop's 32-bit index reads. -/
theorem toInt_chunk (j : Fin 64) : (BitVec.ofNat 32 j.val).toInt = (j.val : Int) := by
  revert j; decide

theorem fits_rows (j : Fin 64) : S64x4x8x64x128.Slices ![j.val, 0, 0, 0, 0] S1x4x8x64x128 :=
  ⟨rfl, fun a => by fin_cases a <;> simp [Shape.size] <;> omega⟩

theorem fits_square (j : Fin 64) : S64x4x8x64x64.Slices ![j.val, 0, 0, 0, 0] S1x4x8x64x64 :=
  ⟨rfl, fun a => by fin_cases a <;> simp [Shape.size] <;> omega⟩

section
variable (j : Fin 64) (s : State Ideal) (b : Fin 4) (h : Fin 8) (r : Fin 64)

theorem pick (X : (⟨S64x4x8x64x128, .f32⟩ : BufTy).Contents (Elt Ideal)) (d : Fin 128) (st : Fin 5 → Int)
    (hs : ∀ a, st a = ((![j.val, 0, 0, 0, 0] : Fin 5 → ℕ) a : Int)) (hf) :
    shapeCast S4x8x64x128 (Host.dynamicSlice S1x4x8x64x128 X st hf) shapeCasts_S1x4x8x64x128_S4x8x64x128 (ix4 b h r d)
      = X (ix5 j b h r d) := by
  rw [Host.dynamicSlice_eq_extractStridedSlice S1x4x8x64x128 X st ![j.val, 0, 0, 0, 0] hf (fits_rows j) hs]
  pointwise []

theorem pick_square (X : (⟨S64x4x8x64x64, .f32⟩ : BufTy).Contents (Elt Ideal)) (d : Fin 64) (st : Fin 5 → Int)
    (hs : ∀ a, st a = ((![j.val, 0, 0, 0, 0] : Fin 5 → ℕ) a : Int)) (hf) :
    shapeCast S4x8x64x64 (Host.dynamicSlice S1x4x8x64x64 X st hf) shapeCasts_S1x4x8x64x64_S4x8x64x64 (ix4 b h r d)
      = X (ix5 j b h r d) := by
  rw [Host.dynamicSlice_eq_extractStridedSlice S1x4x8x64x64 X st ![j.val, 0, 0, 0, 0] hf (fits_square j) hs]
  pointwise []

theorem start_eq (a : Fin 5) :
    ((![(constantI S_ 32 (BitVec.ofNat 32 j.val) : (⟨S_, .i32⟩ : BufTy).Contents (Elt Ideal)), constantI S_ 32 0#32,
        constantI S_ 32 0#32, constantI S_ 32 0#32, constantI S_ 32 0#32] : Fin 5 → (⟨S_, .i32⟩ : BufTy).Contents (Elt Ideal)) a
          (Shape.Idx.first h_S_)).toInt
      = ((![j.val, 0, 0, 0, 0] : Fin 5 → ℕ) a : Int) := by
  fin_cases a
  · exact toInt_chunk j
  all_goals rfl

/-- The trip's queries, keys, values and decayed scores are the chunk's. -/
theorem trip_q (d : Fin 128) : Step.b5 j.val s (ix4 b h r d) = s.main_v130_0 (ix5 j b h r d) :=
  pick j b h r _ d _ (start_eq j) _

theorem trip_k (d : Fin 128) : Step.b11 j.val s (ix4 b h r d) = s.main_v130_1 (ix5 j b h r d) :=
  pick j b h r _ d _ (start_eq j) _

theorem trip_v (d : Fin 128) : Step.b17 j.val s (ix4 b h r d) = s.main_v130_2 (ix5 j b h r d) :=
  pick j b h r _ d _ (start_eq j) _

theorem trip_a (d : Fin 64) : Step.b23 j.val s (ix4 b h r d) = s.main_v130_3 (ix5 j b h r d) :=
  pick_square j b h r _ d _ (start_eq j) _

/-- The state after the trip. -/
theorem trip_state (i d : Fin 128) : Step.b34 j.val s (ix4 b h i d)
    = s.main_v130_8 (ix4 b h i d) * Step.K_main_v124 (F := Ideal) (ix4 0 h 0 0)
      + ∑ r : Fin 64, (s.main_v130_1 (ix5 j b h r i) * Step.K_main_v120 (F := Ideal) (ix4 0 h r 0)) * s.main_v130_2 (ix5 j b h r d) := by
  simp only [← trip_k, ← trip_v]
  pointwise [Step.b34, Step.b30, Step.b29, Step.b33, Step.b32, Step.b31]

/-- The rows the trip puts out. -/
theorem trip_rows (d : Fin 128) : Step.b28 j.val s (ix4 b h r d)
    = (∑ k : Fin 64, s.main_v130_3 (ix5 j b h r k) * s.main_v130_2 (ix5 j b h k d))
      + (∑ k : Fin 128, s.main_v130_0 (ix5 j b h r k) * s.main_v130_8 (ix4 b h k d)) * Step.K_main_v111 (F := Ideal) (ix4 0 h r 0) := by
  simp only [← trip_q, ← trip_v, ← trip_a]
  pointwise [Step.b28, Step.b24, Step.b27, Step.b25, Step.b26]

end

end Cert.Proof.Ret

end
-- ==== Proof.Ret.Chunk.lean ====
/-
  The kernel's operations on one chunk of one head, element by element, and their agreement with one trip of the
  reference's loop.
-/
module

public import proofs.«01_k».proof.Proof.Ret.Rotary
public import proofs.«01_k».proof.Proof.Ret.Trip

@[expose] public section

set_option maxRecDepth 16384

noncomputable section

namespace Cert.Proof.Ret

open Idealize.ShloMosaic

section
variable (q k v zeta xi z : Vec Ideal Cert.KernelIdeal.S1x64x128 .f32) (cs sn : Vec Ideal Cert.KernelIdeal.S64x128 .f32)
  (dm : Vec Ideal Cert.KernelIdeal.S1x64x64 .f32) (g : Vec Ideal Cert.KernelIdeal.S1x1x128 .f32)
  (rn : Vec Ideal Cert.KernelIdeal.S1x128 .f32)
  (S : FVec Ideal Cert.KernelIdeal.S128x128 .f32) (i j d : Fin 128) (r c : Fin 64)

theorem keyT_apply : keyT k cs sn (ix2 r d) = rotT k cs sn (ix2 r d) * (FloatOps.ofBits .f32 0x3DB504F3#32 : Ideal .f32) := by
  pointwise [keyT]

theorem stateT_apply : stateT S g (kvT k v cs sn zeta) (ix2 i j)
    = S (ix2 i j) * g (ix3 0 0 j) + ∑ r : Fin 64, (keyT k cs sn (ix2 r i) * zeta (ix3 0 r i)) * v (ix3 0 r j) := by
  pointwise [stateT, kvT]

theorem rowsT_apply : rowsT q k v cs sn dm xi S (ix2 r d)
    = (∑ c : Fin 64, ((∑ e : Fin 128, rotT q cs sn (ix2 r e) * keyT k cs sn (ix2 c e)) * dm (ix3 0 r c)) * v (ix3 0 c d))
      + (∑ e : Fin 128, rotT q cs sn (ix2 r e) * S (ix2 e d)) * xi (ix3 0 r d) := by
  pointwise [rowsT]

end

section
variable (n : Fin 64) (b : Fin 4) (h : Fin 8) (r c : Fin 64)
  (p : (⟨Cert.ReferenceIdeal.S4x4096x18432, .f32⟩ : BufTy).Contents (Elt Ideal))
open Cert.ReferenceIdeal Cert.ReferenceIdeal.Gen

theorem chunk_first_square (X : (⟨S4x8x64x64x64, .f32⟩ : BufTy).Contents (Elt Ideal)) :
    (transpose S64x4x8x64x64 [2, 0, 1, 3, 4] X transposes_S4x8x64x64x64_S64x4x8x64x64_2_0_1_3_4) (ix5 n b h r c)
      = X (ix5 b h n r c) := by
  pointwise []

theorem scores (Q K : FVec Ideal S4x8x64x64x128 .f32) :
    mulf (Host.dotGeneral dot_S4x8x64x64x128_S4x8x64x64x128_S4x8x64x64x64_4_4_3_3_012_012 none Q K)
        (Step.K_main_v101 (F := Ideal)) (ix5 b h n r c)
      = (∑ e : Fin 128, Q (ix5 b h n r e) * K (ix5 b h n c e)) * Step.K_main_v98 (F := Ideal) (ix3 h r c) := by
  pointwise [Step.K_main_v101, Step.K_main_v100]

/-- The reference's decayed scores of chunk `n`. -/
theorem ref_a : Step.A_main_v128 p (ix5 n b h r c)
    = (∑ e : Fin 128, Step.A_main_v125 p (ix5 n b h r e) * Step.A_main_v126 p (ix5 n b h c e))
      * Step.K_main_v98 (F := Ideal) (ix3 h r c) := by
  unfold Step.A_main_v128
  rw [chunk_first_square]
  unfold Step.A_main_v102 Step.A_main_v99
  rw [scores]
  refine congrArg (· * _) (Finset.sum_congr rfl fun e _ => ?_)
  unfold Step.A_main_v125 Step.A_main_v126
  rw [chunk_first, chunk_first]

end

end Cert.Proof.Ret

end
-- ==== Proof.Ret.Out.lean ====
/-
  The norm and the gate of one tile, element by element, and the reference's two results read at an index.
-/
module

public import proofs.«01_k».proof.Proof.Ret.Chunk

@[expose] public section

set_option maxRecDepth 16384

noncomputable section

namespace Cert.Proof.Ret

open Idealize.ShloMosaic Cert.ReferenceIdeal Cert.ReferenceIdeal.Gen
open Cert.ReferenceIdeal.Step (State)

/-- An element of a tile is the reference's, when the tile's rows, norm weights and gate are. -/
theorem tile_apply (o : FVec Ideal Cert.KernelIdeal.S64x128 .f32) (rn : Vec Ideal Cert.KernelIdeal.S1x128 .f32)
    (z : Vec Ideal Cert.KernelIdeal.S1x64x128 .f32) (s : State Ideal)
    (p : (⟨S4x4096x18432, .f32⟩ : BufTy).Contents (Elt Ideal)) (w : (⟨S8x128, .f32⟩ : BufTy).Contents (Elt Ideal))
    (n : Fin 64) (b : Fin 4) (h : Fin 8) (r : Fin 64) (d : Fin 128)
    (ho : ∀ e : Fin 128, o (ix2 r e) = s.main_v130_9 (ix5 n b h r e)) (hrn : rn (ix2 0 d) = w (ix2 h d))
    (hz : z (ix3 0 r d) = p (ix3 b ⟨n.val * 64 + r.val, by omega⟩ ⟨11264 + (h.val * 128 + d.val), by omega⟩)) :
    tileT o rn z (ix3 0 r d)
      = Step.R_main_v159 s p w (ix3 b ⟨n.val * 64 + r.val, by omega⟩ ⟨h.val * 128 + d.val, by omega⟩) := by
  pointwise [tileT, centredT, varT, Step.R_main_v159]
  simp only [ho, hrn, hz]
  rfl

section
variable (s : State Ideal) (P : (⟨S2x4x8x128x128, .f32⟩ : BufTy).Contents (Elt Ideal)) (b : Fin 4) (h : Fin 8) (i j : Fin 128)

/-- The stacked states: the first layer's is the one passed in, the second layer's the loop's last. -/
theorem stacked_zero : Step.R_main_v164 s P (ix5 0 b h i j) = P (ix5 0 b h i j) := by
  pointwise [Step.R_main_v164]

theorem stacked_one : Step.R_main_v164 s P (ix5 1 b h i j) = s.main_v130_8 (ix4 b h i j) := by
  pointwise [Step.R_main_v164]

end

section
variable (X : FVec Ideal S64x4x8x64x128 .f32) (U : FVec Ideal S1x4x8x64x128 .f32) (j n : Fin 64) (b : Fin 4) (h : Fin 8)
  (r : Fin 64) (d : Fin 128) (st : Fin 5 → Int) (hs : ∀ a, st a = ((![j.val, 0, 0, 0, 0] : Fin 5 → ℕ) a : Int)) (hf)

include hs in
/-- Writing trip `j`'s rows: chunk `j` holds them, the others are as before. -/
theorem put_same : Host.dynamicUpdateSlice X U st hf (ix5 j b h r d) = U (ix5 0 b h r d) := by
  rw [WordCmp.dynamicUpdateSlice_eq_update X U st hf ![j.val, 0, 0, 0, 0] (fits_rows j) hs]
  pointwise []
  rw [dif_pos ⟨le_refl _, Nat.lt_succ_self _⟩]
  have : ∀ q, (⟨j.val - j.val, q⟩ : Fin 1) = 0 := fun q => Subsingleton.elim _ _
  rw [this]

include hs in
theorem put_other (hn : n ≠ j) : Host.dynamicUpdateSlice X U st hf (ix5 n b h r d) = X (ix5 n b h r d) := by
  rw [WordCmp.dynamicUpdateSlice_eq_update X U st hf ![j.val, 0, 0, 0, 0] (fits_rows j) hs]
  have : n.val ≠ j.val := fun h => hn (Fin.ext h)
  pointwise []
  rw [dif_neg (by omega)]

end

section
variable (p : (⟨S4x4096x18432, .f32⟩ : BufTy).Contents (Elt Ideal))

/-- The chunks the loop reads are the same before every trip. -/
theorem states_fixed : ∀ k, (states p k).main_v130_0 = Step.A_main_v125 p ∧ (states p k).main_v130_1 = Step.A_main_v126 p
    ∧ (states p k).main_v130_2 = Step.A_main_v127 p ∧ (states p k).main_v130_3 = Step.A_main_v128 p
  | 0 => ⟨rfl, rfl, rfl, rfl⟩
  | k + 1 => states_fixed k

/-- After the trips up to `m`, chunk `n < m` of the outputs is what trip `n` put out. -/
theorem states_rows (n : Fin 64) (b : Fin 4) (h : Fin 8) (r : Fin 64) (d : Fin 128) : ∀ m, n.val < m → m ≤ 64 →
    (states p m).main_v130_9 (ix5 n b h r d) = Step.b28 n.val (states p n.val) (ix4 b h r d)
  | 0, h, _ => absurd h (Nat.not_lt_zero _)
  | m + 1, hm, hle => by
    show (Step.step m (states p m)).main_v130_9 _ = _
    rw [Step.step_main_v130_9]
    unfold Step.b40
    by_cases e : n.val = m
    · subst e
      refine (put_same _ _ n b h r d _ (start_eq n) _).trans ?_
      pointwise [Step.b35]
    · refine (put_other _ _ ⟨m, by omega⟩ n b h r d _ (start_eq ⟨m, by omega⟩) _ (fun h => e (congrArg Fin.val h))).trans ?_
      exact states_rows n b h r d m (by omega) (by omega)

end

end Cert.Proof.Ret

end
-- ==== Proof.Ret.Agree.lean ====
/-
  A point's recursion over its eight chunks is eight trips of the reference's loop, head by head.
-/
module

public import proofs.«01_k».proof.Proof.Ret.Out

@[expose] public section

noncomputable section

namespace Cert.Proof.Ret

open Idealize.ShloMosaic Cert.ReferenceIdeal Cert.ReferenceIdeal.Gen
open Cert.ReferenceIdeal.Step (State)

/-- Chunk `n` of row `t` of a batch's points, among the sequence's 64 chunks. -/
def chunkOf (t n : Fin 8) : Fin 64 := ⟨8 * t.val + n.val, by omega⟩

/-- A chunk's row, and a head's lane in column group `g` of the projection. -/
def seqRow (N r : Fin 64) : Fin 4096 := ⟨N.val * 64 + r.val, by omega⟩

def lane (g : ℕ) (hg : g ≤ 17408) (h : Fin 8) (d : Fin 128) : Fin 18432 := ⟨g + (h.val * 128 + d.val), by omega⟩

/-- What the point loads is the reference's: chunks of the projection `p`, the rotary and decay tables, the norm weights. -/
structure Fits (L : Loads Ideal) (p : (⟨S4x4096x18432, .f32⟩ : BufTy).Contents (Elt Ideal))
    (w : (⟨S8x128, .f32⟩ : BufTy).Contents (Elt Ideal)) (b : Fin 4) (t : Fin 8) : Prop where
  q : ∀ (n h : Fin 8) (r : Fin 64) (d : Fin 128), L.q n h (ix3 0 r d) = p (ix3 b (seqRow (chunkOf t n) r) (lane 8192 (by decide) h d))
  k : ∀ (n h : Fin 8) (r : Fin 64) (d : Fin 128), L.k n h (ix3 0 r d) = p (ix3 b (seqRow (chunkOf t n) r) (lane 9216 (by decide) h d))
  v : ∀ (n h : Fin 8) (r : Fin 64) (d : Fin 128), L.v n h (ix3 0 r d) = p (ix3 b (seqRow (chunkOf t n) r) (lane 10240 (by decide) h d))
  z : ∀ (n h : Fin 8) (r : Fin 64) (d : Fin 128), L.z n h (ix3 0 r d) = p (ix3 b (seqRow (chunkOf t n) r) (lane 11264 (by decide) h d))
  cs : ∀ (n : Fin 8) (r : Fin 64) (d : Fin 128), L.cs n (ix2 r d) = Step.K_main_v23 (F := Ideal) (ix2 (seqRow (chunkOf t n) r) ⟨d.val % 64, Nat.mod_lt _ (by decide)⟩)
  lo : ∀ (n : Fin 8) (r e : Fin 64), L.sn n (ix2 r ⟨e.val, by omega⟩) = -Step.K_main_v25 (F := Ideal) (ix2 (seqRow (chunkOf t n) r) e)
  hi : ∀ (n : Fin 8) (r e : Fin 64), L.sn n (ix2 r ⟨64 + e.val, by omega⟩) = Step.K_main_v25 (F := Ideal) (ix2 (seqRow (chunkOf t n) r) e)
  dm : ∀ (h : Fin 8) (r c : Fin 64), L.dm h (ix3 0 r c) = Step.K_main_v98 (F := Ideal) (ix3 h r c)
  xi : ∀ (h : Fin 8) (r : Fin 64) (d : Fin 128), L.xi h (ix3 0 r d) = Step.K_main_v111 (F := Ideal) (ix4 0 h r 0)
  zeta : ∀ (h : Fin 8) (r : Fin 64) (d : Fin 128), L.zeta h (ix3 0 r d) = Step.K_main_v120 (F := Ideal) (ix4 0 h r 0)
  g : ∀ (h : Fin 8) (d : Fin 128), L.g h (ix3 0 0 d) = Step.K_main_v124 (F := Ideal) (ix4 0 h 0 0)
  rn : ∀ (h : Fin 8) (d : Fin 128), L.rn h (ix2 0 d) = w (ix2 h d)

section
variable {L : Loads Ideal} {p : (⟨S4x4096x18432, .f32⟩ : BufTy).Contents (Elt Ideal)}
  {w : (⟨S8x128, .f32⟩ : BufTy).Contents (Elt Ideal)} {b : Fin 4} {t : Fin 8} (F : Fits L p w b t)
include F

theorem fits_q (n h : Fin 8) (r : Fin 64) (d : Fin 128) :
    rotT (L.q n h) (L.cs n) (L.sn n) (ix2 r d) = Step.A_main_v125 p (ix5 (chunkOf t n) b h r d) := by
  rw [ref_q]
  exact rot_apply _ _ _ _ b (seqRow (chunkOf t n) r) h r (fun e => (F.q n h r e).trans (head_q b h e p _).symm)
    (F.cs n r) (F.lo n r) (F.hi n r) d

theorem fits_k (n h : Fin 8) (r : Fin 64) (d : Fin 128) :
    keyT (L.k n h) (L.cs n) (L.sn n) (ix2 r d) = Step.A_main_v126 p (ix5 (chunkOf t n) b h r d) := by
  rw [ref_k, keyT_apply]
  exact congrArg (· * _) (rot_apply _ _ _ _ b (seqRow (chunkOf t n) r) h r (fun e => (F.k n h r e).trans (head_k b h e p _).symm)
    (F.cs n r) (F.lo n r) (F.hi n r) d)

theorem fits_v (n h : Fin 8) (r : Fin 64) (d : Fin 128) :
    L.v n h (ix3 0 r d) = Step.A_main_v127 p (ix5 (chunkOf t n) b h r d) := by
  rw [ref_v]
  exact (F.v n h r d).trans (head_v b h d p _).symm

/-- The state before chunk `n` is the loop's. -/
theorem state_eq (S0 : ℕ → FVec Ideal Cert.KernelIdeal.S128x128 .f32)
    (hS : ∀ (h : Fin 8) (i j : Fin 128), S0 h (ix2 i j) = (states p (8 * t.val)).main_v130_8 (ix4 b h i j)) (h : Fin 8) :
    ∀ n, n ≤ 8 → ∀ i j : Fin 128, L.state S0 h n (ix2 i j) = (states p (8 * t.val + n)).main_v130_8 (ix4 b h i j)
  | 0, _, i, j => hS h i j
  | n + 1, hn, i, j => by
    obtain ⟨f0, f1, f2, f3⟩ := states_fixed p (8 * t.val + n)
    show stateT (L.state S0 h n) (L.g h) (kvT (L.k n h) (L.v n h) (L.cs n) (L.sn n) (L.zeta h)) (ix2 i j)
      = (Step.step (8 * t.val + n) (states p (8 * t.val + n))).main_v130_8 (ix4 b h i j)
    rw [Step.step_main_v130_8, stateT_apply, state_eq S0 hS h n (by omega) i j, F.g]
    refine Eq.trans ?_ (trip_state (chunkOf t ⟨n, hn⟩) (states p (8 * t.val + n)) b h i j).symm
    rw [f1, f2]
    refine congrArg (_ + ·) (Finset.sum_congr rfl fun r _ => ?_)
    rw [fits_k F ⟨n, hn⟩ h r i, F.zeta, fits_v F ⟨n, hn⟩ h r j]

/-- The rows before the norm are the trip's. -/
theorem rows_eq (S0 : ℕ → FVec Ideal Cert.KernelIdeal.S128x128 .f32)
    (hS : ∀ (h : Fin 8) (i j : Fin 128), S0 h (ix2 i j) = (states p (8 * t.val)).main_v130_8 (ix4 b h i j)) (n h : Fin 8)
    (r : Fin 64) (d : Fin 128) :
    rowsT (L.q n h) (L.k n h) (L.v n h) (L.cs n) (L.sn n) (L.dm h) (L.xi h) (L.state S0 h n) (ix2 r d)
      = Step.b28 (chunkOf t n).val (states p (chunkOf t n).val) (ix4 b h r d) := by
  obtain ⟨f0, f1, f2, f3⟩ := states_fixed p (chunkOf t n).val
  rw [rowsT_apply, trip_rows, f0, f2, f3]
  refine congrArg₂ (· + ·) (Finset.sum_congr rfl fun c _ => ?_) (congrArg₂ (· * ·) (Finset.sum_congr rfl fun e _ => ?_) (F.xi h r d))
  · rw [ref_a, F.dm, fits_v F n h c d]
    refine congrArg (· * _) (congrArg (· * _) (Finset.sum_congr rfl fun e _ => ?_))
    rw [fits_q F n h r e, fits_k F n h c e]
  · rw [fits_q F n h r e]
    exact congrArg (_ * ·) (state_eq F S0 hS h n (by omega) e d)

/-- The stored tile is the reference's output. -/
theorem tile_eq (S0 : ℕ → FVec Ideal Cert.KernelIdeal.S128x128 .f32)
    (hS : ∀ (h : Fin 8) (i j : Fin 128), S0 h (ix2 i j) = (states p (8 * t.val)).main_v130_8 (ix4 b h i j)) (n h : Fin 8)
    (r : Fin 64) (d : Fin 128) :
    L.tile S0 n h (ix3 0 r d)
      = Step.R_main_v159 (states p 64) p w (ix3 b (seqRow (chunkOf t n) r) ⟨h.val * 128 + d.val, by omega⟩) :=
  tile_apply _ _ _ (states p 64) p w (chunkOf t n) b h r d
    (fun e => (rows_eq F S0 hS n h r e).trans (states_rows p (chunkOf t n) b h r e 64 (chunkOf t n).isLt (by decide)).symm)
    (F.rn h d) (F.z n h r d)

end

end Cert.Proof.Ret

end
-- ==== Proof.Common.Index.lean ====
/-
  Indices by their coordinates: an index of a rank-2 array (rank 3, rank 5) is the one whose coordinates it has.
-/
module

public import Idealize.ShloMosaic.Lib.Pointwise

@[expose] public section

namespace Cert.Proof.Common

open Idealize.ShloMosaic

/-- A rank-2 index is known by the values of its two coordinates. -/
theorem eq_ix2_of_val {a b : ℕ} (i : (⟨2, ![a, b]⟩ : Shape).Idx) (p : Fin a) (q : Fin b)
    (h0 : (i 0).val = p.val) (h1 : (i 1).val = q.val) : i = ix2 p q := by
  rw [eq_ix2 i]; exact congrArg₂ _ (Fin.ext h0) (Fin.ext h1)

/-- A rank-3 index is known by the values of its three coordinates. -/
theorem eq_ix3_of_val {a b c : ℕ} (i : (⟨3, ![a, b, c]⟩ : Shape).Idx) (p : Fin a) (q : Fin b) (s : Fin c)
    (h0 : (i 0).val = p.val) (h1 : (i 1).val = q.val) (h2 : (i 2).val = s.val) : i = ix3 p q s := by
  rw [eq_ix3 i]
  have e0 : i 0 = p := Fin.ext h0
  have e1 : i 1 = q := Fin.ext h1
  have e2 : i 2 = s := Fin.ext h2
  rw [e0, e1, e2]

/-- A rank-4 index is known by the values of its four coordinates. -/
theorem eq_ix4_of_val {a b c d : ℕ} (i : (⟨4, ![a, b, c, d]⟩ : Shape).Idx) (p : Fin a) (q : Fin b) (s : Fin c) (u : Fin d)
    (h0 : (i 0).val = p.val) (h1 : (i 1).val = q.val) (h2 : (i 2).val = s.val) (h3 : (i 3).val = u.val) :
    i = ix4 p q s u := by
  rw [eq_ix4 i]
  have e0 : i 0 = p := Fin.ext h0
  have e1 : i 1 = q := Fin.ext h1
  have e2 : i 2 = s := Fin.ext h2
  have e3 : i 3 = u := Fin.ext h3
  rw [e0, e1, e2, e3]

/-- A rank-5 index is known by the values of its five coordinates. -/
theorem eq_ix5_of_val {a b c d e : ℕ} (i : (⟨5, ![a, b, c, d, e]⟩ : Shape).Idx) (p : Fin a) (q : Fin b) (s : Fin c)
    (u : Fin d) (v : Fin e) (h0 : (i 0).val = p.val) (h1 : (i 1).val = q.val) (h2 : (i 2).val = s.val)
    (h3 : (i 3).val = u.val) (h4 : (i 4).val = v.val) : i = ix5 p q s u v := by
  rw [eq_ix5 i]
  have e0 : i 0 = p := Fin.ext h0
  have e1 : i 1 = q := Fin.ext h1
  have e2 : i 2 = s := Fin.ext h2
  have e3 : i 3 = u := Fin.ext h3
  have e4 : i 4 = v := Fin.ext h4
  rw [e0, e1, e2, e3, e4]

end Cert.Proof.Common
-- ==== Proof.Ret.Block.lean ====
/-
  What a point of the retention kernel leaves in a block and in the carried scratch, element by element: the stored
  pieces tile both, so every element is an element of one tile or of one head's state.
-/
module

public import proofs.«01_k».proof.Proof.Ret.Pieces
public import proofs.«01_k».proof.Proof.Common.Index
public import Idealize.ShloMosaic.Lib.Pointwise

@[expose] public section

noncomputable section

namespace Cert.Proof.Ret

open Cert.KernelIdeal Cert.KernelIdeal.Gen Cert.Proof.Common Idealize.ShloMosaic Idealize.ShloMosaic.TcCoe Idealize.SL.Sem

/-- The scratch after a point's stores: plane `h` is head `h`'s state after the eight chunks. -/
theorem read_states (v : View sig .tc .vmem S8x128x128 .f32) (f : v.ty.Contents (Elt Ideal)) (L : Loads Ideal)
    (S0 : ℕ → FVec Ideal S128x128 .f32) (h : Fin 8) (i j : Fin 128) :
    v.read (Elt Ideal) (v.writes (Elt Ideal) f (statePieces L S0)) (ix3 h i j) = L.state S0 h 8 (ix2 i j) := by
  refine (View.read_writes_apply_of_pieces v f (fun y : S8x128x128.Idx => L.state S0 (y 0).val 8 (ix2 (y 1) (y 2)))
    (statePieces L S0) ?_ (ix3 h i j) ?_)
  · intro p hp x
    obtain ⟨k, hk, rfl⟩ := List.mem_map.1 (List.mem_reverse.1 hp)
    have hk8 : k % 8 = k := Nat.mod_eq_of_lt (List.mem_range.1 hk)
    have hx : x = ix3 0 (x 1) (x 2) := (eq_ix3 (show S1x128x128.Idx from x)).trans (by
      congr 1; exact Subsingleton.elim _ _)
    have x0 : (x 0 : Nat) = 0 := Nat.lt_one_iff.1 (x 0).isLt
    have e0 : (((headBox k).emb x) 0 : Nat) = k := by
      rw [Rect.emb_apply]; show k % 8 + 1 * (x 0 : Nat) = k; omega
    have e1 : ((headBox k).emb x) 1 = x 1 := Fin.ext (by
      rw [Rect.emb_apply]; show 0 + 1 * (x 1 : Nat) = _; omega)
    have e2 : ((headBox k).emb x) 2 = x 2 := Fin.ext (by
      rw [Rect.emb_apply]; show 0 + 1 * (x 2 : Nat) = _; omega)
    show shapeCast S1x128x128 (L.state S0 k 8) shapeCasts_S128x128_S1x128x128 x
      = L.state S0 (((headBox k).emb x) 0).val 8 (ix2 (((headBox k).emb x) 1) (((headBox k).emb x) 2))
    rw [e0, e1, e2, hx]
    pointwise []
  · refine ⟨_, List.mem_reverse.2 (List.mem_map.2 ⟨h.val, List.mem_range.2 h.isLt, rfl⟩), ?_⟩
    rw [Rect.mem_set_unit]
    have := h.isLt
    intro a
    fin_cases a <;> simp [Shape.size] <;> omega

/-- The output block after a point's stores: row `r` lies in chunk `r / 64`, lane `l` in head `l / 128`. -/
theorem read_tiles (v : View sig .tc .vmem S1x512x1024 .bf16) (f : v.ty.Contents (Elt Ideal)) (L : Loads Ideal)
    (S0 : ℕ → FVec Ideal S128x128 .f32) (n h : Fin 8) (r : Fin 64) (d : Fin 128) :
    v.read (Elt Ideal) (v.writes (Elt Ideal) f (tilePieces L S0))
        (ix3 0 ⟨64 * n.val + r.val, by omega⟩ ⟨128 * h.val + d.val, by omega⟩)
      = L.tile S0 n h (ix3 0 r d) := by
  refine (View.read_writes_apply_of_pieces v f (fun y : S1x512x1024.Idx =>
      L.tile S0 ((y 1).val / 64) ((y 2).val / 128)
        (ix3 0 ⟨(y 1).val % 64, Nat.mod_lt _ (by decide)⟩ ⟨(y 2).val % 128, Nat.mod_lt _ (by decide)⟩))
    (tilePieces L S0) ?_ _ ?_).trans ?_
  · intro p hp x
    obtain ⟨k, hk, rfl⟩ := List.mem_map.1 (List.mem_reverse.1 hp)
    have hk8 : k < 64 := List.mem_range.1 hk
    have hx : x = ix3 0 (x 1) (x 2) := (eq_ix3 (show S1x64x128.Idx from x)).trans (by
      congr 1; exact Subsingleton.elim _ _)
    have x1 : (x 1 : Nat) < 64 := (x 1).isLt
    have x2 : (x 2 : Nat) < 128 := (x 2).isLt
    have e1 : (((tileBox (k / 8) (k % 8)).emb x) 1 : Nat) = 64 * (k / 8) + (x 1 : Nat) := by
      rw [Rect.emb_apply]; show 64 * (k / 8 % 8) + 1 * (x 1 : Nat) = _; omega
    have e2 : (((tileBox (k / 8) (k % 8)).emb x) 2 : Nat) = 128 * (k % 8) + (x 2 : Nat) := by
      rw [Rect.emb_apply]; show 128 * (k % 8 % 8) + 1 * (x 2 : Nat) = _; omega
    show L.tile S0 (k / 8) (k % 8) x
      = L.tile S0 ((((tileBox (k / 8) (k % 8)).emb x) 1).val / 64) ((((tileBox (k / 8) (k % 8)).emb x) 2).val / 128)
        (ix3 0 ⟨(((tileBox (k / 8) (k % 8)).emb x) 1).val % 64, _⟩ ⟨(((tileBox (k / 8) (k % 8)).emb x) 2).val % 128, _⟩)
    have f1 : ∀ q, (⟨(((tileBox (k / 8) (k % 8)).emb x) 1).val % 64, q⟩ : Fin 64) = x 1 :=
      fun q => Fin.ext (by show (((tileBox (k / 8) (k % 8)).emb x) 1).val % 64 = _; rw [e1]; omega)
    have f2 : ∀ q, (⟨(((tileBox (k / 8) (k % 8)).emb x) 2).val % 128, q⟩ : Fin 128) = x 2 :=
      fun q => Fin.ext (by show (((tileBox (k / 8) (k % 8)).emb x) 2).val % 128 = _; rw [e2]; omega)
    rw [f1, f2, e1, e2, show (64 * (k / 8) + (x 1 : Nat)) / 64 = k / 8 by omega,
      show (128 * (k % 8) + (x 2 : Nat)) / 128 = k % 8 by omega]
    exact congrArg _ hx
  · refine ⟨_, List.mem_reverse.2 (List.mem_map.2 ⟨8 * n.val + h.val, List.mem_range.2 (by omega), rfl⟩), ?_⟩
    rw [Rect.mem_set_unit]
    have := h.isLt
    have := n.isLt
    intro a
    fin_cases a <;> simp [Shape.size] <;> omega
  · have a1 : (64 * n.val + r.val) / 64 = n.val := by omega
    have a2 : (128 * h.val + d.val) / 128 = h.val := by omega
    have e : ∀ (y : S1x512x1024.Idx) (N H : ℕ) (p : Fin 64) (q : Fin 128), (y 1).val / 64 = N → (y 2).val / 128 = H →
        (y 1).val % 64 = p.val → (y 2).val % 128 = q.val →
        L.tile S0 ((y 1).val / 64) ((y 2).val / 128)
          (ix3 0 ⟨(y 1).val % 64, Nat.mod_lt _ (by decide)⟩ ⟨(y 2).val % 128, Nat.mod_lt _ (by decide)⟩)
        = L.tile S0 N H (ix3 0 p q) := by
      intro y N H p q h1 h2 h3 h4
      subst h1 h2
      rw [show (⟨(y 1).val % 64, Nat.mod_lt _ (by decide)⟩ : Fin 64) = p from Fin.ext h3,
        show (⟨(y 2).val % 128, Nat.mod_lt _ (by decide)⟩ : Fin 128) = q from Fin.ext h4]
    exact e _ _ _ _ _ a1 a2 (by show (64 * n.val + r.val) % 64 = r.val; omega) (by show (128 * h.val + d.val) % 128 = d.val; omega)

/-- Dropping a head's leading axis. -/
theorem plane_apply (X : FVec Ideal S1x128x128 .f32) (i j : Fin 128) :
    shapeCast S128x128 X shapeCasts_S1x128x128_S128x128 (ix2 i j) = X (ix3 0 i j) := by
  pointwise []

theorem headBox_idx (h : Fin 8) (i j : Fin 128) : (headBox h).toLoadRect.idx (ix3 0 i j) = ix3 h i j := by
  have hh := h.isLt
  refine eq_ix3_of_val _ _ _ _ ?_ ?_ ?_
  · show h.val % 8 + 1 * 0 = h.val; omega
  · show 0 + 1 * i.val = i.val; omega
  · show 0 + 1 * j.val = j.val; omega

/-- A head's state as the scratch carried it in is that plane of the scratch. -/
theorem carried_apply (arg16 : Memref sig .tc .vmem S8x128x128 .f32) (harg16 : arg16.IsWhole) (xs : Vec Ideal S8x128x128 .f32)
    (h : Fin 8) (i j : Fin 128) : carried arg16 harg16 xs h (ix2 i j) = xs (ix3 h i j) := by
  unfold carried
  refine (plane_apply _ i j).trans ((Memref.IsWhole.readAt_unread harg16 xs _ _).trans ?_)
  exact congrArg xs (headBox_idx h i j)

/-- A head's state as loaded from the cleared scratch is zero. -/
theorem fresh_apply (arg16 : Memref sig .tc .vmem S8x128x128 .f32) (h : Fin 8) (i j : Fin 128) :
    fresh (F := Ideal) arg16 h (ix2 i j) = (FloatOps.ofBits .f32 0x00000000#32 : Ideal .f32) := by
  unfold fresh
  refine (plane_apply _ i j).trans ?_
  refine View.read_writes_apply_of_pieces (Val := Elt Ideal) arg16.view arg16.view.junk
    (fun _ : S8x128x128.Idx => (FloatOps.ofBits .f32 0x00000000#32 : Ideal .f32)) cleared ?_ _ ?_
  · intro p hp x
    obtain rfl := List.mem_singleton.1 hp
    rfl
  · refine ⟨_, List.mem_singleton.2 rfl, ?_⟩
    rw [Rect.mem_set_unit]
    intro a
    exact ⟨by fin_cases a <;> exact Nat.zero_le _, by
      have := h.isLt
      fin_cases a <;> simp <;> omega⟩

end Cert.Proof.Ret

end
-- ==== Proof.Ret.Point.lean ====
/-
  The kernel's carried scratch across the grid: at every point the body runs over the state the reference's loop has
  before the point's eight chunks, and leaves the state it has after them.
-/
module

public import proofs.«01_k».proof.Proof.Ret.Agree
public import proofs.«01_k».proof.Proof.Ret.Block

@[expose] public section

noncomputable section

namespace Cert.Proof.Ret

open Cert.KernelIdeal Cert.KernelIdeal.Gen Idealize.ShloMosaic Idealize.ShloMosaic.TcCoe Idealize.SL.Sem

variable (m : (ℓ : Loc nD τ sig) → Buf (Elt Ideal) ℓ) (c : Dev nD)

/-- What point `t` loads. -/
def pt (t : Fin cfg0.N) : Loads Ideal :=
  loads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- A point's batch and its place in the batch's row of points. -/
def bat (t : Fin cfg0.N) : Fin 4 := ⟨t.val / 8, by have h : t.val < 32 := t.isLt.trans_eq N_0; omega⟩

def pos (t : Fin cfg0.N) : Fin 8 := ⟨t.val % 8, Nat.mod_lt _ (by decide)⟩

variable (p : (⟨Cert.ReferenceIdeal.S4x4096x18432, .f32⟩ : BufTy).Contents (Elt Ideal))

/-- Point `t` ran over the loop's state: its tiles and its scratch are written from it. -/
def Done (t : Fin cfg0.N) : Prop :=
  ∃ S0 : ℕ → FVec Ideal S128x128 .f32,
    (∀ (h : Fin 8) (i j : Fin 128), S0 h (ix2 i j) = (states p (8 * (pos t).val)).main_v130_8 (ix4 (bat t) h i j))
    ∧ (∃ f, (outsAt0 m c t.val t.isLt).1 = VO0_11.read (Elt Ideal) (VO0_11.writes (Elt Ideal) f (tilePieces (pt m c t) S0)))
    ∧ ∃ f, (outsAt0 m c t.val t.isLt).2.2 = VS0_0.read (Elt Ideal) (VS0_0.writes (Elt Ideal) f (statePieces (pt m c t) S0))

variable {p} {w : (⟨Cert.ReferenceIdeal.S8x128, .f32⟩ : BufTy).Contents (Elt Ideal)}
  (hfit : ∀ t : Fin cfg0.N, Fits (pt m c t) p w (bat t) (pos t))
include hfit

/-- So it leaves the loop's state after its chunks. -/
theorem scratch_of_done (t : Fin cfg0.N) (h : Done m c p t) (k : Fin 8) (i j : Fin 128) :
    (outsAt0 m c t.val t.isLt).2.2 (ix3 k i j) = (states p (8 * (pos t).val + 8)).main_v130_8 (ix4 (bat t) k i j) := by
  obtain ⟨S0, hS, -, f, hf⟩ := h
  rw [hf]
  exact (read_states _ f (pt m c t) S0 k i j).trans (state_eq (hfit t) S0 hS k 8 (le_refl _) i j)

theorem done_first (t : Fin cfg0.N) (h0 : t.val % 8 = 0) : Done m c p t := by
  have h1 : ¬t.val % 8 = 7 := by omega
  refine ⟨fresh scM0_0, fun h i j => ?_, ⟨VO0_11.junk, ?_⟩, ⟨VS0_0.writes (Elt Ideal) VS0_0.junk cleared, ?_⟩⟩
  · rw [fresh_apply, show 8 * (pos t).val = 0 by show 8 * (t.val % 8) = 0; omega]
    rfl
  · rw [outsAt0_A m c t h0 h1]
    dsimp only
    unfold out0_A_11
    rw [tiles_A]
    rfl
  · rw [outsAt0_A m c t h0 h1]
    dsimp only
    unfold sout0_A_0
    rw [states_A, View.writes_append]
    rfl

/-- The state a later point starts from: what the point before left. -/
theorem carried_eq (t t' : Fin cfg0.N) (ht : t'.val + 1 = t.val) (h0 : ¬t.val % 8 = 0) (h : Done m c p t') (k : Fin 8) (i j : Fin 128) :
    carried scM0_0 (Memref.isWhole_whole _) ((outsAt0 m c t'.val t'.isLt).2.2) k (ix2 i j)
      = (states p (8 * (pos t).val)).main_v130_8 (ix4 (bat t) k i j) := by
  rw [carried_apply, scratch_of_done m c hfit t' h k i j,
    show 8 * (pos t').val + 8 = 8 * (pos t).val by show 8 * (t'.val % 8) + 8 = 8 * (t.val % 8); omega,
    show bat t' = bat t from Fin.ext (by show t'.val / 8 = t.val / 8; omega)]

theorem done_later (t t' : Fin cfg0.N) (ht : t'.val + 1 = t.val) (h0 : ¬t.val % 8 = 0) (h : Done m c p t') : Done m c p t := by
  have e : t.val - 1 = t'.val := by omega
  have ex : ∀ q, (outsAt0 m c (t.val - 1) q).2.2 = (outsAt0 m c t'.val t'.isLt).2.2 := by rw [e]; intro _; rfl
  refine ⟨carried scM0_0 (Memref.isWhole_whole _) ((outsAt0 m c t'.val t'.isLt).2.2), carried_eq m c hfit t t' ht h0 h,
    ⟨VO0_11.junk, ?_⟩, ⟨VS0_0.junk, ?_⟩⟩
  all_goals by_cases h1 : t.val % 8 = 7
  · rw [outsAt0_C m c t h0 h1, ← ex]
    dsimp only
    unfold out0_C_11
    rw [tiles_C]
    rfl
  · rw [outsAt0_B m c t h0 h1, ← ex]
    dsimp only
    unfold out0_B_11
    rw [tiles_B]
    rfl
  · rw [outsAt0_C m c t h0 h1, ← ex]
    dsimp only
    unfold sout0_C_0
    rw [states_C]
    rfl
  · rw [outsAt0_B m c t h0 h1, ← ex]
    dsimp only
    unfold sout0_B_0
    rw [states_B]
    rfl

/-- Every point runs over the loop's state. -/
theorem done : ∀ (n : ℕ) (hn : n < cfg0.N), Done m c p ⟨n, hn⟩
  | 0, hn => done_first m c hfit ⟨0, hn⟩ rfl
  | n + 1, hn => by
    by_cases h0 : (n + 1) % 8 = 0
    · exact done_first m c hfit ⟨n + 1, hn⟩ h0
    · exact done_later m c hfit ⟨n + 1, hn⟩ ⟨n, by omega⟩ rfl h0 (done n (by omega))

end Cert.Proof.Ret

end
-- ==== Proof.Ret.Stage.lean ====
/-
  What a point of the retention kernel loads, in terms of the arguments: its rows of the projection's column groups, and
  the tables the host code prepared, which are the reference's.
-/
module

public import proofs.«01_k».proof.Proof.Ret.Agree
public import proofs.«01_k».proof.Proof.Ret.Point

@[expose] public section

noncomputable section

namespace Cert.Proof.Ret

open Cert.Proof.Common Cert.KernelIdeal Cert.KernelIdeal.Gen Idealize.ShloMosaic Idealize.ShloMosaic.TcCoe Idealize.SL.Sem

variable (m : (ℓ : Loc nD τ sig) → Buf (Elt Ideal) ℓ) (c : Dev nD)

/-- The reference's rotary angles' cosines and sines and its decay tables, laid out for the kernel. -/
def cosTab : FVec Ideal S4096x128 .f32 :=
  let C : FVec Ideal S4096x64 .f32 := Cert.ReferenceIdeal.Step.K_main_v23 (F := Ideal)
  concatenate S4096x128 1 [⟨S4096x64, C⟩, ⟨S4096x64, C⟩] concatenates_S4096x64_S4096x64_S4096x128_d1

def sinTab : FVec Ideal S4096x128 .f32 :=
  let C : FVec Ideal S4096x64 .f32 := Cert.ReferenceIdeal.Step.K_main_v25 (F := Ideal)
  let N : FVec Ideal S4096x64 .f32 := Host.negf C
  concatenate S4096x128 1 [⟨S4096x64, N⟩, ⟨S4096x64, C⟩] concatenates_S4096x64_S4096x64_S4096x128_d1

def wide (T : FVec Ideal S8x64 .f32) : FVec Ideal S8x64x128 .f32 :=
  broadcastInDim S8x64x128 ![0, 1, 2] bcast_S8x64x1_S8x64x128_0_1_2 (broadcastInDim S8x64x1 ![0, 1] bcast_S8x64_S8x64x1_0_1 T)

def wideHead (T : FVec Ideal S8 .f32) : FVec Ideal S8x1x128 .f32 :=
  broadcastInDim S8x1x128 ![0, 1, 2] bcast_S8x1x1_S8x1x128_0_1_2
    (broadcastInDim S8x1x1 ![0, 1] bcast_S8x1_S8x1x1_0_1 (broadcastInDim S8x1 ![0] bcast_S8_S8x1_0 T))

set_option maxRecDepth 65536
set_option maxHeartbeats 1600000

theorem prepared_cos : (V m c main_v15 : FVec Ideal S4096x128 .f32) = cosTab := by
  show StableHlo.after (List.flatten [hostOps0, hostOps0_1, hostOps0_2]) _ (Proc.devRef .tc main_v15) = _
  simp only [hostOps0, hostOps0_1, hostOps0_2, List.flatten_cons, List.flatten_nil, List.append_nil, List.cons_append, List.nil_append]
  after_results; rfl

theorem prepared_sin : (V m c main_v17 : FVec Ideal S4096x128 .f32) = sinTab := by
  show StableHlo.after (List.flatten [hostOps0, hostOps0_1, hostOps0_2]) _ (Proc.devRef .tc main_v17) = _
  simp only [hostOps0, hostOps0_1, hostOps0_2, List.flatten_cons, List.flatten_nil, List.append_nil, List.cons_append, List.nil_append]
  after_results; rfl

theorem prepared_decay : (V m c main_v42 : FVec Ideal S8x64x64 .f32) = Cert.ReferenceIdeal.Step.K_main_v98 (F := Ideal) := by
  show StableHlo.after (List.flatten [hostOps0, hostOps0_1, hostOps0_2]) _ (Proc.devRef .tc main_v42) = _
  simp only [hostOps0, hostOps0_1, hostOps0_2, List.flatten_cons, List.flatten_nil, List.append_nil, List.cons_append, List.nil_append]
  after_results; rfl

theorem prepared_xi : (V m c main_v63 : FVec Ideal S8x64x128 .f32) = wide (Cert.ReferenceIdeal.Step.K_main_v110 (F := Ideal)) := by
  show StableHlo.after (List.flatten [hostOps0, hostOps0_1, hostOps0_2]) _ (Proc.devRef .tc main_v63) = _
  simp only [hostOps0, hostOps0_1, hostOps0_2, List.flatten_cons, List.flatten_nil, List.append_nil, List.cons_append, List.nil_append]
  after_results; rfl

theorem prepared_zeta : (V m c main_v65 : FVec Ideal S8x64x128 .f32) = wide (Cert.ReferenceIdeal.Step.K_main_v119 (F := Ideal)) := by
  show StableHlo.after (List.flatten [hostOps0, hostOps0_1, hostOps0_2]) _ (Proc.devRef .tc main_v65) = _
  simp only [hostOps0, hostOps0_1, hostOps0_2, List.flatten_cons, List.flatten_nil, List.append_nil, List.cons_append, List.nil_append]
  after_results; rfl

theorem prepared_g : (V m c main_v68 : FVec Ideal S8x1x128 .f32) = wideHead (Cert.ReferenceIdeal.Step.K_main_v123 (F := Ideal)) := by
  show StableHlo.after (List.flatten [hostOps0, hostOps0_1, hostOps0_2]) _ (Proc.devRef .tc main_v68) = _
  simp only [hostOps0, hostOps0_1, hostOps0_2, List.flatten_cons, List.flatten_nil, List.append_nil, List.cons_append, List.nil_append]
  after_results; rfl

theorem prepared_norm : (V m c main_v69 : FVec Ideal S1x1024 .f32)
    = shapeCast S1x1024 (m ((c : Thread nD τ).loc main_arg1)) shapeCasts_S8x128_S1x1024 := by
  show StableHlo.after (List.flatten [hostOps0, hostOps0_1, hostOps0_2]) _ (Proc.devRef .tc main_v69) = _
  simp only [hostOps0, hostOps0_1, hostOps0_2, List.flatten_cons, List.flatten_nil, List.append_nil, List.cons_append, List.nil_append]
  after_results; rfl

end Cert.Proof.Ret

end
-- ==== Proof.Ret.Fit.lean ====
/-
  Every point's loads are the reference's: its rows of the projection's column groups, and the tables.
-/
module

public import proofs.«01_k».proof.Proof.Ret.Stage

@[expose] public section

noncomputable section

namespace Cert.Proof.Ret

open Cert.Proof.Common Cert.KernelIdeal Cert.KernelIdeal.Gen Idealize.ShloMosaic Idealize.ShloMosaic.TcCoe Idealize.SL.Sem

variable (m : (ℓ : Loc nD τ sig) → Buf (Elt Ideal) ℓ) (c : Dev nD)

/-- The block indices: the sequence windows go by batch and by row block, in the column groups 8 to 11; the angle tables
    by row block; the other tables are whole; the outputs go by batch and row block, and by batch in the second layer. -/
theorem idx : ∀ t : Fin cfg0.N,
    (win0_0.index t 0 = t.val / 8 ∧ win0_0.index t 1 = t.val % 8 ∧ win0_0.index t 2 = 8)
    ∧ (win0_1.index t 0 = t.val / 8 ∧ win0_1.index t 1 = t.val % 8 ∧ win0_1.index t 2 = 9)
    ∧ (win0_2.index t 0 = t.val / 8 ∧ win0_2.index t 1 = t.val % 8 ∧ win0_2.index t 2 = 10)
    ∧ (win0_3.index t 0 = t.val / 8 ∧ win0_3.index t 1 = t.val % 8 ∧ win0_3.index t 2 = 11)
    ∧ (win0_4.index t 0 = t.val % 8 ∧ win0_4.index t 1 = 0) ∧ (win0_5.index t 0 = t.val % 8 ∧ win0_5.index t 1 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = 0 ∧ win0_8.index t 1 = 0 ∧ win0_8.index t 2 = 0)
    ∧ (win0_9.index t 0 = 0 ∧ win0_9.index t 1 = 0 ∧ win0_9.index t 2 = 0)
    ∧ (win0_10.index t 0 = 0 ∧ win0_10.index t 1 = 0)
    ∧ (win0_11.index t 0 = t.val / 8 ∧ win0_11.index t 1 = t.val % 8 ∧ win0_11.index t 2 = 0)
    ∧ (win0_12.index t 0 = 1 ∧ win0_12.index t 1 = t.val / 8 ∧ win0_12.index t 2 = 0 ∧ win0_12.index t 3 = 0 ∧ win0_12.index t 4 = 0) :=
  (by decide +kernel : ∀ t : Fin grid0.N, _)

/-- Reading a window's array through its block: the element of the array at the block's place. -/
theorem iblk_apply (w : Fin cfg0.W) (t : Fin cfg0.N) (y) :
    iblk m c w t y = cast (congrArg (Elt Ideal) ((cfg0.win w).blk t).view.elt_eq)
      (V m c (Pipeline.arrRef spec0 w) (((cfg0.win w).blk t).view.emb y)) := by
  unfold iblk; rw [View.read_apply]

/-- Where an element of a window's block lies in its array, from the block's index. -/
theorem emb_row (w : Pipeline.Window sig grid0) (t : Fin grid0.N) (y : (w.xblock (grid0.coords t)).Idx)
    (a : Fin w.shape.rank) (n s : ℕ) (hk : w.kind = .blocked) (hn : w.index t a = n) (hs : w.size a = s) :
    ((w.rect t).emb y a : Nat) = n * s + y a := by
  rw [w.rect_emb_val t y a hk, hn, hs]

/-! The boxes the body loads, element by element. -/

theorem tileBox_idx (n h : Fin 8) (r : Fin 64) (d : Fin 128) :
    (tileBox n h).toLoadRect.idx (ix3 0 r d) = ix3 0 ⟨64 * n.val + r.val, by omega⟩ ⟨128 * h.val + d.val, by omega⟩ := by
  have hn := n.isLt
  have hh := h.isLt
  refine eq_ix3_of_val _ _ _ _ rfl ?_ ?_
  · show 64 * (n.val % 8) + 1 * r.val = 64 * n.val + r.val; omega
  · show 128 * (h.val % 8) + 1 * d.val = 128 * h.val + d.val; omega

theorem rowBox_idx (n : Fin 8) (r : Fin 64) (d : Fin 128) :
    (Rect.unit (s := S512x128) ![64 * (n.val % 8), 0] S64x128.size (rows_fit n)).toLoadRect.idx (ix2 r d)
      = ix2 ⟨64 * n.val + r.val, by omega⟩ d := by
  have hn := n.isLt
  refine eq_ix2_of_val _ _ _ ?_ ?_
  · show 64 * (n.val % 8) + 1 * r.val = 64 * n.val + r.val; omega
  · show 0 + 1 * d.val = d.val; omega

section
variable (t : Fin cfg0.N)

/-- The four sequence windows' blocks. -/
theorem seq_q (r : Fin 512) (l : Fin 1024) :
    iblk m c 0 t (ix3 0 r l) = m ((c : Thread nD τ).loc main_arg0) (ix3 (bat t) ⟨512 * (pos t).val + r.val, by have := (pos t).isLt; omega⟩ ⟨8192 + l.val, by omega⟩) := by
  obtain ⟨i0, -⟩ := idx t
  rw [iblk_apply, cast_eq, ← V_main_arg0 m c]
  exact congrArg (V m c main_arg0) (eq_ix3_of_val _ _ _ _ ((emb_row win0_0 t _ 0 _ _ rfl i0.1 rfl).trans (by simp [bat]))
    ((emb_row win0_0 t _ 1 _ _ rfl i0.2.1 rfl).trans (by simp [pos]; omega)) ((emb_row win0_0 t _ 2 _ _ rfl i0.2.2 rfl).trans (by simp)))

theorem seq_k (r : Fin 512) (l : Fin 1024) :
    iblk m c 1 t (ix3 0 r l) = m ((c : Thread nD τ).loc main_arg0) (ix3 (bat t) ⟨512 * (pos t).val + r.val, by have := (pos t).isLt; omega⟩ ⟨9216 + l.val, by omega⟩) := by
  obtain ⟨-, i1, -⟩ := idx t
  rw [iblk_apply, cast_eq, ← V_main_arg0 m c]
  exact congrArg (V m c main_arg0) (eq_ix3_of_val _ _ _ _ ((emb_row win0_1 t _ 0 _ _ rfl i1.1 rfl).trans (by simp [bat]))
    ((emb_row win0_1 t _ 1 _ _ rfl i1.2.1 rfl).trans (by simp [pos]; omega)) ((emb_row win0_1 t _ 2 _ _ rfl i1.2.2 rfl).trans (by simp)))

theorem seq_v (r : Fin 512) (l : Fin 1024) :
    iblk m c 2 t (ix3 0 r l) = m ((c : Thread nD τ).loc main_arg0) (ix3 (bat t) ⟨512 * (pos t).val + r.val, by have := (pos t).isLt; omega⟩ ⟨10240 + l.val, by omega⟩) := by
  obtain ⟨-, -, i2, -⟩ := idx t
  rw [iblk_apply, cast_eq, ← V_main_arg0 m c]
  exact congrArg (V m c main_arg0) (eq_ix3_of_val _ _ _ _ ((emb_row win0_2 t _ 0 _ _ rfl i2.1 rfl).trans (by simp [bat]))
    ((emb_row win0_2 t _ 1 _ _ rfl i2.2.1 rfl).trans (by simp [pos]; omega)) ((emb_row win0_2 t _ 2 _ _ rfl i2.2.2 rfl).trans (by simp)))

theorem seq_z (r : Fin 512) (l : Fin 1024) :
    iblk m c 3 t (ix3 0 r l) = m ((c : Thread nD τ).loc main_arg0) (ix3 (bat t) ⟨512 * (pos t).val + r.val, by have := (pos t).isLt; omega⟩ ⟨11264 + l.val, by omega⟩) := by
  obtain ⟨-, -, -, i3, -⟩ := idx t
  rw [iblk_apply, cast_eq, ← V_main_arg0 m c]
  exact congrArg (V m c main_arg0) (eq_ix3_of_val _ _ _ _ ((emb_row win0_3 t _ 0 _ _ rfl i3.1 rfl).trans (by simp [bat]))
    ((emb_row win0_3 t _ 1 _ _ rfl i3.2.1 rfl).trans (by simp [pos]; omega)) ((emb_row win0_3 t _ 2 _ _ rfl i3.2.2 rfl).trans (by simp)))

/-- The two angle tables' blocks. -/
theorem tab_cos (r : Fin 512) (d : Fin 128) :
    iblk m c 4 t (ix2 r d) = cosTab (ix2 ⟨512 * (pos t).val + r.val, by have := (pos t).isLt; omega⟩ d) := by
  obtain ⟨-, -, -, -, i4, -⟩ := idx t
  rw [iblk_apply, cast_eq, ← prepared_cos m c]
  exact congrArg (V m c main_v15) (eq_ix2_of_val _ _ _ ((emb_row win0_4 t _ 0 _ _ rfl i4.1 rfl).trans (by simp [pos]; omega))
    ((emb_row win0_4 t _ 1 _ _ rfl i4.2 rfl).trans (by simp)))

theorem tab_sin (r : Fin 512) (d : Fin 128) :
    iblk m c 5 t (ix2 r d) = sinTab (ix2 ⟨512 * (pos t).val + r.val, by have := (pos t).isLt; omega⟩ d) := by
  obtain ⟨-, -, -, -, -, i5, -⟩ := idx t
  rw [iblk_apply, cast_eq, ← prepared_sin m c]
  exact congrArg (V m c main_v17) (eq_ix2_of_val _ _ _ ((emb_row win0_5 t _ 0 _ _ rfl i5.1 rfl).trans (by simp [pos]; omega))
    ((emb_row win0_5 t _ 1 _ _ rfl i5.2 rfl).trans (by simp)))

/-- The other tables, whole. -/
theorem tab_decay (h : Fin 8) (r d : Fin 64) :
    iblk m c 6 t (ix3 h r d) = Cert.ReferenceIdeal.Step.K_main_v98 (F := Ideal) (ix3 h r d) := by
  obtain ⟨-, -, -, -, -, -, i6, -⟩ := idx t
  rw [iblk_apply, cast_eq, ← prepared_decay m c]
  exact congrArg (V m c main_v42) (eq_ix3_of_val _ _ _ _ ((emb_row win0_6 t _ 0 _ _ rfl i6.1 rfl).trans (by simp))
    ((emb_row win0_6 t _ 1 _ _ rfl i6.2.1 rfl).trans (by simp)) ((emb_row win0_6 t _ 2 _ _ rfl i6.2.2 rfl).trans (by simp)))

theorem tab_xi (h : Fin 8) (r : Fin 64) (d : Fin 128) :
    iblk m c 7 t (ix3 h r d) = wide (Cert.ReferenceIdeal.Step.K_main_v110 (F := Ideal)) (ix3 h r d) := by
  obtain ⟨-, -, -, -, -, -, -, i7, -⟩ := idx t
  rw [iblk_apply, cast_eq, ← prepared_xi m c]
  exact congrArg (V m c main_v63) (eq_ix3_of_val _ _ _ _ ((emb_row win0_7 t _ 0 _ _ rfl i7.1 rfl).trans (by simp))
    ((emb_row win0_7 t _ 1 _ _ rfl i7.2.1 rfl).trans (by simp)) ((emb_row win0_7 t _ 2 _ _ rfl i7.2.2 rfl).trans (by simp)))

theorem tab_zeta (h : Fin 8) (r : Fin 64) (d : Fin 128) :
    iblk m c 8 t (ix3 h r d) = wide (Cert.ReferenceIdeal.Step.K_main_v119 (F := Ideal)) (ix3 h r d) := by
  obtain ⟨-, -, -, -, -, -, -, -, i8, -⟩ := idx t
  rw [iblk_apply, cast_eq, ← prepared_zeta m c]
  exact congrArg (V m c main_v65) (eq_ix3_of_val _ _ _ _ ((emb_row win0_8 t _ 0 _ _ rfl i8.1 rfl).trans (by simp))
    ((emb_row win0_8 t _ 1 _ _ rfl i8.2.1 rfl).trans (by simp)) ((emb_row win0_8 t _ 2 _ _ rfl i8.2.2 rfl).trans (by simp)))

theorem tab_g (h : Fin 8) (d : Fin 128) :
    iblk m c 9 t (ix3 h 0 d) = wideHead (Cert.ReferenceIdeal.Step.K_main_v123 (F := Ideal)) (ix3 h 0 d) := by
  obtain ⟨-, -, -, -, -, -, -, -, -, i9, -⟩ := idx t
  rw [iblk_apply, cast_eq, ← prepared_g m c]
  exact congrArg (V m c main_v68) (eq_ix3_of_val _ _ _ _ ((emb_row win0_9 t _ 0 _ _ rfl i9.1 rfl).trans (by simp))
    ((emb_row win0_9 t _ 1 _ _ rfl i9.2.1 rfl).trans (by simp)) ((emb_row win0_9 t _ 2 _ _ rfl i9.2.2 rfl).trans (by simp)))

theorem tab_norm (l : Fin 1024) :
    iblk m c 10 t (ix2 0 l) = shapeCast S1x1024 (m ((c : Thread nD τ).loc main_arg1)) shapeCasts_S8x128_S1x1024 (ix2 0 l) := by
  obtain ⟨-, -, -, -, -, -, -, -, -, -, i10, -⟩ := idx t
  rw [iblk_apply, cast_eq, ← prepared_norm m c]
  exact congrArg (V m c main_v69) (eq_ix2_of_val _ _ _ ((emb_row win0_10 t _ 0 _ _ rfl i10.1 rfl).trans (by simp))
    ((emb_row win0_10 t _ 1 _ _ rfl i10.2 rfl).trans (by simp)))

end

/-! The laid-out tables at an element. -/

theorem twice_lo (A B : FVec Ideal S4096x64 .f32) (r : Fin 4096) (e : Fin 64) :
    concatenate S4096x128 1 [⟨S4096x64, A⟩, ⟨S4096x64, B⟩] concatenates_S4096x64_S4096x64_S4096x128_d1 (ix2 r ⟨e.val, by omega⟩) = A (ix2 r e) := by
  pointwise []

theorem twice_hi (A B : FVec Ideal S4096x64 .f32) (r : Fin 4096) (e : Fin 64) :
    concatenate S4096x128 1 [⟨S4096x64, A⟩, ⟨S4096x64, B⟩] concatenates_S4096x64_S4096x64_S4096x128_d1 (ix2 r ⟨64 + e.val, by omega⟩) = B (ix2 r e) := by
  pointwise []

theorem wide_apply (T : FVec Ideal S8x64 .f32) (h : Fin 8) (r : Fin 64) (d : Fin 128) :
    wide T (ix3 h r d) = (broadcastInDim Cert.ReferenceIdeal.S1x8x64x1 ![1, 2] Cert.ReferenceIdeal.Gen.bcast_S8x64_S1x8x64x1_1_2 T : FVec Ideal Cert.ReferenceIdeal.S1x8x64x1 .f32) (ix4 0 h r 0) := by
  unfold wide
  pointwise []

theorem wideHead_apply (T : FVec Ideal S8 .f32) (h : Fin 8) (d : Fin 128) :
    wideHead T (ix3 h 0 d) = (broadcastInDim Cert.ReferenceIdeal.S1x8x1x1 ![1] Cert.ReferenceIdeal.Gen.bcast_S8_S1x8x1x1_1 T : FVec Ideal Cert.ReferenceIdeal.S1x8x1x1 .f32) (ix4 0 h 0 0) := by
  unfold wideHead
  pointwise []

theorem norm_row (w : FVec Ideal S8x128 .f32) (h : Fin 8) (d : Fin 128) :
    shapeCast S1x1024 w shapeCasts_S8x128_S1x1024 (ix2 0 ⟨128 * h.val + d.val, by omega⟩) = w (ix2 h d) := by
  pointwise []

/-- So every point's loads are the reference's. -/
theorem fits (t : Fin cfg0.N) :
    Fits (pt m c t) (m ((c : Thread nD τ).loc main_arg0)) (m ((c : Thread nD τ).loc main_arg1)) (bat t) (pos t) where
  q n h r d := by
    refine (Memref.IsWhole.readAt_unread (hs0_0 t) _ _ _).trans ((congrArg (iblk m c 0 t) (tileBox_idx n h r d)).trans ((seq_q m c t _ _).trans ?_))
    exact congrArg (m ((c : Thread nD τ).loc main_arg0)) (eq_ix3_of_val _ _ _ _ rfl (by simp [seqRow, chunkOf]; omega) (by simp [lane]; omega))
  k n h r d := by
    refine (Memref.IsWhole.readAt_unread (hs0_1 t) _ _ _).trans ((congrArg (iblk m c 1 t) (tileBox_idx n h r d)).trans ((seq_k m c t _ _).trans ?_))
    exact congrArg (m ((c : Thread nD τ).loc main_arg0)) (eq_ix3_of_val _ _ _ _ rfl (by simp [seqRow, chunkOf]; omega) (by simp [lane]; omega))
  v n h r d := by
    refine (Memref.IsWhole.readAt_unread (hs0_2 t) _ _ _).trans ((congrArg (iblk m c 2 t) (tileBox_idx n h r d)).trans ((seq_v m c t _ _).trans ?_))
    exact congrArg (m ((c : Thread nD τ).loc main_arg0)) (eq_ix3_of_val _ _ _ _ rfl (by simp [seqRow, chunkOf]; omega) (by simp [lane]; omega))
  z n h r d := by
    refine (Memref.IsWhole.readAt_unread (hs0_3 t) _ _ _).trans ((congrArg (iblk m c 3 t) (tileBox_idx n h r d)).trans ((seq_z m c t _ _).trans ?_))
    exact congrArg (m ((c : Thread nD τ).loc main_arg0)) (eq_ix3_of_val _ _ _ _ rfl (by simp [seqRow, chunkOf]; omega) (by simp [lane]; omega))
  cs n r d := by
    refine (Memref.IsWhole.readAt_unread (hs0_4 t) _ _ _).trans ((congrArg (iblk m c 4 t) (rowBox_idx n r d)).trans ((tab_cos m c t _ _).trans ?_))
    obtain ⟨e, rfl⟩ | ⟨e, rfl⟩ := lane_half d
    · refine (twice_lo _ _ _ e).trans (congrArg (Cert.ReferenceIdeal.Step.K_main_v23 (F := Ideal)) (eq_ix2_of_val _ _ _ (by simp [seqRow, chunkOf]; omega) (by simp; omega)))
    · refine (twice_hi _ _ _ e).trans (congrArg (Cert.ReferenceIdeal.Step.K_main_v23 (F := Ideal)) (eq_ix2_of_val _ _ _ (by simp [seqRow, chunkOf]; omega) (by simp; omega)))
  lo n r e := by
    refine (Memref.IsWhole.readAt_unread (hs0_5 t) _ _ _).trans ((congrArg (iblk m c 5 t) (rowBox_idx n r _)).trans ((tab_sin m c t _ _).trans ((twice_lo _ _ _ e).trans ?_)))
    show -(Cert.ReferenceIdeal.Step.K_main_v25 (F := Ideal) _) = -_
    exact congrArg (fun i => -(Cert.ReferenceIdeal.Step.K_main_v25 (F := Ideal) i)) (eq_ix2_of_val _ _ _ (by simp [seqRow, chunkOf]; omega) rfl)
  hi n r e := by
    refine (Memref.IsWhole.readAt_unread (hs0_5 t) _ _ _).trans ((congrArg (iblk m c 5 t) (rowBox_idx n r _)).trans ((tab_sin m c t _ _).trans ((twice_hi _ _ _ e).trans ?_)))
    exact congrArg (Cert.ReferenceIdeal.Step.K_main_v25 (F := Ideal)) (eq_ix2_of_val _ _ _ (by simp [seqRow, chunkOf]; omega) rfl)
  dm h r d := by
    have hh := h.isLt
    refine (Memref.IsWhole.readAt_unread (hs0_6 t) _ _ _).trans ((congrArg (iblk m c 6 t) (eq_ix3_of_val _ h r d ?_ ?_ ?_)).trans (tab_decay m c t h r d))
    · show h.val % 8 + 1 * 0 = h.val; omega
    · show 0 + 1 * r.val = r.val; omega
    · show 0 + 1 * d.val = d.val; omega
  xi h r d := by
    have hh := h.isLt
    refine (Memref.IsWhole.readAt_unread (hs0_7 t) _ _ _).trans ((congrArg (iblk m c 7 t) (eq_ix3_of_val _ h r d ?_ ?_ ?_)).trans ((tab_xi m c t h r d).trans (wide_apply _ h r d)))
    · show h.val % 8 + 1 * 0 = h.val; omega
    · show 0 + 1 * r.val = r.val; omega
    · show 0 + 1 * d.val = d.val; omega
  zeta h r d := by
    have hh := h.isLt
    refine (Memref.IsWhole.readAt_unread (hs0_8 t) _ _ _).trans ((congrArg (iblk m c 8 t) (eq_ix3_of_val _ h r d ?_ ?_ ?_)).trans ((tab_zeta m c t h r d).trans (wide_apply _ h r d)))
    · show h.val % 8 + 1 * 0 = h.val; omega
    · show 0 + 1 * r.val = r.val; omega
    · show 0 + 1 * d.val = d.val; omega
  g h d := by
    have hh := h.isLt
    refine (Memref.IsWhole.readAt_unread (hs0_9 t) _ _ _).trans ((congrArg (iblk m c 9 t) (eq_ix3_of_val _ h 0 d ?_ ?_ ?_)).trans ((tab_g m c t h d).trans (wideHead_apply _ h d)))
    · show h.val % 8 + 1 * 0 = h.val; omega
    · rfl
    · show 0 + 1 * d.val = d.val; omega
  rn h d := by
    have hh := h.isLt
    refine (Memref.IsWhole.readAt_unread (hs0_10 t) _ _ _).trans ((congrArg (iblk m c 10 t) (eq_ix2_of_val _ 0 ⟨128 * h.val + d.val, by omega⟩ ?_ ?_)).trans ((tab_norm m c t _).trans (norm_row _ h d)))
    · rfl
    · show 128 * (h.val % 8) + 1 * d.val = 128 * h.val + d.val; omega

end Cert.Proof.Ret

end
-- ==== Proof.Ret.Final.lean ====
/-
  The retention kernel's two result arrays: the gated rows, block by block, and the stacked states, whose second layer
  each batch's last point writes.
-/
module

public import proofs.«01_k».proof.Proof.Gen.KernelIdeal.Value
public import Idealize.ShloMosaic.Lib.VecWindow
public import proofs.«01_k».proof.Proof.Ret.Fit

@[expose] public section

set_option maxRecDepth 16384

noncomputable section

namespace Cert.Proof.Ret

open Cert.Proof.Common Cert.KernelIdeal Cert.KernelIdeal.Gen Idealize.ShloMosaic Idealize.ShloMosaic.TcCoe Idealize.SL.Sem
open Idealize.ShloMosaic.Pipeline (Dat)

section Last
variable {F : FTy → Type} [FloatOps F]
variable (c : Dev nD) (i : grid0.Coords)
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x1024 .f32) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S8x64x64 .f32) (harg8 : arg8.IsWhole)
  (arg9 : Memref sig .tc .vmem S8x64x128 .f32) (harg9 : arg9.IsWhole)
  (arg10 : Memref sig .tc .vmem S8x64x128 .f32) (harg10 : arg10.IsWhole)
  (arg11 : Memref sig .tc .vmem S8x1x128 .f32) (harg11 : arg11.IsWhole)
  (arg12 : Memref sig .tc .vmem S1x1024 .f32) (harg12 : arg12.IsWhole)
  (arg14 : Memref sig .tc .vmem S1x512x1024 .bf16) (harg14 : arg14.IsWhole)
  (arg15 : Memref sig .tc .vmem S1x1x8x128x128 .f32) (harg15 : arg15.IsWhole)
  (arg16 : Memref sig .tc .vmem S8x128x128 .f32) (harg16 : arg16.IsWhole)
  (x0 x1 x2 x3 : Vec F S1x512x1024 .f32) (x4 x5 : Vec F S512x128 .f32) (x6 : Vec F S8x64x64 .f32) (x7 x8 : Vec F S8x64x128 .f32)
  (x9 : Vec F S8x1x128 .f32) (x10 : Vec F S1x1024 .f32)

/-- A batch's last point stores the whole scratch as the state block. -/
theorem last_C (hc0 : ¬cond0_0 i) (hc1 : cond0_1 i) (xs : Vec F S8x128x128 .f32) :
    (kernelRun0_C c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs).2.1
      = [⟨Rect.unit ![0, 0, 0, 0, 0] S1x1x8x128x128.size inb_S1x1x8x128x128_S1x1x8x128x128_0_0_0_0_0,
          shapeCast S1x1x8x128x128
            (arg16.view.readCov (Val := Elt F) (statePieces (loads arg2 harg2 arg3 harg3 arg4 harg4 arg5 harg5 arg6 harg6 arg7 harg7 arg8 harg8 arg9 harg9 arg10 harg10 arg11 harg11 arg12 harg12 x0 x1 x2 x3 x4 x5 x6 x7 x8 x9 x10) (carried arg16 harg16 xs))
              (Rect.unit ![0, 0, 0] S8x128x128.size inb_S8x128x128_S8x128x128_0_0_0).toLoadRect)
            shapeCasts_S8x128x128_S1x1x8x128x128⟩] := by
  sl_kernel_rfl

end Last

theorem cube_apply (X : FVec Ideal S8x128x128 .f32) (h : Fin 8) (i j : Fin 128) :
    (shapeCast S1x1x8x128x128 X shapeCasts_S8x128x128_S1x1x8x128x128 : FVec Ideal S1x1x8x128x128 .f32) (ix5 0 0 h i j) = X (ix3 h i j) := by
  pointwise []

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

variable (m : (ℓ : Loc nD τ sig) → Buf (Elt Ideal) ℓ) (c : Dev nD)

/-- The reference's results of the kernel's arguments. -/
def outRows : Vec Ideal S4x4096x1024 .bf16 :=
  Cert.ReferenceIdeal.Step.R_main_v159 (states (m ((c : Thread nD τ).loc main_arg0)) 64) (m ((c : Thread nD τ).loc main_arg0))
    (m ((c : Thread nD τ).loc main_arg1))

def outStates : Vec Ideal S2x4x8x128x128 .f32 :=
  Cert.ReferenceIdeal.Step.R_main_v164 (states (m ((c : Thread nD τ).loc main_arg0)) 64) (m ((c : Thread nD τ).loc main_arg2))

/-- What a point writes back of the rows is its block of the reference's. -/
theorem rows_flushed (t : Fin cfg0.N) :
    (dats m 0 c).flushed 11 t = ((cfg0.win 11).blk t).view.read (Elt Ideal) (outRows m c) := by
  have hN : t.val < 32 := t.isLt.trans_eq N_0
  obtain ⟨-, -, -, -, -, -, -, -, -, -, -, i11, -⟩ := idx t
  rw [Cert.KernelIdeal.Value.flushed11]
  obtain ⟨S0, hS, ⟨f, hf⟩, -⟩ := done m c (fits m c) t.val t.isLt
  funext y
  obtain ⟨r, l, rfl⟩ : ∃ (r : Fin 512) (l : Fin 1024), y = ix3 0 r l := ⟨y 1, y 2, (eq_ix3 (show S1x512x1024.Idx from y)).trans (by congr 1; exact Subsingleton.elim _ _)⟩
  show (outsAt0 m c t.val t.isLt).1 (ix3 0 r l) = _
  rw [hf]
  have er : ix3 (0 : Fin 1) r l = ix3 0 ⟨64 * (⟨r.val / 64, by omega⟩ : Fin 8).val + (⟨r.val % 64, by omega⟩ : Fin 64).val, by simp; omega⟩
      ⟨128 * (⟨l.val / 128, by omega⟩ : Fin 8).val + (⟨l.val % 128, by omega⟩ : Fin 128).val, by simp; omega⟩ :=
    eq_ix3_of_val _ _ _ _ rfl (by simp; omega) (by simp; omega)
  refine (congrArg _ er).trans ((read_tiles _ f (pt m c t) S0 _ _ _ _).trans ((tile_eq (fits m c t) S0 hS _ _ _ _).trans ?_))
  rw [View.read_apply, cast_eq]
  exact congrArg (outRows m c) (eq_ix3_of_val _ _ _ _ ((emb_row win0_11 t _ 0 _ _ rfl i11.1 rfl).trans (by simp [bat]))
    ((emb_row win0_11 t _ 1 _ _ rfl i11.2.1 rfl).trans (by simp [seqRow, chunkOf, pos]; omega))
    ((emb_row win0_11 t _ 2 _ _ rfl i11.2.2 rfl).trans (by simp; omega))).symm

/-- The blocks tile the rows. -/
theorem rows_cover (i : S4x4096x1024.Idx) :
    ∃ t : Fin cfg0.N, (cfg0.win 11).flush t = true ∧ i ∈ ((cfg0.win 11).blk t).view.set := by
  have h0 : (i 0).val < 4 := (i 0).isLt
  have h1 : (i 1).val < 4096 := (i 1).isLt
  have hN : cfg0.N = 32 := N_0
  have ht : 8 * (i 0).val + (i 1).val / 512 < cfg0.N := by omega
  obtain ⟨-, -, -, -, -, -, -, -, -, -, -, i11, -⟩ := idx ⟨8 * (i 0).val + (i 1).val / 512, ht⟩
  refine ⟨⟨_, ht⟩, flush0_11 _, ?_⟩
  have h : ((cfg0.win 11).blk ⟨_, ht⟩).view.emb (ix3 0 ⟨(i 1).val % 512, Nat.mod_lt _ (by decide)⟩ (i 2)) = i :=
    (eq_ix3_of_val _ (i 0) (i 1) (i 2) ((emb_row win0_11 _ _ 0 _ _ rfl i11.1 rfl).trans (by simp; omega))
      ((emb_row win0_11 _ _ 1 _ _ rfl i11.2.1 rfl).trans (by simp; omega)) ((emb_row win0_11 _ _ 2 _ _ rfl i11.2.2 rfl).trans (by simp))).trans (eq_ix3 i).symm
  have h' := View.emb_mem_set ((cfg0.win 11).blk ⟨_, ht⟩).view (ix3 0 ⟨(i 1).val % 512, Nat.mod_lt _ (by decide)⟩ (i 2))
  rwa [h] at h'

theorem rows_final : (dats m 0 c).arrAt 11 cfg0.N = outRows m c :=
  (dats m 0 c).arrAt_eq_of_cover 11 (outRows m c) (fun t _ => rows_flushed m c t) rows_cover

/-- The store of the whole scratch, as the state block: the block holds the states. -/
def lastPieces (L : Loads Ideal) (S0 : ℕ → FVec Ideal S128x128 .f32) : List (View.Piece (Elt Ideal) S1x1x8x128x128 .f32) :=
  [⟨Rect.unit ![0, 0, 0, 0, 0] S1x1x8x128x128.size inb_S1x1x8x128x128_S1x1x8x128x128_0_0_0_0_0,
    shapeCast S1x1x8x128x128
      (scM0_0.view.readCov (Val := Elt Ideal) (statePieces L S0)
        (Rect.unit ![0, 0, 0] S8x128x128.size inb_S8x128x128_S8x128x128_0_0_0).toLoadRect)
      shapeCasts_S8x128x128_S1x1x8x128x128⟩]

theorem whole_idx (h : Fin 8) (i j : Fin 128) :
    (Rect.unit (s := S8x128x128) ![0, 0, 0] S8x128x128.size inb_S8x128x128_S8x128x128_0_0_0).toLoadRect.idx (ix3 h i j) = ix3 h i j :=
  eq_ix3_of_val _ _ _ _ (by show 0 + 1 * h.val = h.val; omega) (by show 0 + 1 * i.val = i.val; omega) (by show 0 + 1 * j.val = j.val; omega)

theorem read_last (f) (L : Loads Ideal) (S0 : ℕ → FVec Ideal S128x128 .f32) (h : Fin 8) (i j : Fin 128) :
    VO0_12.read (Elt Ideal) (VO0_12.writes (Elt Ideal) f (lastPieces L S0)) (ix5 0 0 h i j) = L.state S0 h 8 (ix2 i j) := by
  unfold lastPieces
  refine (congrFun (View.read_writes_full VO0_12 f inb_S1x1x8x128x128_S1x1x8x128x128_0_0_0_0_0 _ []) _).trans ?_
  refine (cube_apply _ h i j).trans ?_
  refine Eq.trans ?_ (read_states scM0_0.view scM0_0.view.junk L S0 h i j)
  exact congrArg (scM0_0.view.read (Elt Ideal) (scM0_0.view.writes (Elt Ideal) scM0_0.view.junk (statePieces L S0))) (whole_idx h i j)

/-- What a batch's last point stores as its state block. -/
theorem last_stored (t t' : Fin cfg0.N) (ht : t'.val + 1 = t.val) (h1 : t.val % 8 = 7) :
    (outsAt0 m c t.val t.isLt).2.1 = VO0_12.read (Elt Ideal) (VO0_12.writes (Elt Ideal) VO0_12.junk
      (lastPieces (pt m c t) (carried scM0_0 (Memref.isWhole_whole _) ((outsAt0 m c t'.val t'.isLt).2.2)))) := by
  have h0 : ¬t.val % 8 = 0 := by omega
  have e : t.val - 1 = t'.val := by omega
  have ex : ∀ q, (outsAt0 m c (t.val - 1) q).2.2 = (outsAt0 m c t'.val t'.isLt).2.2 := by rw [e]; intro _; rfl
  rw [outsAt0_C m c t h0 h1, ← ex]
  dsimp only
  unfold out0_C_12
  rw [last_C]
  rfl

theorem last_block (t : Fin cfg0.N) (h1 : t.val % 8 = 7) (h : Fin 8) (i j : Fin 128) :
    (outsAt0 m c t.val t.isLt).2.1 (ix5 0 0 h i j)
      = (states (m ((c : Thread nD τ).loc main_arg0)) 64).main_v130_8 (ix4 (bat t) h i j) := by
  have h0 : ¬t.val % 8 = 0 := by omega
  have hp : (pos t).val = 7 := h1
  have hlt : t.val - 1 < cfg0.N := lt_of_le_of_lt (Nat.sub_le _ _) t.isLt
  have ht : (⟨t.val - 1, hlt⟩ : Fin cfg0.N).val + 1 = t.val := by show t.val - 1 + 1 = t.val; omega
  rw [last_stored m c t ⟨t.val - 1, hlt⟩ ht h1]
  refine (read_last _ _ _ h i j).trans ((state_eq (fits m c t) _
    (carried_eq m c (fits m c) t ⟨t.val - 1, hlt⟩ ht h0 (done m c (fits m c) _ hlt)) h 8 (le_refl _) i j).trans ?_)
  rw [hp]

/-- The second layer's states are the loop's last, the first layer's the ones passed in. -/
theorem entry_states : (V m c (Pipeline.arrRef spec0 12) : FVec Ideal S2x4x8x128x128 .f32) = m ((c : Thread nD τ).loc main_arg2) := by
  show StableHlo.after (List.flatten [hostOps0, hostOps0_1, hostOps0_2]) _ (Proc.devRef .tc main_v70_1) = _
  simp only [hostOps0, hostOps0_1, hostOps0_2, List.flatten_cons, List.flatten_nil, List.append_nil, List.cons_append, List.nil_append]
  after_results; rfl

theorem states_flushed (t : Fin cfg0.N) (hf : (cfg0.win 12).flush t = true) :
    (dats m 0 c).flushed 12 t = ((cfg0.win 12).blk t).view.read (Elt Ideal) (outStates m c) := by
  obtain ⟨-, -, -, -, -, -, -, -, -, -, -, -, i12⟩ := idx t
  have h1 := (flush0_12 t).1 hf
  rw [Cert.KernelIdeal.Value.flushed12]
  funext y
  obtain ⟨h, i, j, rfl⟩ : ∃ (h : Fin 8) (i j : Fin 128), y = ix5 0 0 h i j :=
    ⟨y 2, y 3, y 4, (eq_ix5 (show S1x1x8x128x128.Idx from y)).trans (by congr 1 <;> exact Subsingleton.elim _ _)⟩
  show (outsAt0 m c t.val t.isLt).2.1 (ix5 0 0 h i j) = _
  rw [last_block m c t h1, View.read_apply, cast_eq]
  refine (stacked_one _ (m ((c : Thread nD τ).loc main_arg2)) (bat t) h i j).symm.trans ?_
  exact congrArg (outStates m c) (eq_ix5_of_val _ _ _ _ _ _ ((emb_row win0_12 t _ 0 _ _ rfl i12.1 rfl).trans (by simp))
    ((emb_row win0_12 t _ 1 _ _ rfl i12.2.1 rfl).trans (by simp [bat])) ((emb_row win0_12 t _ 2 _ _ rfl i12.2.2.1 rfl).trans (by simp))
    ((emb_row win0_12 t _ 3 _ _ rfl i12.2.2.2.1 rfl).trans (by simp)) ((emb_row win0_12 t _ 4 _ _ rfl i12.2.2.2.2 rfl).trans (by simp))).symm

/-- The blocks written back tile the second layer. -/
theorem states_cover (b : Fin 4) (h : Fin 8) (x y : Fin 128) :
    ∃ t : Fin cfg0.N, (cfg0.win 12).flush t = true ∧ (ix5 (1 : Fin 2) b h x y) ∈ ((cfg0.win 12).blk t).view.set := by
  have hN : cfg0.N = 32 := N_0
  have ht : 8 * b.val + 7 < cfg0.N := by omega
  obtain ⟨-, -, -, -, -, -, -, -, -, -, -, -, i12⟩ := idx ⟨8 * b.val + 7, ht⟩
  refine ⟨⟨8 * b.val + 7, ht⟩, (flush0_12 _).2 (by show (8 * b.val + 7) % 8 = 7; omega), ?_⟩
  have he : ((cfg0.win 12).blk ⟨8 * b.val + 7, ht⟩).view.emb (ix5 0 0 h x y) = ix5 1 b h x y :=
    eq_ix5_of_val _ _ _ _ _ _ ((emb_row win0_12 _ _ 0 _ _ rfl i12.1 rfl).trans (by simp))
      ((emb_row win0_12 _ _ 1 _ _ rfl i12.2.1 rfl).trans (by simp; omega)) ((emb_row win0_12 _ _ 2 _ _ rfl i12.2.2.1 rfl).trans (by simp))
      ((emb_row win0_12 _ _ 3 _ _ rfl i12.2.2.2.1 rfl).trans (by simp)) ((emb_row win0_12 _ _ 4 _ _ rfl i12.2.2.2.2 rfl).trans (by simp))
  have h' := View.emb_mem_set ((cfg0.win 12).blk ⟨8 * b.val + 7, ht⟩).view (ix5 0 0 h x y)
  rwa [he] at h'

theorem states_zero (b : Fin 4) (h : Fin 8) (x y : Fin 128) :
    (V m c (Pipeline.arrRef spec0 12) : FVec Ideal S2x4x8x128x128 .f32) (ix5 0 b h x y) = outStates m c (ix5 0 b h x y) :=
  (congrFun (entry_states m c) _).trans (stacked_zero _ _ b h x y).symm

/-- They leave the first layer as it was passed in. -/
theorem states_final : (dats m 0 c).arrAt 12 cfg0.N = outStates m c := by
  funext i
  rw [(dats m 0 c).arrAt_eq_piecewise 12 (outStates m c) (fun t hf => states_flushed m c t hf) i]
  split
  · rfl
  · rename_i hi
    rw [A_eq]
    obtain ⟨l, b, h, x, y, rfl⟩ : ∃ (l : Fin 2) (b : Fin 4) (h : Fin 8) (x y : Fin 128), i = ix5 l b h x y :=
      ⟨i 0, i 1, i 2, i 3, i 4, eq_ix5 (show S2x4x8x128x128.Idx from i)⟩
    rcases (by omega : l.val = 0 ∨ l.val = 1) with hl | hl
    · obtain rfl : l = 0 := Fin.ext hl
      exact states_zero m c b h x y
    · obtain rfl : l = 1 := Fin.ext hl
      exact absurd (states_cover b h x y) hi

end Cert.Proof.Ret

end
-- ==== Proof.Ret.Claims.lean ====
/-
  The retention's claims: the two frames from one run, the reference's frame, and the equality of the results.
-/
module

public import proofs.«01_k».proof.Defs
public import proofs.«01_k».proof.Proof.Gen.Kernel
public import proofs.«01_k».proof.Proof.Ret.Final

@[expose] public section

noncomputable section

namespace Cert.Proof.Ret

open Idealize.ShloMosaic Idealize.ShloMosaic.TcCoe Idealize.SL.Sem

/-- The kernel and its ideal reading have the same body table at words: the one label's body is the same text. -/
theorem bodies_eq : Cert.Kernel.defs₀ (F := Bits) = Cert.KernelIdeal.defs₀ (F := Bits) := by
  sl_kernel_rfl

theorem defs_eq : Cert.Kernel.defs (F := Bits) = Cert.KernelIdeal.defs (F := Bits) := by
  unfold Cert.Kernel.defs
  rw [bodies_eq]
  rfl

theorem main_eq : Cert.Kernel.main (F := Bits) = Cert.KernelIdeal.main (F := Bits) := by
  sl_kernel_rfl

theorem frame_kernel : Cert.quiescent_Kernel := by
  intro m ρ _
  rw [defs_eq, main_eq]
  exact Cert.KernelIdeal.Gen.frame (F := Bits) m ρ

theorem frame_kernelIdeal : Cert.quiescent_KernelIdeal := fun m ρ _ => Cert.KernelIdeal.Gen.frame (F := Ideal) m ρ

/-- The reference declares no semaphore, so its counters are zero at the end. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (run_states (F := Ideal) m ρ)

/-- Both runs end with the reference's results of the common arguments. -/
theorem algebraic : Cert.algebraic_KernelIdeal_ReferenceIdeal := by
  intro m ρ m' ρ' _ hagree
  refine ⟨outRows m, outStates m, ?_, ?_⟩
  · exact (θ_run Cert.KernelIdeal.defs _ _).mono
      (fun r h c => ⟨(h c).1.trans (rows_final m c), (h c).2.1.trans (states_final m c), (h c).2.2⟩)
      (Cert.KernelIdeal.Value.run_blocks (F := Ideal) m ρ)
  · refine (θ_run Cert.ReferenceIdeal.defs _ _).mono (fun r h c => ⟨(h c).1.1.trans ?_, (h c).1.2.trans ?_, (h c).2⟩)
      (run_states (F := Ideal) m' ρ')
    all_goals
      obtain ⟨a0, a1, a2⟩ := hagree c
      rw [a0]
    · rw [a1]; rfl
    · rw [a2]; rfl

end Cert.Proof.Ret

end
-- ==== Proof.Merge.Tile.lean ====
/-
  One row block of the merge, element by element: what the kernel's body computes for a block of 256 rows is
  what the reference computes for the same rows of the whole arrays.
-/
module

public import proofs.«01_k».proof.Proof.Gen.Kernel2Ideal.Skeleton
public import proofs.«01_k».proof.Proof.Gen.Reference2Ideal.Read
public import Idealize.ShloMosaic.Lib.Pointwise

@[expose] public section

set_option maxRecDepth 16384

noncomputable section

namespace Cert.Proof.Merge

open Idealize.ShloMosaic Cert.Reference2Ideal
open Cert.Kernel2Ideal.Gen (k0_pay1 k0_pay2 k0_pay3)

/-- Element `(r, j)` of the block the body writes is element `(R, j)` of the reference's result, when row `r` of every
    block is row `R` of its array: the branch outputs, the three gate column ranges, and the residual. The weights are whole. -/
theorem tile
    (X0 X1 X2 : (⟨S16384x1024, .bf16⟩ : BufTy).Contents (Elt Ideal))
    (X3 : (⟨S16384x18432, .f32⟩ : BufTy).Contents (Elt Ideal)) (X4 : (⟨S16384x2048, .f32⟩ : BufTy).Contents (Elt Ideal))
    (X5 X6 X7 : (⟨S1024x2048, .f32⟩ : BufTy).Contents (Elt Ideal)) (X8 : (⟨S2048x2048, .f32⟩ : BufTy).Contents (Elt Ideal))
    (X9 : (⟨S2048, .f32⟩ : BufTy).Contents (Elt Ideal))
    (x0 x1 x2 : Vec Ideal Cert.Kernel2Ideal.S256x1024 .bf16) (x3 x4 x5 x10 : Vec Ideal Cert.Kernel2Ideal.S256x2048 .f32)
    (x11 : Vec Ideal Cert.Kernel2Ideal.S1x2048 .f32)
    (r : Fin 256) (R : Fin 16384)
    (h0 : ∀ k : Fin 1024, x0 (ix2 r k) = X0 (ix2 R k)) (h1 : ∀ k : Fin 1024, x1 (ix2 r k) = X1 (ix2 R k))
    (h2 : ∀ k : Fin 1024, x2 (ix2 r k) = X2 (ix2 R k))
    (h3 : ∀ k : Fin 2048, x3 (ix2 r k) = X3 (ix2 R ⟨12288 + k.val, by omega⟩))
    (h4 : ∀ k : Fin 2048, x4 (ix2 r k) = X3 (ix2 R ⟨14336 + k.val, by omega⟩))
    (h5 : ∀ k : Fin 2048, x5 (ix2 r k) = X3 (ix2 R ⟨16384 + k.val, by omega⟩))
    (h10 : ∀ k : Fin 2048, x10 (ix2 r k) = X4 (ix2 R k)) (h11 : ∀ k : Fin 2048, x11 (ix2 0 k) = X9 (ix1 k))
    (j : Fin 2048) :
    k0_pay1 (F := Ideal) (k0_pay2 x3 x0 (fun i => X5 i) x4 x1 (fun i => X6 i) x5 x2 (fun i => X7 i) (fun i => X8 i))
        (k0_pay3 x3 x0 (fun i => X5 i) x4 x1 (fun i => X6 i) x5 x2 (fun i => X7 i) (fun i => X8 i))
        (Scalar.ofBits .f32 0x358637BD#32) x11 x10 (ix2 r j)
      = Read.val_main_v46 (F := Ideal) X0 X1 X2 X3 X4 X5 X6 X7 X8 X9 (ix2 R j) := by
  pointwise [k0_pay1, k0_pay2, k0_pay3, Read.val_main_v0, Read.val_main_v1, Read.val_main_v2, Read.val_main_v3, Read.val_main_v4, Read.val_main_v5, Read.val_main_v6, Read.val_main_v7, Read.val_main_cst, Read.val_main_v8, Read.val_main_v9, Read.val_main_cst_0, Read.val_main_v10, Read.val_main_v11, Read.val_main_v12, Read.val_main_v13, Read.val_main_v14, Read.val_main_v15, Read.val_main_cst_1, Read.val_main_v16, Read.val_main_v17, Read.val_main_cst_2, Read.val_main_v18, Read.val_main_v19, Read.val_main_v20, Read.val_main_v21, Read.val_main_v22, Read.val_main_v23, Read.val_main_v24, Read.val_main_cst_3, Read.val_main_v25, Read.val_main_v26, Read.val_main_cst_4, Read.val_main_v27, Read.val_main_v28, Read.val_main_v29, Read.val_main_v30, Read.val_main_v31, Read.val_main_v32, Read.val_main_v33, Read.val_main_cst_5, Read.val_main_v34, Read.val_main_v35, Read.val_main_cst_6, Read.val_main_v36, Read.val_main_v37, Read.val_main_cst_7, Read.val_main_v38, Read.val_main_v39, Read.val_main_v40, Read.val_main_v41, Read.val_main_v42, Read.val_main_v43, Read.val_main_v44, Read.val_main_v45, Read.val_main_v46]
  simp only [h0, h1, h2, h3, h4, h5, h10, h11]
  rfl

end Cert.Proof.Merge

end
-- ==== Proof.Merge.Value.lean ====
/-
  The merge's result array: every block the kernel writes back is the block of the reference's result, and the
  blocks of 256 rows tile the array.
-/
module

public import proofs.«01_k».proof.Proof.Gen.Kernel2Ideal.Value
public import proofs.«01_k».proof.Proof.Merge.Tile
public import proofs.«01_k».proof.Proof.Common.Index

@[expose] public section

set_option maxRecDepth 16384

noncomputable section

namespace Cert.Proof.Merge

open Cert.Kernel2Ideal Cert.Kernel2Ideal.Gen Cert.Proof.Common Idealize.ShloMosaic Idealize.ShloMosaic.TcCoe Idealize.SL.Sem
open Idealize.ShloMosaic.Pipeline (Dat)

variable (m : (ℓ : Loc nD τ sig) → Buf (Elt Ideal) ℓ)

/-- The reference's result of the kernel's arguments. -/
def result (c : Dev nD) : Vec Ideal S16384x2048 .f32 :=
  Cert.Reference2Ideal.Read.val_main_v46 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The block indices: a row block's is the grid point, the gates' column blocks are 6, 7 and 8, the weights' blocks are
    whole arrays. -/
theorem idx : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 6)
    ∧ (win0_4.index t 0 = t.val ∧ win0_4.index t 1 = 7) ∧ (win0_5.index t 0 = t.val ∧ win0_5.index t 1 = 8)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = t.val ∧ win0_10.index t 1 = 0) ∧ (win0_11.index t 0 = 0 ∧ win0_11.index t 1 = 0)
    ∧ (win0_12.index t 0 = t.val ∧ win0_12.index t 1 = 0) :=
  (by decide +kernel : ∀ t : Fin grid0.N, _)

/-- The staged weights and norm row when the kernel is entered: the arguments, cast or as one row. -/
theorem staged (c : Dev nD) :
    (V m c main_v0 = fun i => m ((c : Thread nD τ).loc main_arg5) i)
    ∧ (V m c main_v1 = fun i => m ((c : Thread nD τ).loc main_arg6) i)
    ∧ (V m c main_v2 = fun i => m ((c : Thread nD τ).loc main_arg7) i)
    ∧ (V m c main_v3 = fun i => m ((c : Thread nD τ).loc main_arg8) i)
    ∧ V m c main_v4 = broadcastInDim S1x2048 ![1] bcast_S2048_S1x2048_1 (m ((c : Thread nD τ).loc main_arg9)) := by
  refine ⟨?_, ?_, ?_, ?_, ?_⟩
  · show StableHlo.after hostOps0 _ (Proc.devRef .tc main_v0) = _
    after_results; rfl
  · show StableHlo.after hostOps0 _ (Proc.devRef .tc main_v1) = _
    after_results; rfl
  · show StableHlo.after hostOps0 _ (Proc.devRef .tc main_v2) = _
    after_results; rfl
  · show StableHlo.after hostOps0 _ (Proc.devRef .tc main_v3) = _
    after_results; rfl
  · show StableHlo.after hostOps0 _ (Proc.devRef .tc main_v4) = _
    after_results

theorem hz : (![0, 0] : Fin 2 → Nat) = fun _ => 0 := funext fun a => by fin_cases a <;> rfl

/-- Reading a window's array through its block: the element of the array at the block's place. -/
theorem iblk_apply (c : Dev nD) (w : Fin cfg0.W) (t : Fin cfg0.N) (y) :
    iblk m c w t y = cast (congrArg (Elt Ideal) ((cfg0.win w).blk t).view.elt_eq)
      (V m c (Pipeline.arrRef spec0 w) (((cfg0.win w).blk t).view.emb y)) := by
  unfold iblk; rw [View.read_apply]

/-- Where element `(r, k)` of a window's block lies in its array, from the block's indices. -/
theorem emb_row (w : Pipeline.Window sig grid0) (t : Fin grid0.N) (y : (w.xblock (grid0.coords t)).Idx)
    (a : Fin w.shape.rank) (n s : ℕ) (hk : w.kind = .blocked) (hn : w.index t a = n) (hs : w.size a = s) :
    ((w.rect t).emb y a : Nat) = n * s + y a := by
  rw [w.rect_emb_val t y a hk, hn, hs]

/-- What point `t` writes back is block `t` of the reference's result. -/
theorem flushed_eq (c : Dev nD) (t : Fin cfg0.N) :
    (dats m 0 c).flushed 12 t = ((cfg0.win 12).blk t).view.read (Elt Ideal) (result m c) := by
  have hN : t.val < 64 := t.isLt.trans_eq N_0
  obtain ⟨i0, i1, i2, i3, i4, i5, i6, i7, i8, i9, i10, i11, i12⟩ := idx t
  obtain ⟨s0, s1, s2, s3, s4⟩ := staged m c
  rw [Cert.Kernel2Ideal.Value.flushed12]
  funext y
  obtain ⟨r, j, rfl⟩ : ∃ (r : Fin 256) (j : Fin 2048), y = ix2 r j := ⟨y 0, y 1, eq_ix2 y⟩
  show out0_12 _ _ _ _ _ _ _ _ _ _ _ _ (ix2 r j) = _
  unfold out0_12
  rw [View.canon_unit_zero hz]
  repeat rw [View.ld_unit_zero hz]
  have e6 : (iblk m c 6 t : Vec Ideal S1024x2048 .bf16) = fun i => m ((c : Thread nD τ).loc main_arg5) i := by
    refine Eq.trans (funext fun y => ?_) s0
    rw [iblk_apply, cast_eq]
    exact congrArg (V m c main_v0) (((eq_ix2_of_val _ (y 0) (y 1)
      ((emb_row win0_6 t y 0 0 _ rfl i6.1 rfl).trans (by omega)) ((emb_row win0_6 t y 1 0 _ rfl i6.2 rfl).trans (by omega)))).trans (eq_ix2 y).symm)
  have e7 : (iblk m c 7 t : Vec Ideal S1024x2048 .bf16) = fun i => m ((c : Thread nD τ).loc main_arg6) i := by
    refine Eq.trans (funext fun y => ?_) s1
    rw [iblk_apply, cast_eq]
    exact congrArg (V m c main_v1) (((eq_ix2_of_val _ (y 0) (y 1)
      ((emb_row win0_7 t y 0 0 _ rfl i7.1 rfl).trans (by omega)) ((emb_row win0_7 t y 1 0 _ rfl i7.2 rfl).trans (by omega)))).trans (eq_ix2 y).symm)
  have e8 : (iblk m c 8 t : Vec Ideal S1024x2048 .bf16) = fun i => m ((c : Thread nD τ).loc main_arg7) i := by
    refine Eq.trans (funext fun y => ?_) s2
    rw [iblk_apply, cast_eq]
    exact congrArg (V m c main_v2) (((eq_ix2_of_val _ (y 0) (y 1)
      ((emb_row win0_8 t y 0 0 _ rfl i8.1 rfl).trans (by omega)) ((emb_row win0_8 t y 1 0 _ rfl i8.2 rfl).trans (by omega)))).trans (eq_ix2 y).symm)
  have e9 : (iblk m c 9 t : Vec Ideal S2048x2048 .bf16) = fun i => m ((c : Thread nD τ).loc main_arg8) i := by
    refine Eq.trans (funext fun y => ?_) s3
    rw [iblk_apply, cast_eq]
    exact congrArg (V m c main_v3) (((eq_ix2_of_val _ (y 0) (y 1)
      ((emb_row win0_9 t y 0 0 _ rfl i9.1 rfl).trans (by omega)) ((emb_row win0_9 t y 1 0 _ rfl i9.2 rfl).trans (by omega)))).trans (eq_ix2 y).symm)
  rw [e6, e7, e8, e9]
  have R : 256 * t.val + r.val < 16384 := by omega
  refine (tile (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) _ _ _ _ _ _ _ _ r ⟨256 * t.val + r.val, R⟩ ?_ ?_ ?_ ?_ ?_ ?_ ?_ ?_ j).trans ?_
  · intro k
    rw [iblk_apply, cast_eq, ← V_main_arg0 m c]
    exact congrArg (V m c main_arg0) (eq_ix2_of_val _ _ _ ((emb_row win0_0 t _ 0 _ _ rfl i0.1 rfl).trans (by simp; omega)) ((emb_row win0_0 t _ 1 _ _ rfl i0.2 rfl).trans (by simp)))
  · intro k
    rw [iblk_apply, cast_eq, ← V_main_arg1 m c]
    exact congrArg (V m c main_arg1) (eq_ix2_of_val _ _ _ ((emb_row win0_1 t _ 0 _ _ rfl i1.1 rfl).trans (by simp; omega)) ((emb_row win0_1 t _ 1 _ _ rfl i1.2 rfl).trans (by simp)))
  · intro k
    rw [iblk_apply, cast_eq, ← V_main_arg2 m c]
    exact congrArg (V m c main_arg2) (eq_ix2_of_val _ _ _ ((emb_row win0_2 t _ 0 _ _ rfl i2.1 rfl).trans (by simp; omega)) ((emb_row win0_2 t _ 1 _ _ rfl i2.2 rfl).trans (by simp)))
  · intro k
    rw [iblk_apply, cast_eq, ← V_main_arg3 m c]
    exact congrArg (V m c main_arg3) (eq_ix2_of_val _ _ _ ((emb_row win0_3 t _ 0 _ _ rfl i3.1 rfl).trans (by simp; omega)) ((emb_row win0_3 t _ 1 _ _ rfl i3.2 rfl).trans (by simp)))
  · intro k
    rw [iblk_apply, cast_eq, ← V_main_arg3 m c]
    exact congrArg (V m c main_arg3) (eq_ix2_of_val _ _ _ ((emb_row win0_4 t _ 0 _ _ rfl i4.1 rfl).trans (by simp; omega)) ((emb_row win0_4 t _ 1 _ _ rfl i4.2 rfl).trans (by simp)))
  · intro k
    rw [iblk_apply, cast_eq, ← V_main_arg3 m c]
    exact congrArg (V m c main_arg3) (eq_ix2_of_val _ _ _ ((emb_row win0_5 t _ 0 _ _ rfl i5.1 rfl).trans (by simp; omega)) ((emb_row win0_5 t _ 1 _ _ rfl i5.2 rfl).trans (by simp)))
  · intro k
    rw [iblk_apply, cast_eq, ← V_main_arg4 m c]
    exact congrArg (V m c main_arg4) (eq_ix2_of_val _ _ _ ((emb_row win0_10 t _ 0 _ _ rfl i10.1 rfl).trans (by simp; omega)) ((emb_row win0_10 t _ 1 _ _ rfl i10.2 rfl).trans (by simp)))
  · intro k
    rw [iblk_apply, cast_eq]
    refine (congrArg (V m c main_v4) (eq_ix2_of_val _ 0 k ((emb_row win0_11 t _ 0 _ _ rfl i11.1 rfl).trans (by simp)) ((emb_row win0_11 t _ 1 _ _ rfl i11.2 rfl).trans (by simp)))).trans ?_
    rw [s4]; pointwise []
  · rw [View.read_apply, cast_eq]
    exact congrArg (result m c) (eq_ix2_of_val _ _ _ ((emb_row win0_12 t _ 0 _ _ rfl i12.1 rfl).trans (by simp; omega)) ((emb_row win0_12 t _ 1 _ _ rfl i12.2 rfl).trans (by simp))).symm

/-- The row blocks tile the result array. -/
theorem cover (i : S16384x2048.Idx) :
    ∃ t : Fin cfg0.N, (cfg0.win 12).flush t = true ∧ i ∈ ((cfg0.win 12).blk t).view.set := by
  have h0 : (i 0).val < 16384 := (i 0).isLt
  have hN : cfg0.N = 64 := N_0
  have ht : (i 0).val / 256 < cfg0.N := by omega
  obtain ⟨-, -, -, -, -, -, -, -, -, -, -, -, i12⟩ := idx ⟨(i 0).val / 256, ht⟩
  refine ⟨⟨(i 0).val / 256, ht⟩, flush0_12 _, ?_⟩
  have h : ((cfg0.win 12).blk ⟨(i 0).val / 256, ht⟩).view.emb (ix2 ⟨(i 0).val % 256, Nat.mod_lt _ (by decide)⟩ (i 1)) = i :=
    (eq_ix2_of_val _ _ _ ((emb_row win0_12 _ _ 0 _ _ rfl i12.1 rfl).trans (by simp; omega))
      ((emb_row win0_12 _ _ 1 _ _ rfl i12.2 rfl).trans (by simp))).trans (eq_ix2 i).symm
  have h' := View.emb_mem_set ((cfg0.win 12).blk ⟨(i 0).val / 256, ht⟩).view (ix2 ⟨(i 0).val % 256, Nat.mod_lt _ (by decide)⟩ (i 1))
  rwa [h] at h'

/-- So the result array ends holding the reference's result. -/
theorem final (c : Dev nD) : (dats m 0 c).arrAt 12 cfg0.N = result m c :=
  (dats m 0 c).arrAt_eq_of_cover 12 (result m c) (fun t _ => flushed_eq m c t) cover

end Cert.Proof.Merge

end
-- ==== Proof.Merge.Claims.lean ====
/-
  The merge's claims: the two frames from one run, the reference's frame, and the equality of the two results.
-/
module

public import proofs.«01_k».proof.Defs
public import proofs.«01_k».proof.Proof.Gen.Kernel2
public import proofs.«01_k».proof.Proof.Merge.Value

@[expose] public section

noncomputable section

namespace Cert.Proof.Merge

open Idealize.ShloMosaic Idealize.ShloMosaic.TcCoe Idealize.SL.Sem

/-- The kernel and its ideal reading have the same body table at words: the one label's body is the same text. -/
theorem bodies_eq : Cert.Kernel2.defs₀ (F := Bits) = Cert.Kernel2Ideal.defs₀ (F := Bits) := by
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel2.defs (F := Bits) = Cert.Kernel2Ideal.defs (F := Bits) := by
  unfold Cert.Kernel2.defs
  rw [bodies_eq]
  rfl

theorem frame_kernel : Cert.quiescent_Kernel2 := by
  intro m ρ _
  rw [defs_eq]
  exact Cert.Kernel2Ideal.Gen.frame (F := Bits) m ρ

theorem frame_kernelIdeal : Cert.quiescent_Kernel2Ideal := fun m ρ _ => Cert.Kernel2Ideal.Gen.frame (F := Ideal) m ρ

/-- The reference declares no semaphore, so its counters are zero at the end. -/
theorem frame_referenceIdeal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both runs end with the reference's result of the common arguments. -/
theorem algebraic : Cert.algebraic_Kernel2Ideal_Reference2Ideal := by
  intro m ρ m' ρ' _ hagree
  refine ⟨result m, ?_, ?_⟩
  · exact (θ_run Cert.Kernel2Ideal.defs _ _).mono (fun r h c => ⟨(h c).1.trans (final m c), (h c).2⟩)
      (Cert.Kernel2Ideal.Value.run_blocks (F := Ideal) m ρ)
  · refine (θ_run Cert.Reference2Ideal.defs _ _).mono (fun r h c => ⟨(h c).1.trans ?_, (h c).2⟩)
      (Cert.Reference2Ideal.Value.run (F := Ideal) m' ρ')
    obtain ⟨a0, a1, a2, a3, a4, a5, a6, a7, a8, a9⟩ := hagree c
    rw [Cert.Reference2Ideal.Read.val_main_v46_eq, a0, a1, a2, a3, a4, a5, a6, a7, a8, a9]
    rfl

end Cert.Proof.Merge

end
-- ==== Proof.Inproj.Body.lean ====
/-
  The input projection's body at a grid point, as a triple: at the first column block of a row block it leaves the
  normed rows in scratch and stores the gate columns, and at every column block it stores scratch times the weights.
-/
module

public import proofs.«01_k».proof.Proof.Gen.Kernel3Ideal.Frame
public import proofs.«01_k».proof.Proof.Gen.Kernel3Ideal.Skeleton
public import Idealize.ShloMosaic.Lib.Pipeline.Value
public import Idealize.ShloMosaic.Lib.VecWindow
public import Idealize.ShloMosaic.Lib.Pipeline.TableIdle

@[expose] public section

set_option maxRecDepth 16384

noncomputable section

namespace Cert.Proof.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (UR sig nD τ) ℕ

theorem zero_off : (![0, 0] : Fin 2 → ℕ) = fun _ => 0 := by decide

/-- A load of a whole buffer reads its contents. -/
theorem load_whole {S : Shape} {e : EltTy} (a : Memref sig .tc .vmem S e) (ha : a.IsWhole) {off : Fin S.rank → ℕ} (ho : off = fun _ => 0)
    (inb : ∀ k, off k + S.size k ≤ S.size k) (X : S.Idx → Elt F e) :
    View.readAt (Elt F) a.view (Rect.unit off S.size inb).toLoadRect (ha.unread X) = X := by
  rw [View.readAt_eq_ld, ha.read_unread]
  exact View.ld_unit_zero ho inb X

/-- The first column block of a row block. -/
theorem body_first (c : Dev nD) (i : grid0.Coords)
    (arg2 : Memref sig .tc .vmem S1024x2048 .f32) (harg2 : arg2.IsWhole) (arg3 : Memref sig .tc .vmem S1x2048 .f32) (harg3 : arg3.IsWhole)
    (arg4 : Memref sig .tc .vmem S2048x2048 .bf16) (harg4 : arg4.IsWhole) (arg5 : Memref sig .tc .vmem S128x2048 .bf16) (harg5 : arg5.IsWhole)
    (arg6 : Memref sig .tc .vmem S1024x2048 .f32) (harg6 : arg6.IsWhole) (arg7 : Memref sig .tc .vmem S1024x128 .f32) (harg7 : arg7.IsWhole)
    (arg8 : Memref sig .tc .vmem S1024x2048 .bf16) (harg8 : arg8.IsWhole) (hc : k0_cond1 i = 1#1)
    (x : Vec F S1024x2048 .f32) (g : Vec F S1x2048 .f32) (wm : Vec F S2048x2048 .bf16) (wg : Vec F S128x2048 .bf16)
    (E : Set ℕ) (K : PUnit → sProp 𝕄) :
    iprop(owns (c : Thread nD τ) arg2 fullShare x ∗ owns (c : Thread nD τ) arg3 fullShare g ∗ owns (c : Thread nD τ) arg4 fullShare wm
        ∗ owns (c : Thread nD τ) arg5 fullShare wg ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x ∗ owns (c : Thread nD τ) arg3 fullShare g ∗ owns (c : Thread nD τ) arg4 fullShare wm
            ∗ owns (c : Thread nD τ) arg5 fullShare wg ∗ owns (c : Thread nD τ) arg6 fullShare (k0_pay4 (k0_pay2 x g) wm)
            ∗ owns (c : Thread nD τ) arg7 fullShare (k0_pay3 x g wg) ∗ owns (c : Thread nD τ) arg8 fullShare (k0_pay2 x g)) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, Hk⟩
  obtain rfl := harg2.eq_unread h2; obtain rfl := harg3.eq_unread h3; obtain rfl := harg4.eq_unread h4; obtain rfl := harg5.eq_unread h5
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _
    isplitr
    swap; · iexact H6
    ipureintro
    refine (View.read_writes_full _ _ _ _ _).trans ?_
    unfold body_first.sl.v3 body_first.sl.H8_1
    rw [View.readCov_unit_zero _ zero_off, load_whole _ harg2 zero_off, load_whole _ harg3 zero_off, load_whole _ harg4 zero_off]
  isplitl [H7]
  · iexists _
    isplitr
    swap; · iexact H7
    ipureintro
    refine (View.read_writes_full _ _ _ _ _).trans ?_
    rw [load_whole _ harg2 zero_off, load_whole _ harg3 zero_off, load_whole _ harg5 zero_off]
  iexists _
  isplitr
  swap; · iexact H8
  ipureintro
  refine (View.read_writes_full _ _ _ _ _).trans ?_
  rw [load_whole _ harg2 zero_off, load_whole _ harg3 zero_off]

/-- The later column blocks: the gate buffer and the scratch are left as they were. -/
theorem body_later (c : Dev nD) (i : grid0.Coords)
    (arg2 : Memref sig .tc .vmem S1024x2048 .f32) (harg2 : arg2.IsWhole) (arg3 : Memref sig .tc .vmem S1x2048 .f32) (harg3 : arg3.IsWhole)
    (arg4 : Memref sig .tc .vmem S2048x2048 .bf16) (harg4 : arg4.IsWhole) (arg5 : Memref sig .tc .vmem S128x2048 .bf16) (harg5 : arg5.IsWhole)
    (arg6 : Memref sig .tc .vmem S1024x2048 .f32) (harg6 : arg6.IsWhole) (arg7 : Memref sig .tc .vmem S1024x128 .f32) (harg7 : arg7.IsWhole)
    (arg8 : Memref sig .tc .vmem S1024x2048 .bf16) (harg8 : arg8.IsWhole) (hc : ¬k0_cond1 i = 1#1)
    (wm : Vec F S2048x2048 .bf16) (h : Vec F S1024x2048 .bf16) (E : Set ℕ) (K : PUnit → sProp 𝕄) :
    iprop(owns (c : Thread nD τ) arg4 fullShare wm ∗ (∃ d, owns (c : Thread nD τ) arg6 fullShare d) ∗ owns (c : Thread nD τ) arg8 fullShare h
        ∗ (iprop(owns (c : Thread nD τ) arg4 fullShare wm ∗ owns (c : Thread nD τ) arg6 fullShare (k0_pay4 h wm)
            ∗ owns (c : Thread nD τ) arg8 fullShare h) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f4, %h4, H4⟩, ⟨%d6, %f6, -, H6⟩, ⟨%f8, %h8, H8⟩, Hk⟩
  obtain rfl := harg4.eq_unread h4; obtain rfl := harg8.eq_unread h8
  sl_exec (disch := first | sl_exact hc)
  sl_step
  iapply Hk
  isplitl [H4]
  · iexists _; isplitr; · ipureintro; exact harg4.read_unread _
    iexact H4
  isplitl [H6]
  · iexists _
    isplitr
    swap; · iexact H6
    ipureintro
    refine (View.read_writes_full _ _ _ _ _).trans ?_
    rw [load_whole _ harg8 zero_off, load_whole _ harg4 zero_off]
  iexists _; isplitr; · ipureintro; exact harg8.read_unread _
  iexact H8

end Cert.Proof.Inproj

end
-- ==== Proof.Inproj.Run.lean ====
/-
  The input projection's run over the grid of 16 row blocks by 9 column blocks, for any values: at every point scratch
  holds the normed rows of the row block and the gate buffer its gate columns, both computed at the row block's first point.
-/
module

public import proofs.«01_k».proof.Proof.Inproj.Body
public import Idealize.ShloMosaic.Lib.Claim

@[expose] public section

set_option maxRecDepth 16384

noncomputable section

namespace Cert.Proof.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The first point of the row block that `t` is in. -/
def first (t : Fin cfg0.N) : Fin cfg0.N := ⟨t.val - t.val % 9, Nat.lt_of_le_of_lt (Nat.sub_le _ _) t.isLt⟩

theorem first_of_zero (t : Fin cfg0.N) (h : t.val % 9 = 0) : first t = t := Fin.ext (by simp [first, h])

theorem first_pred (t : Fin cfg0.N) (h : ¬t.val % 9 = 0) (h' : t.val - 1 < cfg0.N) : first ⟨t.val - 1, h'⟩ = first t :=
  Fin.ext (by simp only [first]; omega)

theorem cond_iff : ∀ t : Fin cfg0.N, k0_cond1 (grid0.coords t) = 1#1 ↔ t.val % 9 = 0 :=
  (by decide +kernel : ∀ t : Fin grid0.N, k0_cond1 (grid0.coords t) = 1#1 ↔ t.val % 9 = 0)

theorem idle_iff (t : Fin cfg0.N) : cfg0.idle 5 (grid0.coords t) = !decide (t.val % 9 = 0) := by
  show (!(k0_cond1 (grid0.coords t) == 1#1)) = _
  by_cases h : t.val % 9 = 0
  · rw [(cond_iff t).mpr h]; simp [h]
  · have := mt (cond_iff t).mp h
    simp [h, this]

/-- The gate buffer holds nothing stored since the last write-back just at the row blocks' first points. -/
theorem fresh_iff (n : ℕ) (hn : n ≤ cfg0.N) : cfg0.fresh 5 n = decide (n % 9 = 0) :=
  cfg0.fresh_tab 5 (fun n => decide (n % 9 = 0)) rfl (fun t => by
    show _ = ((cfg0.win 5).flush t || (cfg0.idle 5 (grid0.coords t) && _))
    rw [idle_iff]
    by_cases h : t.val % 9 = 8
    · rw [(flush0_5 t).mpr h]
      have : (t.val + 1) % 9 = 0 := by omega
      simp [this]
    · rw [Bool.eq_false_iff.mpr (mt (flush0_5 t).mp h)]
      have : ¬(t.val + 1) % 9 = 0 := by omega
      by_cases h0 : t.val % 9 = 0 <;> simp [this, h0]) n hn

/-! ## What the buffers hold -/

/-- The normed rows of the row block of `t`. -/
def hid (c : Dev nD) (t : Fin cfg0.N) : Vec F S1024x2048 .bf16 := k0_pay2 (iblk m c 0 (first t)) (iblk m c 1 (first t))

/-- The gate columns of the row block of `t`. -/
def gat (c : Dev nD) (t : Fin cfg0.N) : Vec F S1024x128 .f32 := k0_pay3 (iblk m c 0 (first t)) (iblk m c 1 (first t)) (iblk m c 3 (first t))

/-- The block of main columns at `t`. -/
def cols (c : Dev nD) (t : Fin cfg0.N) : Vec F S1024x2048 .f32 := k0_pay4 (hid m c t) (iblk m c 2 t)

/-- The scratch buffer. -/
abbrev scr : Memref sig .tc .vmem S1024x2048 .bf16 := Memref.whole cc0_scratch0

/-- Scratch before position `n`: anything before the first point, then the normed rows of the point before. -/
def Inv (c : Dev nD) : (n : ℕ) → n ≤ cfg0.N → sProp 𝕄
  | 0, _ => Pipeline.ΦA spec0 c
  | n + 1, hn => iprop(owns (c : Thread nD τ) scr fullShare (hid m c ⟨n, hn⟩) ∗ (∃ r, prngReg c r))

theorem entry_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem Inv_pos (c : Dev nD) (n : ℕ) (h : n ≤ cfg0.N) (hz : n ≠ 0) :
    Inv m c n h = iprop(owns (c : Thread nD τ) scr fullShare (hid m c ⟨n - 1, by omega⟩) ∗ (∃ r, prngReg c r)) := by
  cases n with
  | zero => exact absurd rfl hz
  | succ n => rfl

/-- At any position the scratch holds something. -/
theorem Inv_weak (c : Dev nD) (n : ℕ) (h : n ≤ cfg0.N) : Inv m c n h ⊢ Pipeline.ΦA spec0 c := by
  cases n with
  | zero => exact Entails.refl _
  | succ n =>
    rw [entry_eq]
    show iprop(owns (c : Thread nD τ) scr fullShare (hid m c ⟨n, h⟩) ∗ (∃ r, prngReg c r)) ⊢ _
    iintro ⟨H, Hg⟩
    isplitl [H]
    · iexists _; iexact H
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => cols m c t
    | ⟨5, _⟩ => gat m c t
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_start (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = cols m c t := by dsimp only [dats]
theorem after_5 (c : Dev nD) (t : Fin cfg0.N) : (dats m 0 c).after 5 t = gat m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Past a row block's first point the gate buffer holds the row block's gate columns. -/
theorem before_5 (c : Dev nD) (t : Fin cfg0.N) (h : ¬t.val % 9 = 0) (d) : (dats m 0 c).before 5 t d = gat m c t := by
  rw [(dats m 0 c).before_out_traj 5 rfl (fun _ _ => rfl) (fun t ht hi _ => by
      have h9 : ¬t.val % 9 = 0 := fun h => by
        have e := idle_iff t
        rw [show cfg0.idle 5 (grid0.coords t) = true from hi] at e
        simp [h] at e
      rw [after_5, after_5]
      unfold gat
      rw [first_pred t h9]) t.val t rfl d,
    fresh_iff _ (Nat.le_of_lt t.isLt), decide_eq_false h, if_neg Bool.false_ne_true, after_5]
  unfold gat
  rw [first_pred t h]

/-! ## The body at a point -/

/-- What the body is called with at point `t`, -/
def Pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it leaves. -/
def Post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- The gate buffer at the row block's gate columns is what the pipeline wants of it at every point. -/
theorem leaves_5 (c : Dev nD) (t : Fin cfg0.N) :
    (owns (c : Thread nD τ) (st0_5 t) fullShare (gat m c t) : sProp 𝕄) ⊢ (dats m 0 c).leavesExact 5 t := by
  by_cases h : t.val % 9 = 0
  · have hi : cfg0.idle 5 (grid0.coords t) = false := by rw [idle_iff]; simp [h]
    unfold Dat.leavesExact
    rw [hi, after_5]
  · have hi : cfg0.idle 5 (grid0.coords t) = true := by rw [idle_iff]; simp [h]
    by_cases h8 : t.val % 9 = 8
    · unfold Dat.leavesExact
      rw [hi, (flush0_5 t).mpr h8, after_5]
    · rw [Dat.leavesExact_idle (dats m 0 c) 5 t hi (Bool.eq_false_iff.mpr (mt (flush0_5 t).mp h8))]
      iintro H
      iexists (gat m c t)
      rw [before_5 m c t h]
      iexact H

set_option maxHeartbeats 2000000 in
theorem sound (c : Dev nD) (t : Fin cfg0.N) :
    Pre m c t ⊢ wp frame (wpE (defs₀ (F := F)) Variants.none c none) Set.univ (bodyAt0 t) (fun _ => Post m c t) := by
  unfold Pre Post bodyAt0
  simp only [before_0, before_1, before_2, before_3]
  rw [show (dats m 0 c).leavesExact 0 t = owns (c : Thread nD τ) (st0_0 t) fullShare (iblk m c 0 t) from after_0 m c t ▸ rfl,
    show (dats m 0 c).leavesExact 1 t = owns (c : Thread nD τ) (st0_1 t) fullShare (iblk m c 1 t) from after_1 m c t ▸ rfl,
    show (dats m 0 c).leavesExact 2 t = owns (c : Thread nD τ) (st0_2 t) fullShare (iblk m c 2 t) from after_2 m c t ▸ rfl,
    show (dats m 0 c).leavesExact 3 t = owns (c : Thread nD τ) (st0_3 t) fullShare (iblk m c 3 t) from after_3 m c t ▸ rfl,
    show (dats m 0 c).leavesExact 4 t = owns (c : Thread nD τ) (st0_4 t) fullShare (cols m c t) from after_4 m c t ▸ rfl,
    Phi_start, show (dats m 0 c).Φ t.succ = iprop(owns (c : Thread nD τ) scr fullShare (hid m c t) ∗ (∃ r, prngReg c r)) from rfl]
  by_cases h : t.val % 9 = 0
  · have e : hid m c t = k0_pay2 (iblk m c 0 t) (iblk m c 1 t) := by unfold hid; rw [first_of_zero t h]
    have eg : gat m c t = k0_pay3 (iblk m c 0 t) (iblk m c 1 t) (iblk m c 3 t) := by unfold gat; rw [first_of_zero t h]
    refine (sep_mono_l (Inv_weak m c t.val (Nat.le_of_lt t.isLt))).trans ?_
    rw [entry_eq]
    change iprop(((∃ d, owns (c : Thread nD τ) scr fullShare d) ∗ (∃ r, prngReg c r)) ∗ _) ⊢ _
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ ((cond_iff t).mpr h) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · rw [e]; iexact HS
      iexact Hg
    isplitl [Ho]; · iexact Ho
    isplitl [H0]; · iexact H0
    isplitl [H1]; · iexact H1
    isplitl [H2]; · iexact H2
    isplitl [H3]; · iexact H3
    isplitl [H4]
    · unfold cols; rw [e]; iexact H4
    iapply leaves_5 m c t
    rw [eg]; iexact H5
  · have hz : t.val ≠ 0 := fun h0 => h (by rw [h0])
    have e : hid m c ⟨t.val - 1, by omega⟩ = hid m c t := by unfold hid; rw [first_pred t h]
    rw [Inv_pos m c t.val _ hz, e]
    simp only [before_5 m c t h]
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ (mt (cond_iff t).mp h) (iblk m c 2 t) (hid m c t) Set.univ _)
    isplitl [H2]; · iexact H2
    isplitl [H4]; · iexists _; iexact H4
    isplitl [HS]; · iexact HS
    iintro ⟨H2, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iapply leaves_5 m c t
    iexact H5

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound m c t) rfl .rfl fun _ => .rfl

/-! ## The run -/

/-- Every run ends with the arrays at what the proof data says, and with every semaphore counter at zero. -/
theorem run_zero : θ_run defs (onTc (τ := τ) (main (F := F))) (s₀ m ρ)
    (fun r => (Pipeline.FramePost cfgs (dats m) 0 (V m)) r ∧ r.2.sem = fun _ => 0) :=
  Pipeline.θ_run_frame_track (Q' := fun r => (Pipeline.FramePost cfgs (dats m) 0 (V m)) r ∧ r.2.sem = fun _ => 0)
    cfgs (dats m) (0 : Fin 1) launch0 defs₀ Variants.none m ρ main
    (hbody := fun c => (obligation m c).loose) (hshare := fun _ w => by unfold Dat.share; split <;> rfl)
    (howed := fun _ _ => rfl) (V := V m) (hmain := hmain m Variants.none) (hA := A_eq m)
    (hin := fun c => Entails.refl _)
    (hout := fun c => Inv_weak m c cfg0.N (Nat.le_refl _)) (hQ' := fun _ h => h)

theorem run : θ_run defs (onTc (τ := τ) (main (F := F))) (s₀ m ρ) (Pipeline.FramePost cfgs (dats m) 0 (V m)) :=
  (θ_run defs _ _).mono (fun _ h => h.1) (run_zero m ρ)

/-- The arguments end as they began and every semaphore counter at zero. -/
theorem unchanged_zero : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_zero m ρ))

end Cert.Proof.Inproj

end
-- ==== Proof.Inproj.Tile.lean ====
/-
  One block of the input projection, element by element: the normed rows, the main columns and the gate columns the
  body computes are the reference's at the same places of the whole arrays.
-/
module

public import proofs.«01_k».proof.Proof.Gen.Kernel3Ideal.Skeleton
public import proofs.«01_k».proof.Proof.Gen.Reference3Ideal.Read
public import Idealize.ShloMosaic.Lib.Pointwise

@[expose] public section

set_option maxRecDepth 16384

noncomputable section

namespace Cert.Proof.Inproj

open Idealize.ShloMosaic Cert.Reference3Ideal
open Cert.Kernel3Ideal.Gen (k0_pay1 k0_pay2 k0_pay3 k0_pay4)

variable (X : (⟨S16384x2048, .f32⟩ : BufTy).Contents (Elt Ideal)) (G : (⟨S2048, .f32⟩ : BufTy).Contents (Elt Ideal))
  (W : (⟨S2048x18432, .bf16⟩ : BufTy).Contents (Elt Ideal)) (U : (⟨S128x2048, .bf16⟩ : BufTy).Contents (Elt Ideal))
  (x : Vec Ideal Cert.Kernel3Ideal.S1024x2048 .f32) (g : Vec Ideal Cert.Kernel3Ideal.S1x2048 .f32)
  (r : Fin 1024) (R : Fin 16384)

/-- Row `r` of the normed block is row `R` of the reference's normed array, when row `r` of the block is row `R` of the
    array and the weight row is the weights. -/
theorem normed (hx : ∀ k : Fin 2048, x (ix2 r k) = X (ix2 R k)) (hg : ∀ k : Fin 2048, g (ix2 0 k) = G (ix1 k)) (k : Fin 2048) :
    k0_pay1 (F := Ideal) x g (ix2 r k) = Read.val_main_v12 (F := Ideal) X G (ix2 R k) := by
  pointwise [k0_pay1, Read.val_main_v0, Read.val_main_cst, Read.val_main_v1, Read.val_main_v2, Read.val_main_cst_0, Read.val_main_v3, Read.val_main_v4, Read.val_main_cst_1, Read.val_main_v5, Read.val_main_v6, Read.val_main_v7, Read.val_main_v8, Read.val_main_v9, Read.val_main_v10, Read.val_main_v11, Read.val_main_v12]
  simp only [hx, hg]

/-- The scratch holds the same rows. -/
theorem stored (hx : ∀ k : Fin 2048, x (ix2 r k) = X (ix2 R k)) (hg : ∀ k : Fin 2048, g (ix2 0 k) = G (ix1 k)) (k : Fin 2048) :
    k0_pay2 (F := Ideal) x g (ix2 r k) = Read.val_main_v12 (F := Ideal) X G (ix2 R k) := by
  refine Eq.trans ?_ (normed X G x g r R hx hg k)
  unfold k0_pay2
  generalize k0_pay1 (F := Ideal) x g = y
  pointwise []

/-- Main columns: row `R` of the normed array by column `J` of the weights. -/
theorem mains (h : Vec Ideal Cert.Kernel3Ideal.S1024x2048 .bf16) (w : Vec Ideal Cert.Kernel3Ideal.S2048x2048 .bf16)
    (j : Fin 2048) (J : Fin 18432)
    (hh : ∀ k : Fin 2048, h (ix2 r k) = Read.val_main_v12 (F := Ideal) X G (ix2 R k))
    (hw : ∀ k : Fin 2048, w (ix2 k j) = W (ix2 k J)) :
    k0_pay4 (F := Ideal) h w (ix2 r j) = Read.val_main_v14 (F := Ideal) X G W (ix2 R J) := by
  rw [Read.val_main_v14]
  generalize Read.val_main_v12 (F := Ideal) X G = y at hh ⊢
  pointwise [k0_pay4, Read.val_main_v13]
  simp only [hh, hw]

/-- Gate columns: row `R` of the normed array by row `J` of the packed gate weights. -/
theorem gates (w : Vec Ideal Cert.Kernel3Ideal.S128x2048 .bf16) (j : Fin 128)
    (hx : ∀ k : Fin 2048, x (ix2 r k) = X (ix2 R k)) (hg : ∀ k : Fin 2048, g (ix2 0 k) = G (ix1 k))
    (hw : ∀ k : Fin 2048, w (ix2 j k) = U (ix2 j k)) :
    k0_pay3 (F := Ideal) x g w (ix2 r j) = Read.val_main_v17 (F := Ideal) X G U (ix2 R j) := by
  have hh := normed X G x g r R hx hg
  rw [Read.val_main_v17, k0_pay3]
  generalize Read.val_main_v12 (F := Ideal) X G = y at hh ⊢
  generalize k0_pay1 (F := Ideal) x g = z at hh ⊢
  pointwise [Read.val_main_v15, Read.val_main_v16]
  simp only [hh, hw]

end Cert.Proof.Inproj

end
-- ==== Proof.Inproj.Value.lean ====
/-
  The input projection's two result arrays: every block written back is a block of the reference's result, and the
  blocks tile the array. Main columns are written at every point, gate columns at a row block's last point.
-/
module

public import proofs.«01_k».proof.Proof.Inproj.Run
public import proofs.«01_k».proof.Proof.Inproj.Tile
public import proofs.«01_k».proof.Proof.Common.Index

@[expose] public section

set_option maxRecDepth 16384

noncomputable section

namespace Cert.Proof.Inproj

open Cert.Kernel3Ideal Cert.Kernel3Ideal.Gen Cert.Proof.Common Idealize.ShloMosaic Idealize.ShloMosaic.TcCoe Idealize.SL.Sem
open Idealize.ShloMosaic.Pipeline (Dat)

variable (m : (ℓ : Loc nD τ sig) → Buf (Elt Ideal) ℓ)

/-- The reference's main columns of the kernel's arguments. -/
def mainResult (c : Dev nD) : Vec Ideal S16384x18432 .f32 :=
  Cert.Reference3Ideal.Read.val_main_v14 (F := Ideal)
    (m ((c : Thread nD τ).loc main_arg0)) (m ((c : Thread nD τ).loc main_arg1)) (m ((c : Thread nD τ).loc main_arg2))

/-- The reference's gate columns of the kernel's arguments. -/
def gateResult (c : Dev nD) : Vec Ideal S16384x128 .f32 :=
  Cert.Reference3Ideal.Read.val_main_v17 (F := Ideal)
    (m ((c : Thread nD τ).loc main_arg0)) (m ((c : Thread nD τ).loc main_arg1)) (m ((c : Thread nD τ).loc main_arg3))

/-- The block indices: rows move with the point's row block, columns with its column block. -/
theorem idx : ∀ t : Fin cfg0.N,
    (win0_0.index t 0 = t.val / 9 ∧ win0_0.index t 1 = 0) ∧ (win0_1.index t 0 = 0 ∧ win0_1.index t 1 = 0)
    ∧ (win0_2.index t 0 = 0 ∧ win0_2.index t 1 = t.val % 9) ∧ (win0_3.index t 0 = 0 ∧ win0_3.index t 1 = 0)
    ∧ (win0_4.index t 0 = t.val / 9 ∧ win0_4.index t 1 = t.val % 9) ∧ (win0_5.index t 0 = t.val / 9 ∧ win0_5.index t 1 = 0) :=
  (by decide +kernel : ∀ t : Fin grid0.N, _)

/-- The norm row when the kernel is entered: the argument as one row. -/
theorem row_staged (c : Dev nD) :
    V m c main_v0 = broadcastInDim S1x2048 ![1] bcast_S2048_S1x2048_1 (m ((c : Thread nD τ).loc main_arg1)) := by
  show StableHlo.after hostOps0 _ (Proc.devRef .tc main_v0) = _
  after_results

/-- Reading a window's array through its block: the element of the array at the block's place. -/
theorem blk_apply (c : Dev nD) (w : Fin cfg0.W) (t : Fin cfg0.N) (y) :
    iblk m c w t y = cast (congrArg (Elt Ideal) ((cfg0.win w).blk t).view.elt_eq)
      (V m c (Pipeline.arrRef spec0 w) (((cfg0.win w).blk t).view.emb y)) := by
  unfold iblk; rw [View.read_apply]

/-- Where an element of a window's block lies in its array, from the block's indices. -/
theorem place (w : Pipeline.Window sig grid0) (t : Fin grid0.N) (y : (w.xblock (grid0.coords t)).Idx)
    (a : Fin w.shape.rank) (n s : ℕ) (hk : w.kind = .blocked) (hn : w.index t a = n) (hs : w.size a = s) :
    ((w.rect t).emb y a : Nat) = n * s + y a := by
  rw [w.rect_emb_val t y a hk, hn, hs]

section Blocks

variable (c : Dev nD) (t : Fin cfg0.N)

/-- The row of the arrays that row `r` of point `t`'s blocks is. -/
def at_ (r : Fin 1024) : Fin 16384 :=
  ⟨1024 * (t.val / 9) + r.val, by have := t.isLt.trans_eq N_0; omega⟩

theorem at_first (r : Fin 1024) : at_ (first t) r = at_ t r := Fin.ext (by simp only [at_, first]; omega)

theorem rows (r : Fin 1024) (k : Fin 2048) :
    (iblk m c 0 t : Vec Ideal S1024x2048 .f32) (ix2 r k) = m ((c : Thread nD τ).loc main_arg0) (ix2 (at_ t r) k) := by
  obtain ⟨i, -⟩ := idx t
  rw [blk_apply, cast_eq, ← V_main_arg0 m c]
  exact congrArg (V m c main_arg0) (eq_ix2_of_val _ _ _ ((place win0_0 t _ 0 _ _ rfl i.1 rfl).trans (by simp [at_]; omega))
    ((place win0_0 t _ 1 _ _ rfl i.2 rfl).trans (by simp)))

theorem weights (k : Fin 2048) :
    (iblk m c 1 t : Vec Ideal S1x2048 .f32) (ix2 0 k) = m ((c : Thread nD τ).loc main_arg1) (ix1 k) := by
  obtain ⟨-, i, -⟩ := idx t
  rw [blk_apply, cast_eq]
  refine (congrArg (V m c main_v0) (eq_ix2_of_val _ 0 k ((place win0_1 t _ 0 _ _ rfl i.1 rfl).trans (by simp))
    ((place win0_1 t _ 1 _ _ rfl i.2 rfl).trans (by simp)))).trans ?_
  rw [row_staged]; pointwise []

theorem columns (k j : Fin 2048) :
    (iblk m c 2 t : Vec Ideal S2048x2048 .bf16) (ix2 k j)
      = m ((c : Thread nD τ).loc main_arg2) (ix2 k ⟨2048 * (t.val % 9) + j.val, by omega⟩) := by
  obtain ⟨-, -, i, -⟩ := idx t
  rw [blk_apply, cast_eq, ← V_main_arg2 m c]
  exact congrArg (V m c main_arg2) (eq_ix2_of_val _ _ _ ((place win0_2 t _ 0 _ _ rfl i.1 rfl).trans (by simp))
    ((place win0_2 t _ 1 _ _ rfl i.2 rfl).trans (by simp; omega)))

theorem packed (j : Fin 128) (k : Fin 2048) :
    (iblk m c 3 t : Vec Ideal S128x2048 .bf16) (ix2 j k) = m ((c : Thread nD τ).loc main_arg3) (ix2 j k) := by
  obtain ⟨-, -, -, i, -⟩ := idx t
  rw [blk_apply, cast_eq, ← V_main_arg3 m c]
  exact congrArg (V m c main_arg3) (eq_ix2_of_val _ _ _ ((place win0_3 t _ 0 _ _ rfl i.1 rfl).trans (by simp))
    ((place win0_3 t _ 1 _ _ rfl i.2 rfl).trans (by simp)))

/-- What point `t` writes back of the main columns is its block of the reference's. -/
theorem flushed_main : (dats m 0 c).flushed 4 t = ((cfg0.win 4).blk t).view.read (Elt Ideal) (mainResult m c) := by
  obtain ⟨-, -, -, -, i, -⟩ := idx t
  show (cfg0.win 4).cut (grid0.coords t) ((dats m 0 c).after 4 t) = _
  rw [after_4]
  funext y
  obtain ⟨r, j, rfl⟩ : ∃ (r : Fin 1024) (j : Fin 2048), y = ix2 r j := ⟨y 0, y 1, eq_ix2 y⟩
  show cols m c t (ix2 r j) = _
  refine (mains (m ((c : Thread nD τ).loc main_arg0)) (m ((c : Thread nD τ).loc main_arg1)) (m ((c : Thread nD τ).loc main_arg2)) r (at_ t r) _ _ j ⟨2048 * (t.val % 9) + j.val, by omega⟩
    (fun k => ?_) (fun k => columns m c t k j)).trans ?_
  · exact stored _ _ _ _ r (at_ t r) (fun k => (rows m c (first t) r k).trans (by rw [at_first])) (weights m c (first t)) k
  · rw [View.read_apply, cast_eq]
    exact congrArg (mainResult m c) (eq_ix2_of_val _ _ _ ((place win0_4 t _ 0 _ _ rfl i.1 rfl).trans (by simp [at_]; omega))
      ((place win0_4 t _ 1 _ _ rfl i.2 rfl).trans (by simp; omega))).symm

/-- What point `t` would write back of the gate columns is its block of the reference's. -/
theorem flushed_gate : (dats m 0 c).flushed 5 t = ((cfg0.win 5).blk t).view.read (Elt Ideal) (gateResult m c) := by
  obtain ⟨-, -, -, -, -, i⟩ := idx t
  show (cfg0.win 5).cut (grid0.coords t) ((dats m 0 c).after 5 t) = _
  rw [after_5]
  funext y
  obtain ⟨r, j, rfl⟩ : ∃ (r : Fin 1024) (j : Fin 128), y = ix2 r j := ⟨y 0, y 1, eq_ix2 y⟩
  show gat m c t (ix2 r j) = _
  refine (gates _ _ (m ((c : Thread nD τ).loc main_arg3)) _ _ r (at_ t r) _ j
    (fun k => (rows m c (first t) r k).trans (by rw [at_first])) (weights m c (first t)) (packed m c (first t) j)).trans ?_
  rw [View.read_apply, cast_eq]
  exact congrArg (gateResult m c) (eq_ix2_of_val _ _ _ ((place win0_5 t _ 0 _ _ rfl i.1 rfl).trans (by simp [at_]; omega))
    ((place win0_5 t _ 1 _ _ rfl i.2 rfl).trans (by simp))).symm

end Blocks

/-- The blocks of main columns tile the array. -/
theorem cover_main (i : S16384x18432.Idx) :
    ∃ t : Fin cfg0.N, (cfg0.win 4).flush t = true ∧ i ∈ ((cfg0.win 4).blk t).view.set := by
  have h0 : (i 0).val < 16384 := (i 0).isLt
  have h1 : (i 1).val < 18432 := (i 1).isLt
  have hN : cfg0.N = 144 := N_0
  have ht : 9 * ((i 0).val / 1024) + (i 1).val / 2048 < cfg0.N := by omega
  obtain ⟨-, -, -, -, j, -⟩ := idx ⟨_, ht⟩
  refine ⟨⟨_, ht⟩, flush0_4 _, ?_⟩
  have h : ((cfg0.win 4).blk ⟨_, ht⟩).view.emb
      (ix2 ⟨(i 0).val % 1024, Nat.mod_lt _ (by decide)⟩ ⟨(i 1).val % 2048, Nat.mod_lt _ (by decide)⟩) = i :=
    (eq_ix2_of_val _ _ _ ((place win0_4 _ _ 0 _ _ rfl j.1 rfl).trans (by simp; omega))
      ((place win0_4 _ _ 1 _ _ rfl j.2 rfl).trans (by simp; omega))).trans (eq_ix2 i).symm
  have h' := View.emb_mem_set ((cfg0.win 4).blk ⟨_, ht⟩).view
    (ix2 ⟨(i 0).val % 1024, Nat.mod_lt _ (by decide)⟩ ⟨(i 1).val % 2048, Nat.mod_lt _ (by decide)⟩)
  rwa [h] at h'

/-- The blocks of gate columns tile the array. -/
theorem cover_gate (i : S16384x128.Idx) :
    ∃ t : Fin cfg0.N, (cfg0.win 5).flush t = true ∧ i ∈ ((cfg0.win 5).blk t).view.set := by
  have h0 : (i 0).val < 16384 := (i 0).isLt
  have hN : cfg0.N = 144 := N_0
  have ht : 9 * ((i 0).val / 1024) + 8 < cfg0.N := by omega
  obtain ⟨-, -, -, -, -, j⟩ := idx ⟨_, ht⟩
  refine ⟨⟨_, ht⟩, (flush0_5 _).mpr (by simp), ?_⟩
  have h : ((cfg0.win 5).blk ⟨_, ht⟩).view.emb (ix2 ⟨(i 0).val % 1024, Nat.mod_lt _ (by decide)⟩ (i 1)) = i :=
    (eq_ix2_of_val _ _ _ ((place win0_5 _ _ 0 _ _ rfl j.1 rfl).trans (by simp; omega))
      ((place win0_5 _ _ 1 _ _ rfl j.2 rfl).trans (by simp))).trans (eq_ix2 i).symm
  have h' := View.emb_mem_set ((cfg0.win 5).blk ⟨_, ht⟩).view (ix2 ⟨(i 0).val % 1024, Nat.mod_lt _ (by decide)⟩ (i 1))
  rwa [h] at h'

/-- So the two result arrays end holding the reference's results. -/
theorem final_main (c : Dev nD) : (dats m 0 c).arrAt 4 cfg0.N = mainResult m c :=
  (dats m 0 c).arrAt_eq_of_cover 4 (mainResult m c) (fun t _ => flushed_main m c t) cover_main

theorem final_gate (c : Dev nD) : (dats m 0 c).arrAt 5 cfg0.N = gateResult m c :=
  (dats m 0 c).arrAt_eq_of_cover 5 (gateResult m c) (fun t _ => flushed_gate m c t) cover_gate

end Cert.Proof.Inproj

end
-- ==== Proof.Inproj.Claims.lean ====
/-
  The input projection's claims: the two frames from one run, the reference's frame, and the equality of both results.
-/
module

public import proofs.«01_k».proof.Defs
public import proofs.«01_k».proof.Proof.Gen.Kernel3
public import proofs.«01_k».proof.Proof.Inproj.Value

@[expose] public section

noncomputable section

namespace Cert.Proof.Inproj

open Idealize.ShloMosaic Idealize.ShloMosaic.TcCoe Idealize.SL.Sem
open Cert.Kernel3Ideal.Gen (V frame_of)

/-- The kernel and its ideal reading have the same body table at words: the one label's body is the same text. -/
theorem bodies_eq : Cert.Kernel3.defs₀ (F := Bits) = Cert.Kernel3Ideal.defs₀ (F := Bits) := by
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel3.defs (F := Bits) = Cert.Kernel3Ideal.defs (F := Bits) := by
  unfold Cert.Kernel3.defs
  rw [bodies_eq]
  rfl

theorem frame_kernel : Cert.quiescent_Kernel3 := by
  intro m ρ _
  rw [defs_eq]
  exact unchanged_zero (F := Bits) m ρ

theorem frame_kernelIdeal : Cert.quiescent_Kernel3Ideal := fun m ρ _ => unchanged_zero (F := Ideal) m ρ

/-- The reference declares no semaphore, so its counters are zero at the end. -/
theorem frame_referenceIdeal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Both runs end with the reference's two results of the common arguments. -/
theorem algebraic : Cert.algebraic_Kernel3Ideal_Reference3Ideal := by
  intro m ρ m' ρ' _ hagree
  refine ⟨mainResult m, gateResult m, ?_, ?_⟩
  · exact (θ_run Cert.Kernel3Ideal.defs _ _).mono
      (fun r h c => ⟨((h.1 c).1 4).trans (final_main m c), ((h.1 c).1 5).trans (final_gate m c), h.2 c⟩)
      (θ_run_and (run (F := Ideal) m ρ) (frame_of m ρ (dats m) (A_eq m) (run m ρ)))
  · refine (θ_run Cert.Reference3Ideal.defs _ _).mono
      (fun r h c => ⟨(h c).1.trans ?_, (h c).2.1.trans ?_, (h c).2.2⟩) (Cert.Reference3Ideal.Value.run (F := Ideal) m' ρ')
    all_goals obtain ⟨a0, a1, a2, a3⟩ := hagree c
    · rw [Cert.Reference3Ideal.Read.val_main_v14_eq, a0, a1, a2]; rfl
    · rw [Cert.Reference3Ideal.Read.val_main_v17_eq, a0, a1, a3]; rfl

end Cert.Proof.Inproj

end
-- ==== Proof.Attn.Cache.lean ====
/-
  What the last point of a batch stores in its two cache blocks: head `h`'s plane is the staged block's columns of head
  `h`, for the keys and for the values.
-/
module

public import proofs.«01_k».proof.Proof.Gen.Kernel4Ideal.Value
public import proofs.«01_k».proof.Proof.Common.Index
public import Idealize.ShloMosaic.Lib.Pointwise
public import Idealize.ShloMosaic.Lib.WholeRead

@[expose] public section

set_option maxRecDepth 16384

noncomputable section

namespace Cert.Proof.Attn

open Cert.Kernel4Ideal Cert.Kernel4Ideal.Gen Cert.Proof.Common Idealize.ShloMosaic Idealize.ShloMosaic.TcCoe Idealize.SL.Sem

variable {F : FTy → Type} [FloatOps F]

theorem cols_fit (h : ℕ) : ∀ a, (![0, 0, 128 * (h % 8)] : Fin 3 → ℕ) a + S1x512x128.size a ≤ S1x512x1024.size a := by
  intro a
  have hh := Nat.mod_lt h (show 0 < 8 by decide)
  fin_cases a <;> simp [Shape.size] <;> omega

theorem plane_fits (h : ℕ) : ∀ a, (![0, 0, 0, h % 8, 0] : Fin 5 → ℕ) a + S1x1x512x1x128.size a ≤ S1x1x512x8x128.size a := by
  intro a
  have hh := Nat.mod_lt h (show 0 < 8 by decide)
  fin_cases a <;> simp [Shape.size] <;> omega

/-- Head `h`'s columns in a staged block. -/
abbrev colBox (h : ℕ) : Rect S1x512x1024 := Rect.unit ![0, 0, 128 * (h % 8)] S1x512x128.size (cols_fit h)

/-- Head `h`'s plane in a cache block. -/
abbrev planeBox (h : ℕ) : Rect S1x1x512x8x128 := Rect.unit ![0, 0, 0, h % 8, 0] S1x1x512x1x128.size (plane_fits h)

/-- The eight stores into a cache block, last first: each head's columns of the staged block `x`. -/
def cachePieces (arg : Memref sig .tc .vmem S1x512x1024 .f32) (harg : arg.IsWhole) (x : Vec F S1x512x1024 .f32) :
    List (View.Piece (Elt F) S1x1x512x8x128 .f32) :=
  ((List.range 8).map fun h => ⟨planeBox h, shapeCast S1x1x512x1x128
    (shapeCast S512x128 (View.readAt (Elt F) arg.view (colBox h).toLoadRect (harg.unread x)) shapeCasts_S1x512x128_S512x128)
    shapeCasts_S512x128_S1x1x512x1x128⟩).reverse

section Last
variable (c : Dev nD) (i : grid0.Coords)
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x1024 .f32) (harg5 : arg5.IsWhole)
  (arg6 : Memref sig .tc .vmem S8x640 .f32) (harg6 : arg6.IsWhole)
  (arg9 : Memref sig .tc .vmem S1x512x1024 .bf16) (harg9 : arg9.IsWhole)
  (arg10 : Memref sig .tc .vmem S1x1x512x8x128 .f32) (harg10 : arg10.IsWhole)
  (arg11 : Memref sig .tc .vmem S1x1x512x8x128 .f32) (harg11 : arg11.IsWhole)
  (arg12 : Memref sig .tc .vmem S8x128x1024 .bf16) (harg12 : arg12.IsWhole)
  (arg13 : Memref sig .tc .vmem S1024x1024 .bf16) (harg13 : arg13.IsWhole)
  (arg14 : Memref sig .tc .vmem S8x128x640 .f32) (harg14 : arg14.IsWhole)
  (x0 x1 x2 x3 : Vec F S1x512x1024 .f32) (x4 : Vec F S8x640 .f32)
  (xs0 : Vec F S8x128x1024 .bf16) (xs1 : Vec F S1024x1024 .bf16) (xs2 : Vec F S8x128x640 .f32)

/-- The key block's stores at a batch's last point. -/
theorem keys_C (hc0 : ¬cond0_0 i) (hc1 : ¬cond0_1 i) (hc2 : cond0_2 i) (hc3 : cond0_3 i) :
    (kernelRun0_C c i arg2 harg2 arg3 harg3 arg4 harg4 arg5 harg5 arg6 harg6 arg9 harg9 arg10 harg10 arg11 harg11 arg12 harg12 arg13 harg13 arg14 harg14 hc0 hc1 hc2 hc3 x0 x1 x2 x3 x4 xs0 xs1 xs2).2.1 = cachePieces arg3 harg3 x1 := by
  sl_kernel_rfl

/-- The value block's stores at a batch's last point. -/
theorem values_C (hc0 : ¬cond0_0 i) (hc1 : ¬cond0_1 i) (hc2 : cond0_2 i) (hc3 : cond0_3 i) :
    (kernelRun0_C c i arg2 harg2 arg3 harg3 arg4 harg4 arg5 harg5 arg6 harg6 arg9 harg9 arg10 harg10 arg11 harg11 arg12 harg12 arg13 harg13 arg14 harg14 hc0 hc1 hc2 hc3 x0 x1 x2 x3 x4 xs0 xs1 xs2).2.2.1 = cachePieces arg4 harg4 x2 := by
  sl_kernel_rfl

end Last

theorem colBox_idx (h : Fin 8) (r : Fin 512) (d : Fin 128) :
    (colBox h).toLoadRect.idx (ix3 0 r d) = ix3 0 r ⟨128 * h.val + d.val, by omega⟩ := by
  have hh := h.isLt
  refine eq_ix3_of_val _ _ _ _ rfl ?_ ?_
  · show 0 + 1 * r.val = r.val; omega
  · show 128 * (h.val % 8) + 1 * d.val = 128 * h.val + d.val; omega

/-- A head's columns as a plane of the cache. -/
theorem plane_apply (X : FVec F S1x512x128 .f32) (r : Fin 512) (d : Fin 128) :
    (shapeCast S1x1x512x1x128 (shapeCast S512x128 X shapeCasts_S1x512x128_S512x128) shapeCasts_S512x128_S1x1x512x1x128 :
      FVec F S1x1x512x1x128 .f32) (ix5 0 0 r 0 d) = X (ix3 0 r d) := by
  pointwise []

/-- The staged block's element that belongs at an index of the cache block. -/
def cacheAt (x : Vec F S1x512x1024 .f32) (y : S1x1x512x8x128.Idx) : Elt F .f32 :=
  x (ix3 0 (y 2) ⟨128 * (y 3).val + (y 4).val, by
    have h3 : (y 3).val < 8 := (y 3).isLt
    have h4 : (y 4).val < 128 := (y 4).isLt
    omega⟩)

/-- A cache block after the stores: the element of head `h` is the staged block's element in head `h`'s columns. -/
theorem read_cache (v : View sig .tc .vmem S1x1x512x8x128 .f32) (f : v.ty.Contents (Elt F))
    (arg : Memref sig .tc .vmem S1x512x1024 .f32) (harg : arg.IsWhole) (x : Vec F S1x512x1024 .f32)
    (r : Fin 512) (h : Fin 8) (d : Fin 128) :
    v.read (Elt F) (v.writes (Elt F) f (cachePieces arg harg x)) (ix5 0 0 r h d)
      = x (ix3 0 r ⟨128 * h.val + d.val, by omega⟩) := by
  refine (View.read_writes_apply_of_pieces v f (cacheAt x)
    (cachePieces arg harg x) ?_ (ix5 0 0 r h d) ?_)
  · intro p hp y
    obtain ⟨k, hk, rfl⟩ := List.mem_map.1 (List.mem_reverse.1 hp)
    have hk8 : k < 8 := List.mem_range.1 hk
    obtain ⟨q, e, rfl⟩ : ∃ (q : Fin 512) (e : Fin 128), y = ix5 0 0 q 0 e :=
      ⟨y 2, y 4, (eq_ix5 (show S1x1x512x1x128.Idx from y)).trans (by congr 1 <;> exact Subsingleton.elim _ _)⟩
    have hemb : (planeBox k).emb (ix5 0 0 q 0 e) = ix5 0 0 q ⟨k, hk8⟩ e := by
      refine eq_ix5_of_val _ _ _ _ _ _ rfl rfl ?_ ?_ ?_
      · rw [Rect.emb_apply]; show 0 + 1 * q.val = q.val; omega
      · rw [Rect.emb_apply]; show k % 8 + 1 * 0 = k; omega
      · rw [Rect.emb_apply]; show 0 + 1 * e.val = e.val; omega
    show _ = cacheAt x ((planeBox k).emb (ix5 0 0 q 0 e))
    rw [hemb]
    refine (plane_apply (View.readAt (Elt F) arg.view (colBox k).toLoadRect (harg.unread x)) q e).trans ((Memref.IsWhole.readAt_unread harg x _ _).trans ?_)
    exact congrArg x (colBox_idx ⟨k, hk8⟩ q e)
  · refine ⟨_, List.mem_reverse.2 (List.mem_map.2 ⟨h.val, List.mem_range.2 h.isLt, rfl⟩), ?_⟩
    rw [Rect.mem_set_unit]
    have := h.isLt
    intro a
    fin_cases a <;> simp [Shape.size] <;> omega

end Cert.Proof.Attn

end
-- ==== Proof.Attn.Final.lean ====
/-
  The attention kernel's two cache arrays: the second layer holds the last 512 rows of the projection's key and value
  columns, written by each batch's last point; the first layer is the one passed in.
-/
module

public import proofs.«01_k».proof.Proof.Attn.Cache
public import proofs.«01_k».proof.Proof.Gen.Reference4Ideal.Read
public import Idealize.ShloMosaic.Lib.VecWindow

@[expose] public section

set_option maxRecDepth 16384

noncomputable section

namespace Cert.Proof.Attn

open Cert.Proof.Common Cert.Kernel4Ideal Cert.Kernel4Ideal.Gen Idealize.ShloMosaic Idealize.ShloMosaic.TcCoe Idealize.SL.Sem
open Idealize.ShloMosaic.Pipeline (Dat)

section
variable (p : (⟨Cert.Reference4Ideal.S4x4096x18432, .f32⟩ : BufTy).Contents (Elt Ideal))
  (P : (⟨Cert.Reference4Ideal.S2x4x512x8x128, .f32⟩ : BufTy).Contents (Elt Ideal)) (b : Fin 4) (r : Fin 512) (h : Fin 8) (d : Fin 128)

open Cert.Reference4Ideal.Read

/-- The reference's stacked keys: the first layer's are the ones passed in, the second layer's the last 512 rows. -/
theorem keys_zero : val_main_v10 p P (ix5 0 b r h d) = P (ix5 0 b r h d) := by
  pointwise [val_main_v10, val_main_v9, val_main_v8, val_main_v7, val_main_v6, val_main_v2, val_main_v1, val_main_v0]

theorem keys_one : val_main_v10 p P (ix5 1 b r h d)
    = p (ix3 b ⟨3584 + r.val, by omega⟩ ⟨1024 + (128 * h.val + d.val), by omega⟩) := by
  pointwise [val_main_v10, val_main_v9, val_main_v8, val_main_v7, val_main_v6, val_main_v2, val_main_v1, val_main_v0]
  simp only [Nat.mul_comm h.val 128]

/-- The reference's stacked values, in the same way. -/
theorem values_zero : val_main_v15 p P (ix5 0 b r h d) = P (ix5 0 b r h d) := by
  pointwise [val_main_v15, val_main_v14, val_main_v13, val_main_v12, val_main_v11, val_main_v5, val_main_v4, val_main_v3]

theorem values_one : val_main_v15 p P (ix5 1 b r h d)
    = p (ix3 b ⟨3584 + r.val, by omega⟩ ⟨2048 + (128 * h.val + d.val), by omega⟩) := by
  pointwise [val_main_v15, val_main_v14, val_main_v13, val_main_v12, val_main_v11, val_main_v5, val_main_v4, val_main_v3]
  simp only [Nat.mul_comm h.val 128]

end

/-- A point's batch. -/
def bat (t : Fin cfg0.N) : Fin 4 := ⟨t.val / 8, by have h : t.val < 32 := t.isLt.trans_eq N_0; omega⟩

/-- The block indices of the key and value columns and of the two caches. -/
theorem idx : ∀ t : Fin cfg0.N,
    (win0_1.index t 0 = t.val / 8 ∧ win0_1.index t 1 = t.val % 8 ∧ win0_1.index t 2 = 1)
    ∧ (win0_2.index t 0 = t.val / 8 ∧ win0_2.index t 1 = t.val % 8 ∧ win0_2.index t 2 = 2) :=
  (by decide +kernel : ∀ t : Fin grid0.N, _)

theorem keys_idx : ∀ t : Fin cfg0.N,
    win0_6.index t 0 = 1 ∧ win0_6.index t 1 = t.val / 8 ∧ win0_6.index t 2 = 0 ∧ win0_6.index t 3 = 0 ∧ win0_6.index t 4 = 0 :=
  (by decide +kernel : ∀ t : Fin grid0.N, _)

theorem values_idx : ∀ t : Fin cfg0.N,
    win0_7.index t 0 = 1 ∧ win0_7.index t 1 = t.val / 8 ∧ win0_7.index t 2 = 0 ∧ win0_7.index t 3 = 0 ∧ win0_7.index t 4 = 0 :=
  (by decide +kernel : ∀ t : Fin grid0.N, _)

variable (m : (ℓ : Loc nD τ sig) → Buf (Elt Ideal) ℓ) (c : Dev nD)

/-- Reading a window's array through its block: the element of the array at the block's place. -/
theorem iblk_apply (w : Fin cfg0.W) (t : Fin cfg0.N) (y) :
    iblk m c w t y = cast (congrArg (Elt Ideal) ((cfg0.win w).blk t).view.elt_eq)
      (V m c (Pipeline.arrRef spec0 w) (((cfg0.win w).blk t).view.emb y)) := by
  unfold iblk; rw [View.read_apply]

/-- Where an element of a window's block lies in its array, from the block's index. -/
theorem emb_row (w : Pipeline.Window sig grid0) (t : Fin grid0.N) (y : (w.xblock (grid0.coords t)).Idx)
    (a : Fin w.shape.rank) (n s : ℕ) (hk : w.kind = .blocked) (hn : w.index t a = n) (hs : w.size a = s) :
    ((w.rect t).emb y a : Nat) = n * s + y a := by
  rw [w.rect_emb_val t y a hk, hn, hs]

theorem seq_keys (t : Fin cfg0.N) (r : Fin 512) (l : Fin 1024) :
    iblk m c 1 t (ix3 0 r l) = m ((c : Thread nD τ).loc main_arg0)
      (ix3 (bat t) ⟨512 * (t.val % 8) + r.val, by omega⟩ ⟨1024 + l.val, by omega⟩) := by
  obtain ⟨i1, -⟩ := idx t
  rw [iblk_apply, cast_eq, ← V_main_arg0 m c]
  exact congrArg (V m c main_arg0) (eq_ix3_of_val _ _ _ _ ((emb_row win0_1 t _ 0 _ _ rfl i1.1 rfl).trans (by simp [bat]))
    ((emb_row win0_1 t _ 1 _ _ rfl i1.2.1 rfl).trans (by simp; omega)) ((emb_row win0_1 t _ 2 _ _ rfl i1.2.2 rfl).trans (by simp)))

theorem seq_values (t : Fin cfg0.N) (r : Fin 512) (l : Fin 1024) :
    iblk m c 2 t (ix3 0 r l) = m ((c : Thread nD τ).loc main_arg0)
      (ix3 (bat t) ⟨512 * (t.val % 8) + r.val, by omega⟩ ⟨2048 + l.val, by omega⟩) := by
  obtain ⟨-, i2⟩ := idx t
  rw [iblk_apply, cast_eq, ← V_main_arg0 m c]
  exact congrArg (V m c main_arg0) (eq_ix3_of_val _ _ _ _ ((emb_row win0_2 t _ 0 _ _ rfl i2.1 rfl).trans (by simp [bat]))
    ((emb_row win0_2 t _ 1 _ _ rfl i2.2.1 rfl).trans (by simp; omega)) ((emb_row win0_2 t _ 2 _ _ rfl i2.2.2 rfl).trans (by simp)))

/-- The reference's two results of the kernel's arguments. -/
def keysOut : Vec Ideal S2x4x512x8x128 .f32 :=
  Cert.Reference4Ideal.Read.val_main_v10 (m ((c : Thread nD τ).loc main_arg0)) (m ((c : Thread nD τ).loc main_arg2))

def valuesOut : Vec Ideal S2x4x512x8x128 .f32 :=
  Cert.Reference4Ideal.Read.val_main_v15 (m ((c : Thread nD τ).loc main_arg0)) (m ((c : Thread nD τ).loc main_arg3))

/-- What a batch's last point leaves in its block of keys is their last 512 rows. -/
theorem keys_block (t : Fin cfg0.N) (h3 : t.val % 8 = 7) (r : Fin 512) (h : Fin 8) (d : Fin 128) :
    (outsAt0 m c t.val t.isLt).2.1 (ix5 0 0 r h d)
      = m ((c : Thread nD τ).loc main_arg0) (ix3 (bat t) ⟨3584 + r.val, by omega⟩ ⟨1024 + (128 * h.val + d.val), by omega⟩) := by
  have h0 : ¬t.val % 32 = 0 := by omega
  have h1 : ¬t.val % 8 = 0 := by omega
  rw [outsAt0_C m c t h0 h1 (by omega) h3]
  dsimp only
  unfold out0_C_6
  rw [keys_C]
  refine (read_cache _ _ _ _ _ r h d).trans ((seq_keys m c t r _).trans ?_)
  exact congrArg (m ((c : Thread nD τ).loc main_arg0)) (eq_ix3_of_val _ _ _ _ rfl (by show 512 * (t.val % 8) + r.val = 3584 + r.val; omega) rfl)

theorem keys_entry : (V m c (Pipeline.arrRef spec0 6) : FVec Ideal S2x4x512x8x128 .f32) = m ((c : Thread nD τ).loc main_arg2) := by
  show StableHlo.after (List.flatten [hostOps0, hostOps0_1, hostOps0_2]) _ (Proc.devRef .tc main_v6_1) = _
  simp only [hostOps0, hostOps0_1, hostOps0_2, List.flatten_cons, List.flatten_nil, List.append_nil, List.cons_append, List.nil_append]
  after_results; rfl

theorem keys_flushed (t : Fin cfg0.N) (hf : (cfg0.win 6).flush t = true) :
    (dats m 0 c).flushed 6 t = ((cfg0.win 6).blk t).view.read (Elt Ideal) (keysOut m c) := by
  have iw := (keys_idx t)
  have h1 := (flush0_6 t).1 hf
  rw [Cert.Kernel4Ideal.Value.flushed6]
  funext y
  obtain ⟨r, h, d, rfl⟩ : ∃ (r : Fin 512) (h : Fin 8) (d : Fin 128), y = ix5 0 0 r h d :=
    ⟨y 2, y 3, y 4, (eq_ix5 (show S1x1x512x8x128.Idx from y)).trans (by congr 1 <;> exact Subsingleton.elim _ _)⟩
  show (outsAt0 m c t.val t.isLt).2.1 (ix5 0 0 r h d) = _
  rw [keys_block m c t h1, View.read_apply, cast_eq]
  refine (keys_one (m ((c : Thread nD τ).loc main_arg0)) (m ((c : Thread nD τ).loc main_arg2)) (bat t) r h d).symm.trans ?_
  exact congrArg (keysOut m c) (eq_ix5_of_val _ _ _ _ _ _ ((emb_row win0_6 t _ 0 _ _ rfl iw.1 rfl).trans (by simp))
    ((emb_row win0_6 t _ 1 _ _ rfl iw.2.1 rfl).trans (by simp [bat])) ((emb_row win0_6 t _ 2 _ _ rfl iw.2.2.1 rfl).trans (by simp))
    ((emb_row win0_6 t _ 3 _ _ rfl iw.2.2.2.1 rfl).trans (by simp)) ((emb_row win0_6 t _ 4 _ _ rfl iw.2.2.2.2 rfl).trans (by simp))).symm

/-- The blocks written back tile the second layer. -/
theorem keys_cover (b : Fin 4) (r : Fin 512) (h : Fin 8) (d : Fin 128) :
    ∃ t : Fin cfg0.N, (cfg0.win 6).flush t = true ∧ (ix5 (1 : Fin 2) b r h d) ∈ ((cfg0.win 6).blk t).view.set := by
  have hN : cfg0.N = 32 := N_0
  have ht : 8 * b.val + 7 < cfg0.N := by omega
  have iw := (keys_idx ⟨8 * b.val + 7, ht⟩)
  refine ⟨⟨8 * b.val + 7, ht⟩, (flush0_6 _).2 (by show (8 * b.val + 7) % 8 = 7; omega), ?_⟩
  have he : ((cfg0.win 6).blk ⟨8 * b.val + 7, ht⟩).view.emb (ix5 0 0 r h d) = ix5 1 b r h d :=
    eq_ix5_of_val _ _ _ _ _ _ ((emb_row win0_6 _ _ 0 _ _ rfl iw.1 rfl).trans (by simp))
      ((emb_row win0_6 _ _ 1 _ _ rfl iw.2.1 rfl).trans (by simp; omega)) ((emb_row win0_6 _ _ 2 _ _ rfl iw.2.2.1 rfl).trans (by simp))
      ((emb_row win0_6 _ _ 3 _ _ rfl iw.2.2.2.1 rfl).trans (by simp)) ((emb_row win0_6 _ _ 4 _ _ rfl iw.2.2.2.2 rfl).trans (by simp))
  have h' := View.emb_mem_set ((cfg0.win 6).blk ⟨8 * b.val + 7, ht⟩).view (ix5 0 0 r h d)
  rwa [he] at h'

/-- They leave the first layer as it was passed in. -/
theorem keys_final : (dats m 0 c).arrAt 6 cfg0.N = keysOut m c := by
  funext i
  rw [(dats m 0 c).arrAt_eq_piecewise 6 (keysOut m c) (fun t hf => keys_flushed m c t hf) i]
  split
  · rfl
  · rename_i hi
    rw [A_eq]
    obtain ⟨l, b, r, h, d, rfl⟩ : ∃ (l : Fin 2) (b : Fin 4) (r : Fin 512) (h : Fin 8) (d : Fin 128), i = ix5 l b r h d :=
      ⟨i 0, i 1, i 2, i 3, i 4, eq_ix5 (show S2x4x512x8x128.Idx from i)⟩
    rcases (by omega : l.val = 0 ∨ l.val = 1) with hl | hl
    · obtain rfl : l = 0 := Fin.ext hl
      exact (congrFun (keys_entry m c) _).trans (keys_zero _ _ b r h d).symm
    · obtain rfl : l = 1 := Fin.ext hl
      exact absurd (keys_cover b r h d) hi

/-- What a batch's last point leaves in its block of values is their last 512 rows. -/
theorem values_block (t : Fin cfg0.N) (h3 : t.val % 8 = 7) (r : Fin 512) (h : Fin 8) (d : Fin 128) :
    (outsAt0 m c t.val t.isLt).2.2.1 (ix5 0 0 r h d)
      = m ((c : Thread nD τ).loc main_arg0) (ix3 (bat t) ⟨3584 + r.val, by omega⟩ ⟨2048 + (128 * h.val + d.val), by omega⟩) := by
  have h0 : ¬t.val % 32 = 0 := by omega
  have h1 : ¬t.val % 8 = 0 := by omega
  rw [outsAt0_C m c t h0 h1 (by omega) h3]
  dsimp only
  unfold out0_C_7
  rw [values_C]
  refine (read_cache _ _ _ _ _ r h d).trans ((seq_values m c t r _).trans ?_)
  exact congrArg (m ((c : Thread nD τ).loc main_arg0)) (eq_ix3_of_val _ _ _ _ rfl (by show 512 * (t.val % 8) + r.val = 3584 + r.val; omega) rfl)

theorem values_entry : (V m c (Pipeline.arrRef spec0 7) : FVec Ideal S2x4x512x8x128 .f32) = m ((c : Thread nD τ).loc main_arg3) := by
  show StableHlo.after (List.flatten [hostOps0, hostOps0_1, hostOps0_2]) _ (Proc.devRef .tc main_v6_2) = _
  simp only [hostOps0, hostOps0_1, hostOps0_2, List.flatten_cons, List.flatten_nil, List.append_nil, List.cons_append, List.nil_append]
  after_results; rfl

theorem values_flushed (t : Fin cfg0.N) (hf : (cfg0.win 7).flush t = true) :
    (dats m 0 c).flushed 7 t = ((cfg0.win 7).blk t).view.read (Elt Ideal) (valuesOut m c) := by
  have iw := (values_idx t)
  have h1 := (flush0_7 t).1 hf
  rw [Cert.Kernel4Ideal.Value.flushed7]
  funext y
  obtain ⟨r, h, d, rfl⟩ : ∃ (r : Fin 512) (h : Fin 8) (d : Fin 128), y = ix5 0 0 r h d :=
    ⟨y 2, y 3, y 4, (eq_ix5 (show S1x1x512x8x128.Idx from y)).trans (by congr 1 <;> exact Subsingleton.elim _ _)⟩
  show (outsAt0 m c t.val t.isLt).2.2.1 (ix5 0 0 r h d) = _
  rw [values_block m c t h1, View.read_apply, cast_eq]
  refine (values_one (m ((c : Thread nD τ).loc main_arg0)) (m ((c : Thread nD τ).loc main_arg3)) (bat t) r h d).symm.trans ?_
  exact congrArg (valuesOut m c) (eq_ix5_of_val _ _ _ _ _ _ ((emb_row win0_7 t _ 0 _ _ rfl iw.1 rfl).trans (by simp))
    ((emb_row win0_7 t _ 1 _ _ rfl iw.2.1 rfl).trans (by simp [bat])) ((emb_row win0_7 t _ 2 _ _ rfl iw.2.2.1 rfl).trans (by simp))
    ((emb_row win0_7 t _ 3 _ _ rfl iw.2.2.2.1 rfl).trans (by simp)) ((emb_row win0_7 t _ 4 _ _ rfl iw.2.2.2.2 rfl).trans (by simp))).symm

/-- The blocks written back tile the second layer. -/
theorem values_cover (b : Fin 4) (r : Fin 512) (h : Fin 8) (d : Fin 128) :
    ∃ t : Fin cfg0.N, (cfg0.win 7).flush t = true ∧ (ix5 (1 : Fin 2) b r h d) ∈ ((cfg0.win 7).blk t).view.set := by
  have hN : cfg0.N = 32 := N_0
  have ht : 8 * b.val + 7 < cfg0.N := by omega
  have iw := (values_idx ⟨8 * b.val + 7, ht⟩)
  refine ⟨⟨8 * b.val + 7, ht⟩, (flush0_7 _).2 (by show (8 * b.val + 7) % 8 = 7; omega), ?_⟩
  have he : ((cfg0.win 7).blk ⟨8 * b.val + 7, ht⟩).view.emb (ix5 0 0 r h d) = ix5 1 b r h d :=
    eq_ix5_of_val _ _ _ _ _ _ ((emb_row win0_7 _ _ 0 _ _ rfl iw.1 rfl).trans (by simp))
      ((emb_row win0_7 _ _ 1 _ _ rfl iw.2.1 rfl).trans (by simp; omega)) ((emb_row win0_7 _ _ 2 _ _ rfl iw.2.2.1 rfl).trans (by simp))
      ((emb_row win0_7 _ _ 3 _ _ rfl iw.2.2.2.1 rfl).trans (by simp)) ((emb_row win0_7 _ _ 4 _ _ rfl iw.2.2.2.2 rfl).trans (by simp))
  have h' := View.emb_mem_set ((cfg0.win 7).blk ⟨8 * b.val + 7, ht⟩).view (ix5 0 0 r h d)
  rwa [he] at h'

/-- They leave the first layer as it was passed in. -/
theorem values_final : (dats m 0 c).arrAt 7 cfg0.N = valuesOut m c := by
  funext i
  rw [(dats m 0 c).arrAt_eq_piecewise 7 (valuesOut m c) (fun t hf => values_flushed m c t hf) i]
  split
  · rfl
  · rename_i hi
    rw [A_eq]
    obtain ⟨l, b, r, h, d, rfl⟩ : ∃ (l : Fin 2) (b : Fin 4) (r : Fin 512) (h : Fin 8) (d : Fin 128), i = ix5 l b r h d :=
      ⟨i 0, i 1, i 2, i 3, i 4, eq_ix5 (show S2x4x512x8x128.Idx from i)⟩
    rcases (by omega : l.val = 0 ∨ l.val = 1) with hl | hl
    · obtain rfl : l = 0 := Fin.ext hl
      exact (congrFun (values_entry m c) _).trans (values_zero _ _ b r h d).symm
    · obtain rfl : l = 1 := Fin.ext hl
      exact absurd (values_cover b r h d) hi

end Cert.Proof.Attn

end
-- ==== Proof.Attn.Claims.lean ====
/-
  The claims about the attention call: its programs return with everything as they should leave it, and the two cache
  arrays hold the reference's.
-/
module

public import proofs.«01_k».proof.Defs
public import proofs.«01_k».proof.Proof.Attn.Final
public import proofs.«01_k».proof.Proof.Gen.Reference4Ideal
public import proofs.«01_k».proof.Proof.Gen.Kernel4
public import Idealize.ShloMosaic.Lib.Claim

@[expose] public section

set_option maxRecDepth 16384

noncomputable section

namespace Cert.Proof.Attn

open Idealize.ShloMosaic Idealize.ShloMosaic.TcCoe Idealize.SL.Sem

/-- The kernel and its ideal reading have the same body table at words: the one label's body is the same text. -/
theorem bodies_eq : Cert.Kernel4.defs₀ (F := Bits) = Cert.Kernel4Ideal.defs₀ (F := Bits) := by
  sl_kernel_rfl

theorem defs_eq : Cert.Kernel4.defs (F := Bits) = Cert.Kernel4Ideal.defs (F := Bits) := by
  unfold Cert.Kernel4.defs
  rw [bodies_eq]
  rfl

theorem main_eq : Cert.Kernel4.main (F := Bits) = Cert.Kernel4Ideal.main (F := Bits) := by
  sl_kernel_rfl

theorem frame_kernel : Cert.quiescent_Kernel4 := by
  intro m ρ _
  rw [defs_eq, main_eq]
  exact Cert.Kernel4Ideal.Gen.frame (F := Bits) m ρ

theorem frame_kernelIdeal : Cert.quiescent_Kernel4Ideal := fun m ρ _ => Cert.Kernel4Ideal.Gen.frame (F := Ideal) m ρ

/-- The reference declares no semaphore, so its counters are zero at the end. -/
theorem frame_referenceIdeal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Both runs end with the reference's caches of the common arguments. -/
theorem algebraic : Cert.algebraic_Kernel4Ideal_Reference4Ideal := by
  intro m ρ m' ρ' _ hagree
  refine ⟨keysOut m, valuesOut m, ?_, ?_⟩
  · exact (θ_run Cert.Kernel4Ideal.defs _ _).mono
      (fun r h c => ⟨(h c).2.1.trans (keys_final m c), (h c).2.2.1.trans (values_final m c), (h c).2.2.2⟩)
      (Cert.Kernel4Ideal.Value.run_blocks (F := Ideal) m ρ)
  · refine (θ_run Cert.Reference4Ideal.defs _ _).mono (fun r h c => ⟨(h c).1.trans ?_, (h c).2.1.trans ?_, (h c).2.2⟩)
      (Cert.Reference4Ideal.Value.run (F := Ideal) m' ρ')
    all_goals
      obtain ⟨a0, a1, a2, a3⟩ := hagree c
      rw [a0]
    · rw [a2]; exact (Cert.Reference4Ideal.Read.val_main_v10_eq _ _).symm
    · rw [a3]; exact (Cert.Reference4Ideal.Read.val_main_v15_eq _ _).symm

end Cert.Proof.Attn

end
-- ==== Proof.MergeSample.Tile.lean ====
/-
  One row block of the sample's merge, element by element: what the kernel's body computes for a block of 256 rows is
  what the reference computes for the same rows of the whole arrays.
-/
module

public import proofs.«01_k».proof.Proof.Gen.Kernel5Ideal.Skeleton
public import proofs.«01_k».proof.Proof.Gen.Reference5Ideal.Read
public import Idealize.ShloMosaic.Lib.Pointwise

@[expose] public section

set_option maxRecDepth 16384

noncomputable section

namespace Cert.Proof.MergeSample

open Idealize.ShloMosaic Cert.Reference5Ideal
open Cert.Kernel5Ideal.Gen (k0_pay1 k0_pay2 k0_pay3)

/-- Element `(r, j)` of the block the body writes is element `(R, j)` of the reference's result, when row `r` of every
    block is row `R` of its array: the branch outputs, the three gate column ranges, and the residual. The weights are whole. -/
theorem tile
    (X0 X1 X2 : (⟨S512x1024, .bf16⟩ : BufTy).Contents (Elt Ideal))
    (X3 : (⟨S512x18432, .f32⟩ : BufTy).Contents (Elt Ideal)) (X4 : (⟨S512x2048, .f32⟩ : BufTy).Contents (Elt Ideal))
    (X5 X6 X7 : (⟨S1024x2048, .f32⟩ : BufTy).Contents (Elt Ideal)) (X8 : (⟨S2048x2048, .f32⟩ : BufTy).Contents (Elt Ideal))
    (X9 : (⟨S2048, .f32⟩ : BufTy).Contents (Elt Ideal))
    (x0 x1 x2 : Vec Ideal Cert.Kernel5Ideal.S256x1024 .bf16) (x3 x4 x5 x10 : Vec Ideal Cert.Kernel5Ideal.S256x2048 .f32)
    (x11 : Vec Ideal Cert.Kernel5Ideal.S1x2048 .f32)
    (r : Fin 256) (R : Fin 512)
    (h0 : ∀ k : Fin 1024, x0 (ix2 r k) = X0 (ix2 R k)) (h1 : ∀ k : Fin 1024, x1 (ix2 r k) = X1 (ix2 R k))
    (h2 : ∀ k : Fin 1024, x2 (ix2 r k) = X2 (ix2 R k))
    (h3 : ∀ k : Fin 2048, x3 (ix2 r k) = X3 (ix2 R ⟨12288 + k.val, by omega⟩))
    (h4 : ∀ k : Fin 2048, x4 (ix2 r k) = X3 (ix2 R ⟨14336 + k.val, by omega⟩))
    (h5 : ∀ k : Fin 2048, x5 (ix2 r k) = X3 (ix2 R ⟨16384 + k.val, by omega⟩))
    (h10 : ∀ k : Fin 2048, x10 (ix2 r k) = X4 (ix2 R k)) (h11 : ∀ k : Fin 2048, x11 (ix2 0 k) = X9 (ix1 k))
    (j : Fin 2048) :
    k0_pay1 (F := Ideal) (k0_pay2 x3 x0 (fun i => X5 i) x4 x1 (fun i => X6 i) x5 x2 (fun i => X7 i) (fun i => X8 i))
        (k0_pay3 x3 x0 (fun i => X5 i) x4 x1 (fun i => X6 i) x5 x2 (fun i => X7 i) (fun i => X8 i))
        (Scalar.ofBits .f32 0x358637BD#32) x11 x10 (ix2 r j)
      = Read.val_main_v46 (F := Ideal) X0 X1 X2 X3 X4 X5 X6 X7 X8 X9 (ix2 R j) := by
  pointwise [k0_pay1, k0_pay2, k0_pay3, Read.val_main_v0, Read.val_main_v1, Read.val_main_v2, Read.val_main_v3, Read.val_main_v4, Read.val_main_v5, Read.val_main_v6, Read.val_main_v7, Read.val_main_cst, Read.val_main_v8, Read.val_main_v9, Read.val_main_cst_0, Read.val_main_v10, Read.val_main_v11, Read.val_main_v12, Read.val_main_v13, Read.val_main_v14, Read.val_main_v15, Read.val_main_cst_1, Read.val_main_v16, Read.val_main_v17, Read.val_main_cst_2, Read.val_main_v18, Read.val_main_v19, Read.val_main_v20, Read.val_main_v21, Read.val_main_v22, Read.val_main_v23, Read.val_main_v24, Read.val_main_cst_3, Read.val_main_v25, Read.val_main_v26, Read.val_main_cst_4, Read.val_main_v27, Read.val_main_v28, Read.val_main_v29, Read.val_main_v30, Read.val_main_v31, Read.val_main_v32, Read.val_main_v33, Read.val_main_cst_5, Read.val_main_v34, Read.val_main_v35, Read.val_main_cst_6, Read.val_main_v36, Read.val_main_v37, Read.val_main_cst_7, Read.val_main_v38, Read.val_main_v39, Read.val_main_v40, Read.val_main_v41, Read.val_main_v42, Read.val_main_v43, Read.val_main_v44, Read.val_main_v45, Read.val_main_v46]
  simp only [h0, h1, h2, h3, h4, h5, h10, h11]
  rfl

end Cert.Proof.MergeSample

end
-- ==== Proof.MergeSample.Value.lean ====
/-
  The sample's merge result: every block the kernel writes back is the block of the reference's result, and the
  blocks of 256 rows tile the array.
-/
module

public import proofs.«01_k».proof.Proof.Gen.Kernel5Ideal.Value
public import proofs.«01_k».proof.Proof.MergeSample.Tile
public import proofs.«01_k».proof.Proof.Common.Index

@[expose] public section

set_option maxRecDepth 16384

noncomputable section

namespace Cert.Proof.MergeSample

open Cert.Kernel5Ideal Cert.Kernel5Ideal.Gen Cert.Proof.Common Idealize.ShloMosaic Idealize.ShloMosaic.TcCoe Idealize.SL.Sem
open Idealize.ShloMosaic.Pipeline (Dat)

variable (m : (ℓ : Loc nD τ sig) → Buf (Elt Ideal) ℓ)

/-- The reference's result of the kernel's arguments. -/
def result (c : Dev nD) : Vec Ideal S512x2048 .f32 :=
  Cert.Reference5Ideal.Read.val_main_v46 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The block indices: a row block's is the grid point, the gates' column blocks are 6, 7 and 8, the weights' blocks are
    whole arrays. -/
theorem idx : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 6)
    ∧ (win0_4.index t 0 = t.val ∧ win0_4.index t 1 = 7) ∧ (win0_5.index t 0 = t.val ∧ win0_5.index t 1 = 8)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = t.val ∧ win0_10.index t 1 = 0) ∧ (win0_11.index t 0 = 0 ∧ win0_11.index t 1 = 0)
    ∧ (win0_12.index t 0 = t.val ∧ win0_12.index t 1 = 0) :=
  (by decide +kernel : ∀ t : Fin grid0.N, _)

/-- The staged weights and norm row when the kernel is entered: the arguments, cast or as one row. -/
theorem staged (c : Dev nD) :
    (V m c main_v0 = fun i => m ((c : Thread nD τ).loc main_arg5) i)
    ∧ (V m c main_v1 = fun i => m ((c : Thread nD τ).loc main_arg6) i)
    ∧ (V m c main_v2 = fun i => m ((c : Thread nD τ).loc main_arg7) i)
    ∧ (V m c main_v3 = fun i => m ((c : Thread nD τ).loc main_arg8) i)
    ∧ V m c main_v4 = broadcastInDim S1x2048 ![1] bcast_S2048_S1x2048_1 (m ((c : Thread nD τ).loc main_arg9)) := by
  refine ⟨?_, ?_, ?_, ?_, ?_⟩
  · show StableHlo.after hostOps0 _ (Proc.devRef .tc main_v0) = _
    after_results; rfl
  · show StableHlo.after hostOps0 _ (Proc.devRef .tc main_v1) = _
    after_results; rfl
  · show StableHlo.after hostOps0 _ (Proc.devRef .tc main_v2) = _
    after_results; rfl
  · show StableHlo.after hostOps0 _ (Proc.devRef .tc main_v3) = _
    after_results; rfl
  · show StableHlo.after hostOps0 _ (Proc.devRef .tc main_v4) = _
    after_results

theorem hz : (![0, 0] : Fin 2 → Nat) = fun _ => 0 := funext fun a => by fin_cases a <;> rfl

/-- Reading a window's array through its block: the element of the array at the block's place. -/
theorem iblk_apply (c : Dev nD) (w : Fin cfg0.W) (t : Fin cfg0.N) (y) :
    iblk m c w t y = cast (congrArg (Elt Ideal) ((cfg0.win w).blk t).view.elt_eq)
      (V m c (Pipeline.arrRef spec0 w) (((cfg0.win w).blk t).view.emb y)) := by
  unfold iblk; rw [View.read_apply]

/-- Where element `(r, k)` of a window's block lies in its array, from the block's indices. -/
theorem emb_row (w : Pipeline.Window sig grid0) (t : Fin grid0.N) (y : (w.xblock (grid0.coords t)).Idx)
    (a : Fin w.shape.rank) (n s : ℕ) (hk : w.kind = .blocked) (hn : w.index t a = n) (hs : w.size a = s) :
    ((w.rect t).emb y a : Nat) = n * s + y a := by
  rw [w.rect_emb_val t y a hk, hn, hs]

/-- What point `t` writes back is block `t` of the reference's result. -/
theorem flushed_eq (c : Dev nD) (t : Fin cfg0.N) :
    (dats m 0 c).flushed 12 t = ((cfg0.win 12).blk t).view.read (Elt Ideal) (result m c) := by
  have hN : t.val < 2 := t.isLt.trans_eq N_0
  obtain ⟨i0, i1, i2, i3, i4, i5, i6, i7, i8, i9, i10, i11, i12⟩ := idx t
  obtain ⟨s0, s1, s2, s3, s4⟩ := staged m c
  rw [Cert.Kernel5Ideal.Value.flushed12]
  funext y
  obtain ⟨r, j, rfl⟩ : ∃ (r : Fin 256) (j : Fin 2048), y = ix2 r j := ⟨y 0, y 1, eq_ix2 y⟩
  show out0_12 _ _ _ _ _ _ _ _ _ _ _ _ (ix2 r j) = _
  unfold out0_12
  rw [View.canon_unit_zero hz]
  repeat rw [View.ld_unit_zero hz]
  have e6 : (iblk m c 6 t : Vec Ideal S1024x2048 .bf16) = fun i => m ((c : Thread nD τ).loc main_arg5) i := by
    refine Eq.trans (funext fun y => ?_) s0
    rw [iblk_apply, cast_eq]
    exact congrArg (V m c main_v0) (((eq_ix2_of_val _ (y 0) (y 1)
      ((emb_row win0_6 t y 0 0 _ rfl i6.1 rfl).trans (by omega)) ((emb_row win0_6 t y 1 0 _ rfl i6.2 rfl).trans (by omega)))).trans (eq_ix2 y).symm)
  have e7 : (iblk m c 7 t : Vec Ideal S1024x2048 .bf16) = fun i => m ((c : Thread nD τ).loc main_arg6) i := by
    refine Eq.trans (funext fun y => ?_) s1
    rw [iblk_apply, cast_eq]
    exact congrArg (V m c main_v1) (((eq_ix2_of_val _ (y 0) (y 1)
      ((emb_row win0_7 t y 0 0 _ rfl i7.1 rfl).trans (by omega)) ((emb_row win0_7 t y 1 0 _ rfl i7.2 rfl).trans (by omega)))).trans (eq_ix2 y).symm)
  have e8 : (iblk m c 8 t : Vec Ideal S1024x2048 .bf16) = fun i => m ((c : Thread nD τ).loc main_arg7) i := by
    refine Eq.trans (funext fun y => ?_) s2
    rw [iblk_apply, cast_eq]
    exact congrArg (V m c main_v2) (((eq_ix2_of_val _ (y 0) (y 1)
      ((emb_row win0_8 t y 0 0 _ rfl i8.1 rfl).trans (by omega)) ((emb_row win0_8 t y 1 0 _ rfl i8.2 rfl).trans (by omega)))).trans (eq_ix2 y).symm)
  have e9 : (iblk m c 9 t : Vec Ideal S2048x2048 .bf16) = fun i => m ((c : Thread nD τ).loc main_arg8) i := by
    refine Eq.trans (funext fun y => ?_) s3
    rw [iblk_apply, cast_eq]
    exact congrArg (V m c main_v3) (((eq_ix2_of_val _ (y 0) (y 1)
      ((emb_row win0_9 t y 0 0 _ rfl i9.1 rfl).trans (by omega)) ((emb_row win0_9 t y 1 0 _ rfl i9.2 rfl).trans (by omega)))).trans (eq_ix2 y).symm)
  rw [e6, e7, e8, e9]
  have R : 256 * t.val + r.val < 512 := by omega
  refine (tile (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) _ _ _ _ _ _ _ _ r ⟨256 * t.val + r.val, R⟩ ?_ ?_ ?_ ?_ ?_ ?_ ?_ ?_ j).trans ?_
  · intro k
    rw [iblk_apply, cast_eq, ← V_main_arg0 m c]
    exact congrArg (V m c main_arg0) (eq_ix2_of_val _ _ _ ((emb_row win0_0 t _ 0 _ _ rfl i0.1 rfl).trans (by simp; omega)) ((emb_row win0_0 t _ 1 _ _ rfl i0.2 rfl).trans (by simp)))
  · intro k
    rw [iblk_apply, cast_eq, ← V_main_arg1 m c]
    exact congrArg (V m c main_arg1) (eq_ix2_of_val _ _ _ ((emb_row win0_1 t _ 0 _ _ rfl i1.1 rfl).trans (by simp; omega)) ((emb_row win0_1 t _ 1 _ _ rfl i1.2 rfl).trans (by simp)))
  · intro k
    rw [iblk_apply, cast_eq, ← V_main_arg2 m c]
    exact congrArg (V m c main_arg2) (eq_ix2_of_val _ _ _ ((emb_row win0_2 t _ 0 _ _ rfl i2.1 rfl).trans (by simp; omega)) ((emb_row win0_2 t _ 1 _ _ rfl i2.2 rfl).trans (by simp)))
  · intro k
    rw [iblk_apply, cast_eq, ← V_main_arg3 m c]
    exact congrArg (V m c main_arg3) (eq_ix2_of_val _ _ _ ((emb_row win0_3 t _ 0 _ _ rfl i3.1 rfl).trans (by simp; omega)) ((emb_row win0_3 t _ 1 _ _ rfl i3.2 rfl).trans (by simp)))
  · intro k
    rw [iblk_apply, cast_eq, ← V_main_arg3 m c]
    exact congrArg (V m c main_arg3) (eq_ix2_of_val _ _ _ ((emb_row win0_4 t _ 0 _ _ rfl i4.1 rfl).trans (by simp; omega)) ((emb_row win0_4 t _ 1 _ _ rfl i4.2 rfl).trans (by simp)))
  · intro k
    rw [iblk_apply, cast_eq, ← V_main_arg3 m c]
    exact congrArg (V m c main_arg3) (eq_ix2_of_val _ _ _ ((emb_row win0_5 t _ 0 _ _ rfl i5.1 rfl).trans (by simp; omega)) ((emb_row win0_5 t _ 1 _ _ rfl i5.2 rfl).trans (by simp)))
  · intro k
    rw [iblk_apply, cast_eq, ← V_main_arg4 m c]
    exact congrArg (V m c main_arg4) (eq_ix2_of_val _ _ _ ((emb_row win0_10 t _ 0 _ _ rfl i10.1 rfl).trans (by simp; omega)) ((emb_row win0_10 t _ 1 _ _ rfl i10.2 rfl).trans (by simp)))
  · intro k
    rw [iblk_apply, cast_eq]
    refine (congrArg (V m c main_v4) (eq_ix2_of_val _ 0 k ((emb_row win0_11 t _ 0 _ _ rfl i11.1 rfl).trans (by simp)) ((emb_row win0_11 t _ 1 _ _ rfl i11.2 rfl).trans (by simp)))).trans ?_
    rw [s4]; pointwise []
  · rw [View.read_apply, cast_eq]
    exact congrArg (result m c) (eq_ix2_of_val _ _ _ ((emb_row win0_12 t _ 0 _ _ rfl i12.1 rfl).trans (by simp; omega)) ((emb_row win0_12 t _ 1 _ _ rfl i12.2 rfl).trans (by simp))).symm

/-- The row blocks tile the result array. -/
theorem cover (i : S512x2048.Idx) :
    ∃ t : Fin cfg0.N, (cfg0.win 12).flush t = true ∧ i ∈ ((cfg0.win 12).blk t).view.set := by
  have h0 : (i 0).val < 512 := (i 0).isLt
  have hN : cfg0.N = 2 := N_0
  have ht : (i 0).val / 256 < cfg0.N := by omega
  obtain ⟨-, -, -, -, -, -, -, -, -, -, -, -, i12⟩ := idx ⟨(i 0).val / 256, ht⟩
  refine ⟨⟨(i 0).val / 256, ht⟩, flush0_12 _, ?_⟩
  have h : ((cfg0.win 12).blk ⟨(i 0).val / 256, ht⟩).view.emb (ix2 ⟨(i 0).val % 256, Nat.mod_lt _ (by decide)⟩ (i 1)) = i :=
    (eq_ix2_of_val _ _ _ ((emb_row win0_12 _ _ 0 _ _ rfl i12.1 rfl).trans (by simp; omega))
      ((emb_row win0_12 _ _ 1 _ _ rfl i12.2 rfl).trans (by simp))).trans (eq_ix2 i).symm
  have h' := View.emb_mem_set ((cfg0.win 12).blk ⟨(i 0).val / 256, ht⟩).view (ix2 ⟨(i 0).val % 256, Nat.mod_lt _ (by decide)⟩ (i 1))
  rwa [h] at h'

/-- So the result array ends holding the reference's result. -/
theorem final (c : Dev nD) : (dats m 0 c).arrAt 12 cfg0.N = result m c :=
  (dats m 0 c).arrAt_eq_of_cover 12 (result m c) (fun t _ => flushed_eq m c t) cover

end Cert.Proof.MergeSample

end
-- ==== Proof.MergeSample.Claims.lean ====
/-
  The claims of the sample's merge: the two frames from one run, the reference's frame, and the equality of the two results.
-/
module

public import proofs.«01_k».proof.Defs
public import proofs.«01_k».proof.Proof.Gen.Kernel5
public import proofs.«01_k».proof.Proof.MergeSample.Value

@[expose] public section

noncomputable section

namespace Cert.Proof.MergeSample

open Idealize.ShloMosaic Idealize.ShloMosaic.TcCoe Idealize.SL.Sem

/-- The kernel and its ideal reading have the same body table at words: the one label's body is the same text. -/
theorem bodies_eq : Cert.Kernel5.defs₀ (F := Bits) = Cert.Kernel5Ideal.defs₀ (F := Bits) := by
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel5.defs (F := Bits) = Cert.Kernel5Ideal.defs (F := Bits) := by
  unfold Cert.Kernel5.defs
  rw [bodies_eq]
  rfl

theorem frame_kernel : Cert.quiescent_Kernel5 := by
  intro m ρ _
  rw [defs_eq]
  exact Cert.Kernel5Ideal.Gen.frame (F := Bits) m ρ

theorem frame_kernelIdeal : Cert.quiescent_Kernel5Ideal := fun m ρ _ => Cert.Kernel5Ideal.Gen.frame (F := Ideal) m ρ

/-- The reference declares no semaphore, so its counters are zero at the end. -/
theorem frame_referenceIdeal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Both runs end with the reference's result of the common arguments. -/
theorem algebraic : Cert.algebraic_Kernel5Ideal_Reference5Ideal := by
  intro m ρ m' ρ' _ hagree
  refine ⟨result m, ?_, ?_⟩
  · exact (θ_run Cert.Kernel5Ideal.defs _ _).mono (fun r h c => ⟨(h c).1.trans (final m c), (h c).2⟩)
      (Cert.Kernel5Ideal.Value.run_blocks (F := Ideal) m ρ)
  · refine (θ_run Cert.Reference5Ideal.defs _ _).mono (fun r h c => ⟨(h c).1.trans ?_, (h c).2⟩)
      (Cert.Reference5Ideal.Value.run (F := Ideal) m' ρ')
    obtain ⟨a0, a1, a2, a3, a4, a5, a6, a7, a8, a9⟩ := hagree c
    rw [Cert.Reference5Ideal.Read.val_main_v46_eq, a0, a1, a2, a3, a4, a5, a6, a7, a8, a9]
    rfl

end Cert.Proof.MergeSample

end
-- ==== Proof.AttnSample.Cache.lean ====
/-
  What a point of the sample's attention call stores in its two cache blocks: the last 448 rows of the cached block
  passed in, and behind them, for head `h`, the staged block's columns of head `h`.
-/
module

public import proofs.«01_k».proof.Proof.Gen.Kernel6Ideal.Value
public import proofs.«01_k».proof.Proof.Common.Index
public import Idealize.ShloMosaic.Lib.Pointwise
public import Idealize.ShloMosaic.Lib.WholeRead

@[expose] public section

set_option maxRecDepth 16384

noncomputable section

namespace Cert.Proof.AttnSample

open Cert.Kernel6Ideal Cert.Kernel6Ideal.Gen Cert.Proof.Common Idealize.ShloMosaic Idealize.ShloMosaic.TcCoe Idealize.SL.Sem

variable {F : FTy → Type} [FloatOps F]

theorem cols_fit (h : ℕ) : ∀ a, (![0, 0, 128 * (h % 8)] : Fin 3 → ℕ) a + S1x64x128.size a ≤ S1x64x1024.size a := by
  intro a
  have hh := Nat.mod_lt h (show 0 < 8 by decide)
  fin_cases a <;> simp [Shape.size] <;> omega

theorem plane_fits (h : ℕ) : ∀ a, (![0, 0, 448, h % 8, 0] : Fin 5 → ℕ) a + S1x1x64x1x128.size a ≤ S1x1x512x8x128.size a := by
  intro a
  have hh := Nat.mod_lt h (show 0 < 8 by decide)
  fin_cases a <;> simp [Shape.size] <;> omega

/-- Head `h`'s columns in a staged block. -/
abbrev colBox (h : ℕ) : Rect S1x64x1024 := Rect.unit ![0, 0, 128 * (h % 8)] S1x64x128.size (cols_fit h)

/-- Head `h`'s plane in the last 64 rows of a cache block. -/
abbrev planeBox (h : ℕ) : Rect S1x1x512x8x128 := Rect.unit ![0, 0, 448, h % 8, 0] S1x1x64x1x128.size (plane_fits h)

/-- The first 448 rows of a cache block, and its last 448 rows. -/
abbrev headBox : Rect S1x1x512x8x128 :=
  Rect.unit ![0, 0, 0, 0, 0] S1x1x448x8x128.size inb_S1x1x512x8x128_S1x1x448x8x128_0_0_0_0_0
abbrev tailBox : Rect S1x1x512x8x128 :=
  Rect.unit ![0, 0, 64, 0, 0] S1x1x448x8x128.size inb_S1x1x512x8x128_S1x1x448x8x128_0_0_64_0_0

/-- The store of the cached rows that stay. -/
def keptPiece (cache : Memref sig .tc .vmem S1x1x512x8x128 .f32) (hcache : cache.IsWhole)
    (x : Vec F S1x1x512x8x128 .f32) : View.Piece (Elt F) S1x1x512x8x128 .f32 :=
  ⟨headBox, shapeCast S1x1x448x8x128
    (shapeCast S448x8x128 (View.readAt (Elt F) cache.view tailBox.toLoadRect (hcache.unread x)) shapeCasts_S1x1x448x8x128_S448x8x128)
    shapeCasts_S448x8x128_S1x1x448x8x128⟩

/-- The nine stores into a cache block, last first: each head's columns of the staged block `x`, then the rows kept. -/
def cachePieces (arg : Memref sig .tc .vmem S1x64x1024 .f32) (harg : arg.IsWhole) (x : Vec F S1x64x1024 .f32)
    (cache : Memref sig .tc .vmem S1x1x512x8x128 .f32) (hcache : cache.IsWhole) (k : Vec F S1x1x512x8x128 .f32) :
    List (View.Piece (Elt F) S1x1x512x8x128 .f32) :=
  ((List.range 8).map fun h => ⟨planeBox h, shapeCast S1x1x64x1x128
    (shapeCast S64x128 (View.readAt (Elt F) arg.view (colBox h).toLoadRect (harg.unread x)) shapeCasts_S1x64x128_S64x128)
    shapeCasts_S64x128_S1x1x64x1x128⟩).reverse ++ [keptPiece cache hcache k]

section Runs
variable (c : Dev nD) (i : grid0.Coords)
  (arg2 : Memref sig .tc .vmem S1x64x1024 .f32) (harg2 : arg2.IsWhole)
  (arg3 : Memref sig .tc .vmem S1x64x1024 .f32) (harg3 : arg3.IsWhole)
  (arg4 : Memref sig .tc .vmem S1x64x1024 .f32) (harg4 : arg4.IsWhole)
  (arg5 : Memref sig .tc .vmem S1x64x1024 .f32) (harg5 : arg5.IsWhole)
  (arg6 : Memref sig .tc .vmem S8x640 .f32) (harg6 : arg6.IsWhole)
  (arg7 : Memref sig .tc .vmem S1x1x512x8x128 .f32) (harg7 : arg7.IsWhole)
  (arg8 : Memref sig .tc .vmem S1x1x512x8x128 .f32) (harg8 : arg8.IsWhole)
  (arg11 : Memref sig .tc .vmem S1x64x1024 .bf16) (harg11 : arg11.IsWhole)
  (arg12 : Memref sig .tc .vmem S1x1x512x8x128 .f32) (harg12 : arg12.IsWhole)
  (arg13 : Memref sig .tc .vmem S1x1x512x8x128 .f32) (harg13 : arg13.IsWhole)
  (arg14 : Memref sig .tc .vmem S8x128x576 .bf16) (harg14 : arg14.IsWhole)
  (arg15 : Memref sig .tc .vmem S576x1024 .bf16) (harg15 : arg15.IsWhole)
  (arg16 : Memref sig .tc .vmem S8x64x640 .f32) (harg16 : arg16.IsWhole)
  (x0 x1 x2 x3 : Vec F S1x64x1024 .f32) (x4 : Vec F S8x640 .f32) (x5 x6 : Vec F S1x1x512x8x128 .f32)
  (xs2 : Vec F S8x64x640 .f32)

/-- The key block's stores at the first point, and at every later one. -/
theorem keys_A (hc0 : cond0_0 i) (hc1 : cond0_1 i) :
    (kernelRun0_A c i arg2 harg2 arg3 harg3 arg4 harg4 arg5 harg5 arg6 harg6 arg7 harg7 arg8 harg8 arg11 harg11 arg12 harg12 arg13 harg13 arg14 harg14 arg15 harg15 arg16 harg16 hc0 hc1 x0 x1 x2 x3 x4 x5 x6).2.1 = cachePieces arg3 harg3 x1 arg7 harg7 x5 := by
  sl_kernel_rfl

theorem keys_B (hc0 : ¬cond0_0 i) (hc1 : cond0_1 i) :
    (kernelRun0_B c i arg2 harg2 arg3 harg3 arg4 harg4 arg5 harg5 arg6 harg6 arg7 harg7 arg8 harg8 arg11 harg11 arg12 harg12 arg13 harg13 arg14 harg14 arg15 harg15 arg16 harg16 hc0 hc1 x0 x1 x2 x3 x4 x5 x6 xs2).2.1 = cachePieces arg3 harg3 x1 arg7 harg7 x5 := by
  sl_kernel_rfl

/-- The value block's, in the same way. -/
theorem values_A (hc0 : cond0_0 i) (hc1 : cond0_1 i) :
    (kernelRun0_A c i arg2 harg2 arg3 harg3 arg4 harg4 arg5 harg5 arg6 harg6 arg7 harg7 arg8 harg8 arg11 harg11 arg12 harg12 arg13 harg13 arg14 harg14 arg15 harg15 arg16 harg16 hc0 hc1 x0 x1 x2 x3 x4 x5 x6).2.2.1 = cachePieces arg4 harg4 x2 arg8 harg8 x6 := by
  sl_kernel_rfl

theorem values_B (hc0 : ¬cond0_0 i) (hc1 : cond0_1 i) :
    (kernelRun0_B c i arg2 harg2 arg3 harg3 arg4 harg4 arg5 harg5 arg6 harg6 arg7 harg7 arg8 harg8 arg11 harg11 arg12 harg12 arg13 harg13 arg14 harg14 arg15 harg15 arg16 harg16 hc0 hc1 x0 x1 x2 x3 x4 x5 x6 xs2).2.2.1 = cachePieces arg4 harg4 x2 arg8 harg8 x6 := by
  sl_kernel_rfl

end Runs

theorem colBox_idx (h : Fin 8) (r : Fin 64) (d : Fin 128) :
    (colBox h).toLoadRect.idx (ix3 0 r d) = ix3 0 r ⟨128 * h.val + d.val, by omega⟩ := by
  have hh := h.isLt
  refine eq_ix3_of_val _ _ _ _ rfl ?_ ?_
  · show 0 + 1 * r.val = r.val; omega
  · show 128 * (h.val % 8) + 1 * d.val = 128 * h.val + d.val; omega

theorem tailBox_idx (r : Fin 448) (h : Fin 8) (d : Fin 128) :
    tailBox.toLoadRect.idx (ix5 0 0 r h d) = ix5 0 0 ⟨64 + r.val, by omega⟩ h d := by
  refine eq_ix5_of_val _ _ _ _ _ _ rfl rfl ?_ ?_ ?_
  · show 64 + 1 * r.val = 64 + r.val; omega
  · show 0 + 1 * h.val = h.val; omega
  · show 0 + 1 * d.val = d.val; omega

/-- A head's columns as a plane of the cache. -/
theorem plane_apply (X : FVec F S1x64x128 .f32) (r : Fin 64) (d : Fin 128) :
    (shapeCast S1x1x64x1x128 (shapeCast S64x128 X shapeCasts_S1x64x128_S64x128) shapeCasts_S64x128_S1x1x64x1x128 :
      FVec F S1x1x64x1x128 .f32) (ix5 0 0 r 0 d) = X (ix3 0 r d) := by
  pointwise []

/-- The kept rows, stored in their own layout. -/
theorem kept_apply (X : FVec F S1x1x448x8x128 .f32) (r : Fin 448) (h : Fin 8) (d : Fin 128) :
    (shapeCast S1x1x448x8x128 (shapeCast S448x8x128 X shapeCasts_S1x1x448x8x128_S448x8x128) shapeCasts_S448x8x128_S1x1x448x8x128 :
      FVec F S1x1x448x8x128 .f32) (ix5 0 0 r h d) = X (ix5 0 0 r h d) := by
  pointwise []

/-- The element that belongs at row `r`, head `h`, lane `d` of the new cache block: the cached row 64 further on, or the
    staged block's row behind them. -/
def cacheAt (x : Vec F S1x64x1024 .f32) (k : Vec F S1x1x512x8x128 .f32) (r : Fin 512) (h : Fin 8) (d : Fin 128) : Elt F .f32 :=
  if hr : r.val < 448 then k (ix5 0 0 ⟨64 + r.val, by omega⟩ h d)
  else x (ix3 0 ⟨r.val - 448, by omega⟩ ⟨128 * h.val + d.val, by omega⟩)

/-- A cache block after the stores. -/
theorem read_cache (v : View sig .tc .vmem S1x1x512x8x128 .f32) (f : v.ty.Contents (Elt F))
    (arg : Memref sig .tc .vmem S1x64x1024 .f32) (harg : arg.IsWhole) (x : Vec F S1x64x1024 .f32)
    (cache : Memref sig .tc .vmem S1x1x512x8x128 .f32) (hcache : cache.IsWhole) (k : Vec F S1x1x512x8x128 .f32)
    (r : Fin 512) (h : Fin 8) (d : Fin 128) :
    v.read (Elt F) (v.writes (Elt F) f (cachePieces arg harg x cache hcache k)) (ix5 0 0 r h d) = cacheAt x k r h d := by
  refine (View.read_writes_apply_of_pieces v f (fun y : S1x1x512x8x128.Idx => cacheAt x k (y 2) (y 3) (y 4))
    (cachePieces arg harg x cache hcache k) ?_ (ix5 0 0 r h d) ?_)
  · intro p hp y
    rcases List.mem_append.1 hp with hp | hp
    · obtain ⟨n, hn, rfl⟩ := List.mem_map.1 (List.mem_reverse.1 hp)
      have hn8 : n < 8 := List.mem_range.1 hn
      obtain ⟨q, e, rfl⟩ : ∃ (q : Fin 64) (e : Fin 128), y = ix5 0 0 q 0 e :=
        ⟨y 2, y 4, (eq_ix5 (show S1x1x64x1x128.Idx from y)).trans (by congr 1 <;> exact Subsingleton.elim _ _)⟩
      have hemb : (planeBox n).emb (ix5 0 0 q 0 e) = ix5 0 0 ⟨448 + q.val, by omega⟩ ⟨n, hn8⟩ e := by
        refine eq_ix5_of_val _ _ _ _ _ _ rfl rfl ?_ ?_ ?_
        · rw [Rect.emb_apply]; show 448 + 1 * q.val = 448 + q.val; omega
        · rw [Rect.emb_apply]; show n % 8 + 1 * 0 = n; omega
        · rw [Rect.emb_apply]; show 0 + 1 * e.val = e.val; omega
      show _ = (fun y : S1x1x512x8x128.Idx => cacheAt x k (y 2) (y 3) (y 4)) ((planeBox n).emb (ix5 0 0 q 0 e))
      rw [hemb]
      show _ = cacheAt x k ⟨448 + q.val, _⟩ ⟨n, hn8⟩ e
      unfold cacheAt
      rw [dif_neg (by simp)]
      refine (plane_apply (View.readAt (Elt F) arg.view (colBox n).toLoadRect (harg.unread x)) q e).trans ((Memref.IsWhole.readAt_unread harg x _ _).trans ?_)
      refine congrArg x ((colBox_idx ⟨n, hn8⟩ q e).trans ?_)
      exact eq_ix3_of_val _ _ _ _ rfl (by show q.val = 448 + q.val - 448; omega) rfl
    · obtain rfl := List.mem_singleton.1 hp
      obtain ⟨q, g, e, rfl⟩ : ∃ (q : Fin 448) (g : Fin 8) (e : Fin 128), y = ix5 0 0 q g e :=
        ⟨y 2, y 3, y 4, (eq_ix5 (show S1x1x448x8x128.Idx from y)).trans (by congr 1 <;> exact Subsingleton.elim _ _)⟩
      have hemb : headBox.emb (ix5 0 0 q g e) = ix5 0 0 ⟨q.val, by omega⟩ g e := by
        refine eq_ix5_of_val _ _ _ _ _ _ rfl rfl ?_ ?_ ?_
        · rw [Rect.emb_apply]; show 0 + 1 * q.val = q.val; omega
        · rw [Rect.emb_apply]; show 0 + 1 * g.val = g.val; omega
        · rw [Rect.emb_apply]; show 0 + 1 * e.val = e.val; omega
      show _ = (fun y : S1x1x512x8x128.Idx => cacheAt x k (y 2) (y 3) (y 4)) (headBox.emb (ix5 0 0 q g e))
      rw [hemb]
      show _ = cacheAt x k ⟨q.val, _⟩ g e
      unfold cacheAt
      rw [dif_pos q.isLt]
      refine (kept_apply (View.readAt (Elt F) cache.view tailBox.toLoadRect (hcache.unread k)) q g e).trans ((Memref.IsWhole.readAt_unread hcache k _ _).trans ?_)
      exact congrArg k (tailBox_idx q g e)
  · have hh := h.isLt
    have hd := d.isLt
    by_cases hr : r.val < 448
    · refine ⟨_, List.mem_append_right _ (List.mem_singleton.2 rfl), ?_⟩
      show _ ∈ headBox.set
      rw [Rect.mem_set_unit]
      intro a
      fin_cases a <;> simp [Shape.size] <;> omega
    · refine ⟨_, List.mem_append_left _ (List.mem_reverse.2 (List.mem_map.2 ⟨h.val, List.mem_range.2 h.isLt, rfl⟩)), ?_⟩
      rw [Rect.mem_set_unit]
      intro a
      fin_cases a <;> simp [Shape.size] <;> omega

end Cert.Proof.AttnSample

end
-- ==== Proof.AttnSample.Final.lean ====
/-
  The sample's two cache arrays: the second layer holds the last 448 cached rows and, behind them, the projection's key and
  value columns, written by each batch's point; the first layer is the one passed in.
-/
module

public import proofs.«01_k».proof.Proof.AttnSample.Cache
public import proofs.«01_k».proof.Proof.Gen.Reference6Ideal.Read
public import Idealize.ShloMosaic.Lib.VecWindow

@[expose] public section

set_option maxRecDepth 16384

noncomputable section

namespace Cert.Proof.AttnSample

open Cert.Proof.Common Cert.Kernel6Ideal Cert.Kernel6Ideal.Gen Idealize.ShloMosaic Idealize.ShloMosaic.TcCoe Idealize.SL.Sem
open Idealize.ShloMosaic.Pipeline (Dat)

section
variable (p : (⟨Cert.Reference6Ideal.S8x64x18432, .f32⟩ : BufTy).Contents (Elt Ideal))
  (C P : (⟨Cert.Reference6Ideal.S2x8x512x8x128, .f32⟩ : BufTy).Contents (Elt Ideal)) (b : Fin 8) (r : Fin 512) (h : Fin 8) (d : Fin 128)

open Cert.Reference6Ideal.Read

/-- Row `r` of the second layer's new cache: the cached row 64 further on, or the projection's row behind them, in the
    columns from `n`. -/
def rowAt (n : ℕ) (hn : n + 1024 ≤ 18432) : Elt Ideal .f32 :=
  if hr : r.val < 448 then C (ix5 1 b ⟨64 + r.val, by omega⟩ h d)
  else p (ix3 b ⟨r.val - 448, by omega⟩ ⟨n + (128 * h.val + d.val), by omega⟩)

/-- The reference's stacked keys: the first layer's are the ones passed in, the second layer's the shifted cache. -/
theorem keys_zero : val_main_v16 p C P (ix5 0 b r h d) = P (ix5 0 b r h d) := by
  pointwise [val_main_v16, val_main_v15, val_main_v14, val_main_v13, val_main_v12]

theorem keys_one : val_main_v16 p C P (ix5 1 b r h d) = rowAt p C b r h d 1024 (by decide) := by
  pointwise [val_main_v16, val_main_v15, val_main_v14, val_main_v13, val_main_v12, val_main_v5, val_main_v4, val_main_v3, val_main_v2, val_main_v1, val_main_v0]
  unfold rowAt
  by_cases hr : r.val < 448
  · rw [dif_pos hr, dif_pos (by omega)]
  · rw [dif_neg hr, dif_neg (by omega)]
    exact congrArg p (eq_ix3_of_val _ _ _ _ rfl (by show 64 + r.val - 512 = r.val - 448; omega)
      (by show 1024 + (h.val * 128 + d.val) = 1024 + (128 * h.val + d.val); omega))

/-- The reference's stacked values, in the same way. -/
theorem values_zero : val_main_v21 p C P (ix5 0 b r h d) = P (ix5 0 b r h d) := by
  pointwise [val_main_v21, val_main_v20, val_main_v19, val_main_v18, val_main_v17]

theorem values_one : val_main_v21 p C P (ix5 1 b r h d) = rowAt p C b r h d 2048 (by decide) := by
  pointwise [val_main_v21, val_main_v20, val_main_v19, val_main_v18, val_main_v17, val_main_v11, val_main_v10, val_main_v9, val_main_v8, val_main_v7, val_main_v6]
  unfold rowAt
  by_cases hr : r.val < 448
  · rw [dif_pos hr, dif_pos (by omega)]
  · rw [dif_neg hr, dif_neg (by omega)]
    exact congrArg p (eq_ix3_of_val _ _ _ _ rfl (by show 64 + r.val - 512 = r.val - 448; omega)
      (by show 2048 + (h.val * 128 + d.val) = 2048 + (128 * h.val + d.val); omega))

end

/-- A point's batch. -/
def bat (t : Fin cfg0.N) : Fin 8 := ⟨t.val, t.isLt.trans_eq N_0⟩

/-- The block indices of the key and value columns, of the cached blocks and of the new ones. -/
theorem idx : ∀ t : Fin cfg0.N,
    (win0_1.index t 0 = t.val ∧ win0_1.index t 1 = 0 ∧ win0_1.index t 2 = 1)
    ∧ (win0_2.index t 0 = t.val ∧ win0_2.index t 1 = 0 ∧ win0_2.index t 2 = 2) :=
  (by decide +kernel : ∀ t : Fin grid0.N, _)

theorem cached_idx : ∀ t : Fin cfg0.N,
    (win0_5.index t 0 = 1 ∧ win0_5.index t 1 = t.val ∧ win0_5.index t 2 = 0 ∧ win0_5.index t 3 = 0 ∧ win0_5.index t 4 = 0)
    ∧ (win0_6.index t 0 = 1 ∧ win0_6.index t 1 = t.val ∧ win0_6.index t 2 = 0 ∧ win0_6.index t 3 = 0 ∧ win0_6.index t 4 = 0) :=
  (by decide +kernel : ∀ t : Fin grid0.N, _)

theorem new_idx : ∀ t : Fin cfg0.N,
    (win0_8.index t 0 = 1 ∧ win0_8.index t 1 = t.val ∧ win0_8.index t 2 = 0 ∧ win0_8.index t 3 = 0 ∧ win0_8.index t 4 = 0)
    ∧ (win0_9.index t 0 = 1 ∧ win0_9.index t 1 = t.val ∧ win0_9.index t 2 = 0 ∧ win0_9.index t 3 = 0 ∧ win0_9.index t 4 = 0) :=
  (by decide +kernel : ∀ t : Fin grid0.N, _)

variable (m : (ℓ : Loc nD τ sig) → Buf (Elt Ideal) ℓ) (c : Dev nD)

/-- Reading a window's array through its block: the element of the array at the block's place. -/
theorem iblk_apply (w : Fin cfg0.W) (t : Fin cfg0.N) (y) :
    iblk m c w t y = cast (congrArg (Elt Ideal) ((cfg0.win w).blk t).view.elt_eq)
      (V m c (Pipeline.arrRef spec0 w) (((cfg0.win w).blk t).view.emb y)) := by
  unfold iblk; rw [View.read_apply]

/-- Where an element of a window's block lies in its array, from the block's index. -/
theorem emb_row (w : Pipeline.Window sig grid0) (t : Fin grid0.N) (y : (w.xblock (grid0.coords t)).Idx)
    (a : Fin w.shape.rank) (n s : ℕ) (hk : w.kind = .blocked) (hn : w.index t a = n) (hs : w.size a = s) :
    ((w.rect t).emb y a : Nat) = n * s + y a := by
  rw [w.rect_emb_val t y a hk, hn, hs]

/-- Where an element of a cache block lies in its array: in the second layer, at the point's batch. -/
theorem emb_slab (w : Pipeline.Window sig grid0) (t : Fin grid0.N) (i : S2x8x512x8x128.Idx) (y : S1x1x512x8x128.Idx)
    (b : Fin 8) (r : Fin 512) (h : Fin 8) (d : Fin 128) (hy : y = ix5 0 0 r h d)
    (h0 : (i 0).val = 1 * 1 + (y 0).val) (h1 : (i 1).val = b.val * 1 + (y 1).val) (h2 : (i 2).val = 0 * 512 + (y 2).val)
    (h3 : (i 3).val = 0 * 8 + (y 3).val) (h4 : (i 4).val = 0 * 128 + (y 4).val) : i = ix5 1 b r h d := by
  subst hy
  exact eq_ix5_of_val _ _ _ _ _ _ (h0.trans (by simp)) (h1.trans (by simp)) (h2.trans (by simp)) (h3.trans (by simp))
    (h4.trans (by simp))

theorem seq_keys (t : Fin cfg0.N) (r : Fin 64) (l : Fin 1024) :
    iblk m c 1 t (ix3 0 r l) = m ((c : Thread nD τ).loc main_arg0) (ix3 (bat t) r ⟨1024 + l.val, by omega⟩) := by
  obtain ⟨i1, -⟩ := idx t
  rw [iblk_apply, cast_eq, ← V_main_arg0 m c]
  exact congrArg (V m c main_arg0) (eq_ix3_of_val _ _ _ _ ((emb_row win0_1 t _ 0 _ _ rfl i1.1 rfl).trans (by simp [bat]))
    ((emb_row win0_1 t _ 1 _ _ rfl i1.2.1 rfl).trans (by simp)) ((emb_row win0_1 t _ 2 _ _ rfl i1.2.2 rfl).trans (by simp)))

theorem seq_values (t : Fin cfg0.N) (r : Fin 64) (l : Fin 1024) :
    iblk m c 2 t (ix3 0 r l) = m ((c : Thread nD τ).loc main_arg0) (ix3 (bat t) r ⟨2048 + l.val, by omega⟩) := by
  obtain ⟨-, i2⟩ := idx t
  rw [iblk_apply, cast_eq, ← V_main_arg0 m c]
  exact congrArg (V m c main_arg0) (eq_ix3_of_val _ _ _ _ ((emb_row win0_2 t _ 0 _ _ rfl i2.1 rfl).trans (by simp [bat]))
    ((emb_row win0_2 t _ 1 _ _ rfl i2.2.1 rfl).trans (by simp)) ((emb_row win0_2 t _ 2 _ _ rfl i2.2.2 rfl).trans (by simp)))

theorem cached_keys (t : Fin cfg0.N) (r : Fin 512) (h : Fin 8) (d : Fin 128) :
    iblk m c 5 t (ix5 0 0 r h d) = m ((c : Thread nD τ).loc main_arg2) (ix5 1 (bat t) r h d) := by
  obtain ⟨i5, -⟩ := cached_idx t
  rw [iblk_apply, cast_eq, ← V_main_arg2 m c]
  exact congrArg (V m c main_arg2) (emb_slab win0_5 t _ _ (bat t) r h d rfl (emb_row win0_5 t _ 0 _ _ rfl i5.1 rfl)
    (emb_row win0_5 t _ 1 _ _ rfl i5.2.1 rfl) (emb_row win0_5 t _ 2 _ _ rfl i5.2.2.1 rfl)
    (emb_row win0_5 t _ 3 _ _ rfl i5.2.2.2.1 rfl) (emb_row win0_5 t _ 4 _ _ rfl i5.2.2.2.2 rfl))

theorem cached_values (t : Fin cfg0.N) (r : Fin 512) (h : Fin 8) (d : Fin 128) :
    iblk m c 6 t (ix5 0 0 r h d) = m ((c : Thread nD τ).loc main_arg3) (ix5 1 (bat t) r h d) := by
  obtain ⟨-, i6⟩ := cached_idx t
  rw [iblk_apply, cast_eq, ← V_main_arg3 m c]
  exact congrArg (V m c main_arg3) (emb_slab win0_6 t _ _ (bat t) r h d rfl (emb_row win0_6 t _ 0 _ _ rfl i6.1 rfl)
    (emb_row win0_6 t _ 1 _ _ rfl i6.2.1 rfl) (emb_row win0_6 t _ 2 _ _ rfl i6.2.2.1 rfl)
    (emb_row win0_6 t _ 3 _ _ rfl i6.2.2.2.1 rfl) (emb_row win0_6 t _ 4 _ _ rfl i6.2.2.2.2 rfl))

/-- The reference's two results of the kernel's arguments. -/
def keysOut : Vec Ideal S2x8x512x8x128 .f32 :=
  Cert.Reference6Ideal.Read.val_main_v16 (m ((c : Thread nD τ).loc main_arg0)) (m ((c : Thread nD τ).loc main_arg2)) (m ((c : Thread nD τ).loc main_arg4))

def valuesOut : Vec Ideal S2x8x512x8x128 .f32 :=
  Cert.Reference6Ideal.Read.val_main_v21 (m ((c : Thread nD τ).loc main_arg0)) (m ((c : Thread nD τ).loc main_arg3)) (m ((c : Thread nD τ).loc main_arg5))

/-- Staged blocks that hold a batch's columns and its cached rows make the reference's row. -/
theorem cacheAt_eq (x : Vec Ideal S1x64x1024 .f32) (k : Vec Ideal S1x1x512x8x128 .f32)
    (p : Vec Ideal S8x64x18432 .f32) (C : Vec Ideal S2x8x512x8x128 .f32) (b : Fin 8) (n : ℕ) (hn : n + 1024 ≤ 18432)
    (hx : ∀ (r : Fin 64) (l : Fin 1024), x (ix3 0 r l) = p (ix3 b r ⟨n + l.val, by omega⟩))
    (hk : ∀ (r : Fin 512) (h : Fin 8) (d : Fin 128), k (ix5 0 0 r h d) = C (ix5 1 b r h d))
    (r : Fin 512) (h : Fin 8) (d : Fin 128) : cacheAt x k r h d = rowAt p C b r h d n hn := by
  unfold cacheAt rowAt
  split
  · exact hk _ _ _
  · exact hx _ _

/-- What a point leaves in its block of keys. -/
theorem keys_block (t : Fin cfg0.N) (r : Fin 512) (h : Fin 8) (d : Fin 128) :
    (outsAt0 m c t.val t.isLt).2.1 (ix5 0 0 r h d)
      = rowAt (m ((c : Thread nD τ).loc main_arg0)) (m ((c : Thread nD τ).loc main_arg2)) (bat t) r h d 1024 (by decide) := by
  have hx := cacheAt_eq _ _ _ _ (bat t) 1024 (by decide) (seq_keys m c t) (cached_keys m c t) r h d
  by_cases h0 : t.val % 8 = 0
  · rw [outsAt0_A m c t h0]
    dsimp only
    unfold out0_A_8
    rw [keys_A]
    exact (read_cache _ _ _ _ _ _ _ _ r h d).trans hx
  · rw [outsAt0_B m c t h0]
    dsimp only
    unfold out0_B_8
    rw [keys_B]
    exact (read_cache _ _ _ _ _ _ _ _ r h d).trans hx

theorem keys_entry : (V m c (Pipeline.arrRef spec0 8) : FVec Ideal S2x8x512x8x128 .f32) = m ((c : Thread nD τ).loc main_arg4) := by
  show StableHlo.after (List.flatten [hostOps0, hostOps0_1, hostOps0_2]) _ (Proc.devRef .tc main_v6_1) = _
  simp only [hostOps0, hostOps0_1, hostOps0_2, List.flatten_cons, List.flatten_nil, List.append_nil, List.cons_append, List.nil_append]
  after_results; rfl

/-- Where the block of keys lies in its array. -/
theorem keys_place (t : Fin cfg0.N) (r : Fin 512) (h : Fin 8) (d : Fin 128) :
    ((cfg0.win 8).blk t).view.emb (ix5 0 0 r h d) = ix5 1 (bat t) r h d := by
  have iw := (new_idx t).1
  exact emb_slab win0_8 t _ _ (bat t) r h d rfl (emb_row win0_8 t _ 0 _ _ rfl iw.1 rfl)
    (emb_row win0_8 t _ 1 _ _ rfl iw.2.1 rfl) (emb_row win0_8 t _ 2 _ _ rfl iw.2.2.1 rfl)
    (emb_row win0_8 t _ 3 _ _ rfl iw.2.2.2.1 rfl) (emb_row win0_8 t _ 4 _ _ rfl iw.2.2.2.2 rfl)

theorem keys_flushed (t : Fin cfg0.N) :
    (dats m 0 c).flushed 8 t = ((cfg0.win 8).blk t).view.read (Elt Ideal) (keysOut m c) := by
  rw [Cert.Kernel6Ideal.Value.flushed8]
  funext y
  obtain ⟨r, h, d, rfl⟩ : ∃ (r : Fin 512) (h : Fin 8) (d : Fin 128), y = ix5 0 0 r h d :=
    ⟨y 2, y 3, y 4, (eq_ix5 (show S1x1x512x8x128.Idx from y)).trans (by congr 1 <;> exact Subsingleton.elim _ _)⟩
  show (outsAt0 m c t.val t.isLt).2.1 (ix5 0 0 r h d) = _
  rw [keys_block m c t, View.read_apply, cast_eq]
  refine (keys_one (m ((c : Thread nD τ).loc main_arg0)) (m ((c : Thread nD τ).loc main_arg2)) (m ((c : Thread nD τ).loc main_arg4)) (bat t) r h d).symm.trans ?_
  exact congrArg (keysOut m c) (keys_place t r h d).symm

/-- The blocks of keys written back tile the second layer and leave the first as it was passed in. -/
theorem keys_final : (dats m 0 c).arrAt 8 cfg0.N = keysOut m c := by
  funext i
  rw [(dats m 0 c).arrAt_eq_piecewise 8 (keysOut m c) (fun t _ => keys_flushed m c t) i]
  split
  · rfl
  · rename_i hi
    rw [A_eq]
    obtain ⟨l, b, r, h, d, rfl⟩ : ∃ (l : Fin 2) (b : Fin 8) (r : Fin 512) (h : Fin 8) (d : Fin 128), i = ix5 l b r h d :=
      ⟨i 0, i 1, i 2, i 3, i 4, eq_ix5 (show S2x8x512x8x128.Idx from i)⟩
    rcases (by omega : l.val = 0 ∨ l.val = 1) with hl | hl
    · obtain rfl : l = 0 := Fin.ext hl
      exact (congrFun (keys_entry m c) _).trans (keys_zero _ _ _ b r h d).symm
    · obtain rfl : l = 1 := Fin.ext hl
      have ht : b.val < cfg0.N := b.isLt.trans_eq N_0.symm
      refine absurd ⟨⟨b.val, ht⟩, flush0_8 _, ?_⟩ hi
      have h' := View.emb_mem_set ((cfg0.win 8).blk ⟨b.val, ht⟩).view (ix5 0 0 r h d)
      rwa [keys_place] at h'

/-- What a point leaves in its block of values. -/
theorem values_block (t : Fin cfg0.N) (r : Fin 512) (h : Fin 8) (d : Fin 128) :
    (outsAt0 m c t.val t.isLt).2.2.1 (ix5 0 0 r h d)
      = rowAt (m ((c : Thread nD τ).loc main_arg0)) (m ((c : Thread nD τ).loc main_arg3)) (bat t) r h d 2048 (by decide) := by
  have hx := cacheAt_eq _ _ _ _ (bat t) 2048 (by decide) (seq_values m c t) (cached_values m c t) r h d
  by_cases h0 : t.val % 8 = 0
  · rw [outsAt0_A m c t h0]
    dsimp only
    unfold out0_A_9
    rw [values_A]
    exact (read_cache _ _ _ _ _ _ _ _ r h d).trans hx
  · rw [outsAt0_B m c t h0]
    dsimp only
    unfold out0_B_9
    rw [values_B]
    exact (read_cache _ _ _ _ _ _ _ _ r h d).trans hx

theorem values_entry : (V m c (Pipeline.arrRef spec0 9) : FVec Ideal S2x8x512x8x128 .f32) = m ((c : Thread nD τ).loc main_arg5) := by
  show StableHlo.after (List.flatten [hostOps0, hostOps0_1, hostOps0_2]) _ (Proc.devRef .tc main_v6_2) = _
  simp only [hostOps0, hostOps0_1, hostOps0_2, List.flatten_cons, List.flatten_nil, List.append_nil, List.cons_append, List.nil_append]
  after_results; rfl

/-- Where the block of values lies in its array. -/
theorem values_place (t : Fin cfg0.N) (r : Fin 512) (h : Fin 8) (d : Fin 128) :
    ((cfg0.win 9).blk t).view.emb (ix5 0 0 r h d) = ix5 1 (bat t) r h d := by
  have iw := (new_idx t).2
  exact emb_slab win0_9 t _ _ (bat t) r h d rfl (emb_row win0_9 t _ 0 _ _ rfl iw.1 rfl)
    (emb_row win0_9 t _ 1 _ _ rfl iw.2.1 rfl) (emb_row win0_9 t _ 2 _ _ rfl iw.2.2.1 rfl)
    (emb_row win0_9 t _ 3 _ _ rfl iw.2.2.2.1 rfl) (emb_row win0_9 t _ 4 _ _ rfl iw.2.2.2.2 rfl)

theorem values_flushed (t : Fin cfg0.N) :
    (dats m 0 c).flushed 9 t = ((cfg0.win 9).blk t).view.read (Elt Ideal) (valuesOut m c) := by
  rw [Cert.Kernel6Ideal.Value.flushed9]
  funext y
  obtain ⟨r, h, d, rfl⟩ : ∃ (r : Fin 512) (h : Fin 8) (d : Fin 128), y = ix5 0 0 r h d :=
    ⟨y 2, y 3, y 4, (eq_ix5 (show S1x1x512x8x128.Idx from y)).trans (by congr 1 <;> exact Subsingleton.elim _ _)⟩
  show (outsAt0 m c t.val t.isLt).2.2.1 (ix5 0 0 r h d) = _
  rw [values_block m c t, View.read_apply, cast_eq]
  refine (values_one (m ((c : Thread nD τ).loc main_arg0)) (m ((c : Thread nD τ).loc main_arg3)) (m ((c : Thread nD τ).loc main_arg5)) (bat t) r h d).symm.trans ?_
  exact congrArg (valuesOut m c) (values_place t r h d).symm

/-- The blocks of values written back tile the second layer and leave the first as it was passed in. -/
theorem values_final : (dats m 0 c).arrAt 9 cfg0.N = valuesOut m c := by
  funext i
  rw [(dats m 0 c).arrAt_eq_piecewise 9 (valuesOut m c) (fun t _ => values_flushed m c t) i]
  split
  · rfl
  · rename_i hi
    rw [A_eq]
    obtain ⟨l, b, r, h, d, rfl⟩ : ∃ (l : Fin 2) (b : Fin 8) (r : Fin 512) (h : Fin 8) (d : Fin 128), i = ix5 l b r h d :=
      ⟨i 0, i 1, i 2, i 3, i 4, eq_ix5 (show S2x8x512x8x128.Idx from i)⟩
    rcases (by omega : l.val = 0 ∨ l.val = 1) with hl | hl
    · obtain rfl : l = 0 := Fin.ext hl
      exact (congrFun (values_entry m c) _).trans (values_zero _ _ _ b r h d).symm
    · obtain rfl : l = 1 := Fin.ext hl
      have ht : b.val < cfg0.N := b.isLt.trans_eq N_0.symm
      refine absurd ⟨⟨b.val, ht⟩, flush0_9 _, ?_⟩ hi
      have h' := View.emb_mem_set ((cfg0.win 9).blk ⟨b.val, ht⟩).view (ix5 0 0 r h d)
      rwa [values_place] at h'

end Cert.Proof.AttnSample

end
-- ==== Proof.AttnSample.Claims.lean ====
/-
  The claims about the sample's attention call: its programs return with everything as they should leave it, and the two cache
  arrays hold the reference's.
-/
module

public import proofs.«01_k».proof.Defs
public import proofs.«01_k».proof.Proof.AttnSample.Final
public import proofs.«01_k».proof.Proof.Gen.Reference6Ideal
public import proofs.«01_k».proof.Proof.Gen.Kernel6
public import Idealize.ShloMosaic.Lib.Claim

@[expose] public section

set_option maxRecDepth 16384

noncomputable section

namespace Cert.Proof.AttnSample

open Idealize.ShloMosaic Idealize.ShloMosaic.TcCoe Idealize.SL.Sem

/-- The kernel and its ideal reading have the same body table at words: the one label's body is the same text. -/
theorem bodies_eq : Cert.Kernel6.defs₀ (F := Bits) = Cert.Kernel6Ideal.defs₀ (F := Bits) := by
  sl_kernel_rfl

theorem defs_eq : Cert.Kernel6.defs (F := Bits) = Cert.Kernel6Ideal.defs (F := Bits) := by
  unfold Cert.Kernel6.defs
  rw [bodies_eq]
  rfl

theorem main_eq : Cert.Kernel6.main (F := Bits) = Cert.Kernel6Ideal.main (F := Bits) := by
  sl_kernel_rfl

theorem frame_kernel : Cert.quiescent_Kernel6 := by
  intro m ρ _
  rw [defs_eq, main_eq]
  exact Cert.Kernel6Ideal.Gen.frame (F := Bits) m ρ

theorem frame_kernelIdeal : Cert.quiescent_Kernel6Ideal := fun m ρ _ => Cert.Kernel6Ideal.Gen.frame (F := Ideal) m ρ

/-- The reference declares no semaphore, so its counters are zero at the end. -/
theorem frame_referenceIdeal : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Both runs end with the reference's caches of the common arguments. -/
theorem algebraic : Cert.algebraic_Kernel6Ideal_Reference6Ideal := by
  intro m ρ m' ρ' _ hagree
  refine ⟨keysOut m, valuesOut m, ?_, ?_⟩
  · exact (θ_run Cert.Kernel6Ideal.defs _ _).mono
      (fun r h c => ⟨(h c).2.1.trans (keys_final m c), (h c).2.2.1.trans (values_final m c), (h c).2.2.2⟩)
      (Cert.Kernel6Ideal.Value.run_blocks (F := Ideal) m ρ)
  · refine (θ_run Cert.Reference6Ideal.defs _ _).mono (fun r h c => ⟨(h c).1.trans ?_, (h c).2.1.trans ?_, (h c).2.2⟩)
      (Cert.Reference6Ideal.Value.run (F := Ideal) m' ρ')
    all_goals
      obtain ⟨a0, a1, a2, a3, a4, a5⟩ := hagree c
      rw [a0]
    · rw [a2, a4]; exact (Cert.Reference6Ideal.Read.val_main_v16_eq _ _ _).symm
    · rw [a3, a5]; exact (Cert.Reference6Ideal.Read.val_main_v21_eq _ _ _).symm

end Cert.Proof.AttnSample

end
-- ==== Proof.RetSample.RefRun.lean ====
/-
  The sample's reference runs its loop over chunks once: its two results are functions of the state after the printed step,
  which starts from the layer's cached state.
-/
module

public import proofs.«01_k».proof.Proof.Gen.Reference7Ideal.Run
public import proofs.«01_k».proof.Proof.Gen.Reference7Ideal.Step

@[expose] public section

noncomputable section

namespace Cert.Proof.RetSample

open Idealize.ShloMosaic Idealize.ShloMosaic.TcCoe Idealize.SL.Sem Idealize.ShloMosaic.StableHlo
open Cert.Reference7Ideal Cert.Reference7Ideal.Value
open Cert.Reference7Ideal.Step (State)

variable {F : FTy → Type} [FloatOps F]

/-- A valuation agrees with state `s` before the trip: the carried buffers, the trip's number, the three decay tables. -/
def Agrees (V : Valuation τ sig (Elt F)) (s : State F) : Prop :=
  (V (Proc.devRef .tc main_v133_8) = s.main_v133_8 ∧ V (Proc.devRef .tc main_v133_9) = s.main_v133_9)
  ∧ (V (Proc.devRef .tc main_v133_0) = s.main_v133_0 ∧ V (Proc.devRef .tc main_v133_1) = s.main_v133_1
    ∧ V (Proc.devRef .tc main_v133_2) = s.main_v133_2 ∧ V (Proc.devRef .tc main_v133_3) = s.main_v133_3)
  ∧ V (Proc.devRef .tc main_v133_7) = constantI S_ 32 (BitVec.ofNat 32 0)
  ∧ (V (Proc.devRef .tc main_v133_4) = Step.K_main_v114 (F := F) ∧ V (Proc.devRef .tc main_v133_5) = Step.K_main_v127 (F := F)
    ∧ V (Proc.devRef .tc main_v133_6) = Step.K_main_v123 (F := F))

/-- The state after the one trip. -/
def endState (p : (⟨S8x64x18432, .f32⟩ : BufTy).Contents (Elt F)) (S : (⟨S2x8x8x128x128, .f32⟩ : BufTy).Contents (Elt F)) : State F :=
  Step.step 0 (Step.init p S)

set_option maxRecDepth 16384 in
/-- The trip leaves the next state's carried buffers. -/
theorem agrees_step {V : Valuation τ sig (Elt F)} {s : State F} (h : Agrees V s) :
    STEP V (Proc.devRef .tc main_v133_8) = (Step.step 0 s).main_v133_8
      ∧ STEP V (Proc.devRef .tc main_v133_9) = (Step.step 0 s).main_v133_9 := by
  obtain ⟨⟨h8, h9⟩, ⟨h0, h1, h2, h3⟩, h7, h4, h5, h6⟩ := h
  refine ⟨(STEP_main_v133_8 V).trans ?_, (STEP_main_v133_9 V).trans ?_⟩
  · rw [Step.step_main_v133_8]
    unfold step_main_v133_8 res_main_while0b_v170
    rw [h8, h1, h2, h7, h5, h6]
    rfl
  · rw [Step.step_main_v133_9]
    unfold step_main_v133_9 res_main_while0b_v170
    rw [h9, h8, h0, h2, h3, h7, h4]
    rfl

variable (m : (ℓ : Loc nD τ sig) → Buf (Elt F) ℓ)

set_option maxRecDepth 65536 in
set_option maxHeartbeats 800000 in
/-- What the operations before the loop leave agrees with the first state. -/
theorem agrees_entry (c : Dev nD) :
    Agrees (entryContents preI m c) (Step.init (m ((c.tc : Thread nD τ).loc main_arg0)) (m ((c.tc : Thread nD τ).loc main_arg2))) := by
  refine ⟨⟨?_, ?_⟩, ⟨?_, ?_, ?_, ?_⟩, ?_, ?_, ?_, ?_⟩ <;>
    (simp only [entryContents, afterL_cons, afterL_nil]; after_reads_simp) <;> rfl

set_option maxRecDepth 16384 in
/-- The reference's run: its two results from the state after the trip, its arguments kept. -/
theorem run_end (ρ : Dev nD → PrngReg) :
    θ_run (defs (F := F)) (onTc (τ := τ) (main (F := F))) ⟨m, fun _ => 0, ρ⟩ fun r => ∀ c : Dev nD,
      (r.2.mem ((c.tc : Thread nD τ).loc main_v162)
          = Step.R_main_v162 (endState (m ((c.tc : Thread nD τ).loc main_arg0)) (m ((c.tc : Thread nD τ).loc main_arg2)))
              (m ((c.tc : Thread nD τ).loc main_arg0)) (m ((c.tc : Thread nD τ).loc main_arg1))
        ∧ r.2.mem ((c.tc : Thread nD τ).loc main_v167)
          = Step.R_main_v167 (endState (m ((c.tc : Thread nD τ).loc main_arg0)) (m ((c.tc : Thread nD τ).loc main_arg2)))
              (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨e1, e2, keep⟩ := h c
  obtain ⟨h8, h9⟩ := agrees_step (agrees_entry m c)
  have i1 : ∀ X : Valuation τ sig (Elt F), STEP^[1] X = STEP X := fun _ => rfl
  have k0 := iter_main_arg0 m c 1
  have k1 := iter_main_arg1 m c 1
  have k3 := iter_main_arg3 m c 1
  rw [i1] at k0 k1 k3
  refine ⟨⟨e1.trans ?_, e2.trans ?_⟩, keep⟩
  · unfold out_main_v162 Step.R_main_v162
    rw [i1, h9, k0, k1]
    rfl
  · unfold out_main_v167 Step.R_main_v167
    rw [i1, h8, k3]
    rfl

end Cert.Proof.RetSample

end
-- ==== Proof.RetSample.Rotary.lean ====
/-
  The rotary product of one head of a sample, element by element: the kernel's product with the signed sine is the
  reference's pair of products on the two halves.
-/
module

public import proofs.«01_k».proof.Proof.Ret.Chunk
public import proofs.«01_k».proof.Proof.RetSample.RefRun

@[expose] public section

set_option maxRecDepth 16384

noncomputable section

namespace Cert.Proof.RetSample

open Idealize.ShloMosaic Cert.Reference7Ideal Cert.Reference7Ideal.Gen
open Cert.Proof.Ret (rotT rotT_apply lane_half)

/-- The reference's rotary product of heads: of the two halves, the first and the second half of the result. -/
def refFst (lo hi : FVec Ideal S8x64x8x64 .f32) : FVec Ideal S8x64x8x64 .f32 :=
  subf (mulf lo (Step.K_main_v31 (F := Ideal))) (mulf hi (Step.K_main_v33 (F := Ideal)))

def refSnd (lo hi : FVec Ideal S8x64x8x64 .f32) : FVec Ideal S8x64x8x64 .f32 :=
  addf (mulf lo (Step.K_main_v36 (F := Ideal))) (mulf hi (Step.K_main_v38 (F := Ideal)))

def refRot (X : FVec Ideal S8x64x8x128 .f32) : FVec Ideal S8x64x8x128 .f32 :=
  concatenate S8x64x8x128 3
    [⟨S8x64x8x64, refFst (extractStridedSlice S8x64x8x64 ![0, 0, 0, 0] X slices_S8x64x8x128_S8x64x8x64_0_0_0_0)
        (extractStridedSlice S8x64x8x64 ![0, 0, 0, 64] X slices_S8x64x8x128_S8x64x8x64_0_0_0_64)⟩,
      ⟨S8x64x8x64, refSnd (extractStridedSlice S8x64x8x64 ![0, 0, 0, 0] X slices_S8x64x8x128_S8x64x8x64_0_0_0_0)
        (extractStridedSlice S8x64x8x64 ![0, 0, 0, 64] X slices_S8x64x8x128_S8x64x8x64_0_0_0_64)⟩]
    concatenates_S8x64x8x64_S8x64x8x64_S8x64x8x128_d3

section
variable (X : (⟨S8x64x8x128, .f32⟩ : BufTy).Contents (Elt Ideal)) (b : Fin 8) (r : Fin 64) (h : Fin 8) (e : Fin 64)

theorem refRot_lo : refRot X (ix4 b r h ⟨e.val, by omega⟩)
    = X (ix4 b r h ⟨e.val, by omega⟩) * Step.K_main_v25 (F := Ideal) (ix2 r e)
      - X (ix4 b r h ⟨64 + e.val, by omega⟩) * Step.K_main_v27 (F := Ideal) (ix2 r e) := by
  pointwise [refRot, refFst, refSnd, Step.K_main_v31, Step.K_main_v33, Step.K_main_v36, Step.K_main_v38, Step.K_main_v26, Step.K_main_v28]

theorem refRot_hi : refRot X (ix4 b r h ⟨64 + e.val, by omega⟩)
    = X (ix4 b r h ⟨e.val, by omega⟩) * Step.K_main_v27 (F := Ideal) (ix2 r e)
      + X (ix4 b r h ⟨64 + e.val, by omega⟩) * Step.K_main_v25 (F := Ideal) (ix2 r e) := by
  pointwise [refRot, refFst, refSnd, Step.K_main_v31, Step.K_main_v33, Step.K_main_v36, Step.K_main_v38, Step.K_main_v26, Step.K_main_v28]

end

/-- A head's rotary product in the kernel is the reference's, when the loaded rows and tables are the sample's. -/
theorem rot_apply (X : (⟨S8x64x8x128, .f32⟩ : BufTy).Contents (Elt Ideal)) (x : Vec Ideal Cert.KernelIdeal.S1x64x128 .f32)
    (cs sn : Vec Ideal Cert.KernelIdeal.S64x128 .f32) (b h : Fin 8) (r : Fin 64)
    (hx : ∀ d : Fin 128, x (ix3 0 r d) = X (ix4 b r h d))
    (hc : ∀ d : Fin 128, cs (ix2 r d) = Step.K_main_v25 (F := Ideal) (ix2 r ⟨d.val % 64, Nat.mod_lt _ (by decide)⟩))
    (hlo : ∀ e : Fin 64, sn (ix2 r ⟨e.val, by omega⟩) = -Step.K_main_v27 (F := Ideal) (ix2 r e))
    (hhi : ∀ e : Fin 64, sn (ix2 r ⟨64 + e.val, by omega⟩) = Step.K_main_v27 (F := Ideal) (ix2 r e)) (d : Fin 128) :
    rotT x cs sn (ix2 r d) = refRot X (ix4 b r h d) := by
  obtain ⟨e, rfl⟩ | ⟨e, rfl⟩ := lane_half d
  · rw [refRot_lo, ← hx, ← hx]
    rw [rotT_apply, hlo, hc]
    have e1 : ∀ q, (⟨(e.val + 128 - 64) % 128, q⟩ : Fin 128) = ⟨64 + e.val, by omega⟩ := fun q => Fin.ext (by show (e.val + 128 - 64) % 128 = 64 + e.val; omega)
    have e2 : ∀ q, (⟨(e.val) % 64, q⟩ : Fin 64) = e := fun q => Fin.ext (by show (e.val) % 64 = e.val; omega)
    simp only [e1, e2]
    rw [mul_neg, sub_eq_add_neg]
  · rw [refRot_hi, ← hx, ← hx]
    rw [rotT_apply, hhi, hc]
    have e1 : ∀ q, (⟨(64 + e.val + 128 - 64) % 128, q⟩ : Fin 128) = ⟨e.val, by omega⟩ := fun q => Fin.ext (by show (64 + e.val + 128 - 64) % 128 = e.val; omega)
    have e2 : ∀ q, (⟨(64 + e.val) % 64, q⟩ : Fin 64) = e := fun q => Fin.ext (by show (64 + e.val) % 64 = e.val; omega)
    simp only [e1, e2]
    rw [add_comm]

section
variable (b h : Fin 8) (r c : Fin 64) (d : Fin 128)

theorem chunk_first (X : (⟨S8x8x1x64x128, .f32⟩ : BufTy).Contents (Elt Ideal)) :
    (transpose S1x8x8x64x128 [2, 0, 1, 3, 4] X transposes_S8x8x1x64x128_S1x8x8x64x128_2_0_1_3_4) (ix5 0 b h r d)
      = X (ix5 b h 0 r d) := by
  pointwise []

theorem chunk_first_square (X : (⟨S8x8x1x64x64, .f32⟩ : BufTy).Contents (Elt Ideal)) :
    (transpose S1x8x8x64x64 [2, 0, 1, 3, 4] X transposes_S8x8x1x64x64_S1x8x8x64x64_2_0_1_3_4) (ix5 0 b h r c)
      = X (ix5 b h 0 r c) := by
  pointwise []

theorem chunk_rows (X : (⟨S8x64x8x128, .f32⟩ : BufTy).Contents (Elt Ideal)) :
    (shapeCast S8x8x1x64x128 (transpose S8x8x64x128 [0, 2, 1, 3] X transposes_S8x64x8x128_S8x8x64x128_0_2_1_3)
        shapeCasts_S8x8x64x128_S8x8x1x64x128) (ix5 b h 0 r d)
      = X (ix4 b r h d) := by
  pointwise []

theorem scores (Q K : FVec Ideal S8x8x1x64x128 .f32) :
    mulf (Host.dotGeneral dot_S8x8x1x64x128_S8x8x1x64x128_S8x8x1x64x64_4_4_3_3_012_012 none Q K)
        (Step.K_main_v104 (F := Ideal)) (ix5 b h 0 r c)
      = (∑ e : Fin 128, Q (ix5 b h 0 r e) * K (ix5 b h 0 c e)) * Step.K_main_v101 (F := Ideal) (ix3 h r c) := by
  pointwise [Step.K_main_v104, Step.K_main_v103]

variable (p : (⟨S8x64x18432, .f32⟩ : BufTy).Contents (Elt Ideal)) (S : (⟨S2x8x8x128x128, .f32⟩ : BufTy).Contents (Elt Ideal))

theorem turned_q : Step.A_main_v41 p S = refRot (Step.A_main_v12 p S) := by
  unfold Step.A_main_v41 Step.A_main_v35 Step.A_main_v40 Step.A_main_v32 Step.A_main_v34 Step.A_main_v37 Step.A_main_v39
    Step.A_main_v29 Step.A_main_v30 refRot refFst refSnd
  rfl

theorem turned_k : Step.A_main_v72 p S = refRot (Step.A_main_v43 p S) := by
  unfold Step.A_main_v72 Step.A_main_v66 Step.A_main_v71 Step.A_main_v63 Step.A_main_v65 Step.A_main_v68 Step.A_main_v70
    Step.A_main_v60 Step.A_main_v61 refRot refFst refSnd
  rfl

/-- The reference's queries, keys and values of the chunk. -/
theorem ref_q : Step.A_main_v128 p S (ix5 0 b h r d) = refRot (Step.A_main_v12 p S) (ix4 b r h d) := by
  unfold Step.A_main_v128
  rw [chunk_first]
  unfold Step.A_main_v80 Step.A_main_v79
  rw [chunk_rows, turned_q]

theorem ref_k : Step.A_main_v129 p S (ix5 0 b h r d)
    = refRot (Step.A_main_v43 p S) (ix4 b r h d) * (FloatOps.ofBits .f32 0x3DB504F3#32 : Ideal .f32) := by
  unfold Step.A_main_v129
  rw [chunk_first]
  unfold Step.A_main_v82 Step.A_main_v81
  rw [chunk_rows]
  unfold Step.A_main_v74
  rw [turned_k]
  rfl

theorem ref_v : Step.A_main_v130 p S (ix5 0 b h r d) = Step.A_main_v76 p S (ix4 b r h d) := by
  unfold Step.A_main_v130
  rw [chunk_first]
  unfold Step.A_main_v84 Step.A_main_v83
  rw [chunk_rows]

/-- The reference's decayed scores of the chunk. -/
theorem ref_a : Step.A_main_v131 p S (ix5 0 b h r c)
    = (∑ e : Fin 128, Step.A_main_v128 p S (ix5 0 b h r e) * Step.A_main_v129 p S (ix5 0 b h c e))
      * Step.K_main_v101 (F := Ideal) (ix3 h r c) := by
  unfold Step.A_main_v131
  rw [chunk_first_square]
  unfold Step.A_main_v105 Step.A_main_v102
  rw [scores]
  refine congrArg (· * _) (Finset.sum_congr rfl fun e _ => ?_)
  unfold Step.A_main_v128 Step.A_main_v129
  rw [chunk_first, chunk_first]

theorem head_q : Step.A_main_v12 p S (ix4 b r h d) = p (ix3 b r ⟨8192 + (h.val * 128 + d.val), by omega⟩) := by
  pointwise [Step.A_main_v12, Step.A_main_v11]

theorem head_k : Step.A_main_v43 p S (ix4 b r h d) = p (ix3 b r ⟨9216 + (h.val * 128 + d.val), by omega⟩) := by
  pointwise [Step.A_main_v43, Step.A_main_v42]

theorem head_v : Step.A_main_v76 p S (ix4 b r h d) = p (ix3 b r ⟨10240 + (h.val * 128 + d.val), by omega⟩) := by
  pointwise [Step.A_main_v76, Step.A_main_v75]

/-- The state the loop starts from is the layer's cached one. -/
theorem start_state (i j : Fin 128) : Step.A_main_v78 p S (ix4 b h i j) = S (ix5 1 b h i j) := by
  pointwise [Step.A_main_v78, Step.A_main_v77]

end

end Cert.Proof.RetSample

end
-- ==== Proof.RetSample.Trip.lean ====
/-
  The sample's one trip of the reference's loop, element by element, and the reference's two results read at an index.
-/
module

public import proofs.«01_k».proof.Proof.RetSample.Rotary
public import proofs.«01_k».proof.Proof.Ret.Out

@[expose] public section

set_option maxRecDepth 16384

noncomputable section

namespace Cert.Proof.RetSample

open Idealize.ShloMosaic Cert.Reference7Ideal Cert.Reference7Ideal.Gen
open Cert.Reference7Ideal.Step (State)
open Cert.Proof.Ret (tileT centredT varT)

theorem fits_rows : S1x8x8x64x128.Slices ![0, 0, 0, 0, 0] S1x8x8x64x128 :=
  ⟨rfl, fun a => by fin_cases a <;> simp [Shape.size]⟩

theorem fits_square : S1x8x8x64x64.Slices ![0, 0, 0, 0, 0] S1x8x8x64x64 :=
  ⟨rfl, fun a => by fin_cases a <;> simp [Shape.size]⟩

section
variable (s : State Ideal) (b h : Fin 8) (r : Fin 64)

theorem pick (X : (⟨S1x8x8x64x128, .f32⟩ : BufTy).Contents (Elt Ideal)) (d : Fin 128) (st : Fin 5 → Int)
    (hs : ∀ a, st a = ((![0, 0, 0, 0, 0] : Fin 5 → ℕ) a : Int)) (hf) :
    shapeCast S8x8x64x128 (Host.dynamicSlice S1x8x8x64x128 X st hf) shapeCasts_S1x8x8x64x128_S8x8x64x128 (ix4 b h r d)
      = X (ix5 0 b h r d) := by
  rw [Host.dynamicSlice_eq_extractStridedSlice S1x8x8x64x128 X st ![0, 0, 0, 0, 0] hf fits_rows hs]
  pointwise []

theorem pick_square (X : (⟨S1x8x8x64x64, .f32⟩ : BufTy).Contents (Elt Ideal)) (d : Fin 64) (st : Fin 5 → Int)
    (hs : ∀ a, st a = ((![0, 0, 0, 0, 0] : Fin 5 → ℕ) a : Int)) (hf) :
    shapeCast S8x8x64x64 (Host.dynamicSlice S1x8x8x64x64 X st hf) shapeCasts_S1x8x8x64x64_S8x8x64x64 (ix4 b h r d)
      = X (ix5 0 b h r d) := by
  rw [Host.dynamicSlice_eq_extractStridedSlice S1x8x8x64x64 X st ![0, 0, 0, 0, 0] hf fits_square hs]
  pointwise []

theorem start_eq (a : Fin 5) :
    ((![(constantI S_ 32 (BitVec.ofNat 32 0) : (⟨S_, .i32⟩ : BufTy).Contents (Elt Ideal)), constantI S_ 32 0#32,
        constantI S_ 32 0#32, constantI S_ 32 0#32, constantI S_ 32 0#32] : Fin 5 → (⟨S_, .i32⟩ : BufTy).Contents (Elt Ideal)) a
          (Shape.Idx.first h_S_)).toInt
      = ((![0, 0, 0, 0, 0] : Fin 5 → ℕ) a : Int) := by
  fin_cases a <;> rfl

/-- The trip's queries, keys, values and decayed scores are the chunk's. -/
theorem trip_q (d : Fin 128) : Step.b5 0 s (ix4 b h r d) = s.main_v133_0 (ix5 0 b h r d) :=
  pick b h r _ d _ start_eq _

theorem trip_k (d : Fin 128) : Step.b11 0 s (ix4 b h r d) = s.main_v133_1 (ix5 0 b h r d) :=
  pick b h r _ d _ start_eq _

theorem trip_v (d : Fin 128) : Step.b17 0 s (ix4 b h r d) = s.main_v133_2 (ix5 0 b h r d) :=
  pick b h r _ d _ start_eq _

theorem trip_a (d : Fin 64) : Step.b23 0 s (ix4 b h r d) = s.main_v133_3 (ix5 0 b h r d) :=
  pick_square b h r _ d _ start_eq _

/-- The state after the trip. -/
theorem trip_state (i d : Fin 128) : Step.b34 0 s (ix4 b h i d)
    = s.main_v133_8 (ix4 b h i d) * Step.K_main_v127 (F := Ideal) (ix4 0 h 0 0)
      + ∑ r : Fin 64, (s.main_v133_1 (ix5 0 b h r i) * Step.K_main_v123 (F := Ideal) (ix4 0 h r 0)) * s.main_v133_2 (ix5 0 b h r d) := by
  simp only [← trip_k, ← trip_v]
  pointwise [Step.b34, Step.b30, Step.b29, Step.b33, Step.b32, Step.b31]

/-- The rows the trip puts out. -/
theorem trip_rows (d : Fin 128) : Step.b28 0 s (ix4 b h r d)
    = (∑ k : Fin 64, s.main_v133_3 (ix5 0 b h r k) * s.main_v133_2 (ix5 0 b h k d))
      + (∑ k : Fin 128, s.main_v133_0 (ix5 0 b h r k) * s.main_v133_8 (ix4 b h k d)) * Step.K_main_v114 (F := Ideal) (ix4 0 h r 0) := by
  simp only [← trip_q, ← trip_v, ← trip_a]
  pointwise [Step.b28, Step.b24, Step.b27, Step.b25, Step.b26]

theorem put (X U : FVec Ideal S1x8x8x64x128 .f32) (d : Fin 128) (st : Fin 5 → Int)
    (hs : ∀ a, st a = ((![0, 0, 0, 0, 0] : Fin 5 → ℕ) a : Int)) (hf) :
    Host.dynamicUpdateSlice X U st hf (ix5 0 b h r d) = U (ix5 0 b h r d) := by
  rw [WordCmp.dynamicUpdateSlice_eq_update X U st hf ![0, 0, 0, 0, 0] fits_rows hs]
  pointwise []

/-- The loop's outputs hold the rows the trip puts out. -/
theorem end_rows (d : Fin 128) : (Step.step 0 s).main_v133_9 (ix5 0 b h r d) = Step.b28 0 s (ix4 b h r d) := by
  rw [Step.step_main_v133_9]
  unfold Step.b40
  refine (put b h r _ _ d _ start_eq _).trans ?_
  pointwise [Step.b35]

end

/-- An element of a tile is the reference's, when the tile's rows, norm weights and gate are. -/
theorem tile_apply (o : FVec Ideal Cert.KernelIdeal.S64x128 .f32) (rn : Vec Ideal Cert.KernelIdeal.S1x128 .f32)
    (z : Vec Ideal Cert.KernelIdeal.S1x64x128 .f32) (s : State Ideal)
    (p : (⟨S8x64x18432, .f32⟩ : BufTy).Contents (Elt Ideal)) (w : (⟨S8x128, .f32⟩ : BufTy).Contents (Elt Ideal))
    (b h : Fin 8) (r : Fin 64) (d : Fin 128)
    (ho : ∀ e : Fin 128, o (ix2 r e) = s.main_v133_9 (ix5 0 b h r e)) (hrn : rn (ix2 0 d) = w (ix2 h d))
    (hz : z (ix3 0 r d) = p (ix3 b r ⟨11264 + (h.val * 128 + d.val), by omega⟩)) :
    tileT o rn z (ix3 0 r d)
      = Step.R_main_v162 s p w (ix3 b r ⟨h.val * 128 + d.val, by omega⟩) := by
  pointwise [tileT, centredT, varT, Step.R_main_v162]
  simp only [ho, hrn, hz]
  rfl

section
variable (s : State Ideal) (P : (⟨S2x8x8x128x128, .f32⟩ : BufTy).Contents (Elt Ideal)) (b h : Fin 8) (i j : Fin 128)

/-- The stacked states: the first layer's is the one passed in, the second layer's the loop's last. -/
theorem stacked_zero : Step.R_main_v167 s P (ix5 0 b h i j) = P (ix5 0 b h i j) := by
  pointwise [Step.R_main_v167]

theorem stacked_one : Step.R_main_v167 s P (ix5 1 b h i j) = s.main_v133_8 (ix4 b h i j) := by
  pointwise [Step.R_main_v167]

end

end Cert.Proof.RetSample

end
-- ==== Proof.RetSample.Agree.lean ====
/-
  What a point of the sample's retention call computes over its one chunk is the trip of the reference's loop, head by head.
-/
module

public import proofs.«01_k».proof.Proof.Ret.Agree
public import proofs.«01_k».proof.Proof.RetSample.Trip

@[expose] public section

noncomputable section

namespace Cert.Proof.RetSample

open Idealize.ShloMosaic Cert.Reference7Ideal Cert.Reference7Ideal.Gen
open Cert.Proof.Ret (Loads rotT keyT kvT stateT rowsT keyT_apply stateT_apply rowsT_apply lane)

/-- What the point loads is the reference's: rows of the projection `p`, the rotary and decay tables, the norm weights. -/
structure Fits (L : Loads Ideal) (p : (⟨S8x64x18432, .f32⟩ : BufTy).Contents (Elt Ideal))
    (w : (⟨S8x128, .f32⟩ : BufTy).Contents (Elt Ideal)) (b : Fin 8) : Prop where
  q : ∀ (h : Fin 8) (r : Fin 64) (d : Fin 128), L.q 0 h (ix3 0 r d) = p (ix3 b r (lane 8192 (by decide) h d))
  k : ∀ (h : Fin 8) (r : Fin 64) (d : Fin 128), L.k 0 h (ix3 0 r d) = p (ix3 b r (lane 9216 (by decide) h d))
  v : ∀ (h : Fin 8) (r : Fin 64) (d : Fin 128), L.v 0 h (ix3 0 r d) = p (ix3 b r (lane 10240 (by decide) h d))
  z : ∀ (h : Fin 8) (r : Fin 64) (d : Fin 128), L.z 0 h (ix3 0 r d) = p (ix3 b r (lane 11264 (by decide) h d))
  cs : ∀ (r : Fin 64) (d : Fin 128), L.cs 0 (ix2 r d) = Step.K_main_v25 (F := Ideal) (ix2 r ⟨d.val % 64, Nat.mod_lt _ (by decide)⟩)
  lo : ∀ r e : Fin 64, L.sn 0 (ix2 r ⟨e.val, by omega⟩) = -Step.K_main_v27 (F := Ideal) (ix2 r e)
  hi : ∀ r e : Fin 64, L.sn 0 (ix2 r ⟨64 + e.val, by omega⟩) = Step.K_main_v27 (F := Ideal) (ix2 r e)
  dm : ∀ (h : Fin 8) (r c : Fin 64), L.dm h (ix3 0 r c) = Step.K_main_v101 (F := Ideal) (ix3 h r c)
  xi : ∀ (h : Fin 8) (r : Fin 64) (d : Fin 128), L.xi h (ix3 0 r d) = Step.K_main_v114 (F := Ideal) (ix4 0 h r 0)
  zeta : ∀ (h : Fin 8) (r : Fin 64) (d : Fin 128), L.zeta h (ix3 0 r d) = Step.K_main_v123 (F := Ideal) (ix4 0 h r 0)
  g : ∀ (h : Fin 8) (d : Fin 128), L.g h (ix3 0 0 d) = Step.K_main_v127 (F := Ideal) (ix4 0 h 0 0)
  rn : ∀ (h : Fin 8) (d : Fin 128), L.rn h (ix2 0 d) = w (ix2 h d)

section
variable {L : Loads Ideal} {p : (⟨S8x64x18432, .f32⟩ : BufTy).Contents (Elt Ideal)}
  {w : (⟨S8x128, .f32⟩ : BufTy).Contents (Elt Ideal)} {b : Fin 8} (F : Fits L p w b)
  (S : (⟨S2x8x8x128x128, .f32⟩ : BufTy).Contents (Elt Ideal))
include F

theorem fits_q (h : Fin 8) (r : Fin 64) (d : Fin 128) :
    rotT (L.q 0 h) (L.cs 0) (L.sn 0) (ix2 r d) = Step.A_main_v128 p S (ix5 0 b h r d) := by
  rw [ref_q]
  exact rot_apply _ _ _ _ b h r (fun e => (F.q h r e).trans (head_q b h r e p S).symm) (F.cs r) (F.lo r) (F.hi r) d

theorem fits_k (h : Fin 8) (r : Fin 64) (d : Fin 128) :
    keyT (L.k 0 h) (L.cs 0) (L.sn 0) (ix2 r d) = Step.A_main_v129 p S (ix5 0 b h r d) := by
  rw [ref_k, keyT_apply]
  exact congrArg (· * _) (rot_apply _ _ _ _ b h r (fun e => (F.k h r e).trans (head_k b h r e p S).symm) (F.cs r) (F.lo r) (F.hi r) d)

theorem fits_v (h : Fin 8) (r : Fin 64) (d : Fin 128) :
    L.v 0 h (ix3 0 r d) = Step.A_main_v130 p S (ix5 0 b h r d) := by
  rw [ref_v]
  exact (F.v h r d).trans (head_v b h r d p S).symm

variable (S0 : ℕ → FVec Ideal Cert.KernelIdeal.S128x128 .f32)
  (hS : ∀ (h : Fin 8) (i j : Fin 128), S0 h (ix2 i j) = S (ix5 1 b h i j))
include hS

/-- The state after the chunk is the loop's. -/
theorem state_eq (h : Fin 8) (i j : Fin 128) : L.state S0 h 1 (ix2 i j) = (endState p S).main_v133_8 (ix4 b h i j) := by
  show stateT (S0 h) (L.g h) (kvT (L.k 0 h) (L.v 0 h) (L.cs 0) (L.sn 0) (L.zeta h)) (ix2 i j)
    = (Step.step 0 (Step.init p S)).main_v133_8 (ix4 b h i j)
  rw [Step.step_main_v133_8, stateT_apply, hS, F.g]
  refine Eq.trans ?_ (trip_state (Step.init p S) b h i j).symm
  refine congrArg₂ (· + ·) (congrArg (· * _) (start_state b h p S i j).symm) (Finset.sum_congr rfl fun r _ => ?_)
  rw [fits_k F S h r i, F.zeta, fits_v F S h r j]
  rfl

/-- The rows before the norm are the trip's. -/
theorem rows_eq (h : Fin 8) (r : Fin 64) (d : Fin 128) :
    rowsT (L.q 0 h) (L.k 0 h) (L.v 0 h) (L.cs 0) (L.sn 0) (L.dm h) (L.xi h) (S0 h) (ix2 r d)
      = Step.b28 0 (Step.init p S) (ix4 b h r d) := by
  rw [rowsT_apply, trip_rows]
  refine congrArg₂ (· + ·) (Finset.sum_congr rfl fun c _ => ?_) (congrArg₂ (· * ·) (Finset.sum_congr rfl fun e _ => ?_) (F.xi h r d))
  · show _ = Step.A_main_v131 p S (ix5 0 b h r c) * Step.A_main_v130 p S (ix5 0 b h c d)
    rw [ref_a, F.dm, fits_v F S h c d]
    refine congrArg (· * _) (congrArg (· * _) (Finset.sum_congr rfl fun e _ => ?_))
    rw [fits_q F S h r e, fits_k F S h c e]
  · show _ = Step.A_main_v128 p S (ix5 0 b h r e) * Step.A_main_v78 p S (ix4 b h e d)
    rw [fits_q F S h r e, hS, start_state]

/-- The stored tile is the reference's output. -/
theorem tile_eq (h : Fin 8) (r : Fin 64) (d : Fin 128) :
    L.tile S0 0 h (ix3 0 r d)
      = Step.R_main_v162 (endState p S) p w (ix3 b r ⟨h.val * 128 + d.val, by omega⟩) :=
  tile_apply _ _ _ (endState p S) p w b h r d
    (fun e => (rows_eq F S S0 hS h r e).trans (end_rows (Step.init p S) b h r e).symm)
    (F.rn h d) (F.z h r d)

end

end Cert.Proof.RetSample

end
-- ==== Proof.RetSample.Pieces.lean ====
/-
  One point of the sample's retention call: the same operations on a head's chunk as in the prompt's call, on the one chunk
  of a sequence, from the state passed in.
-/
module

public import proofs.«01_k».proof.Proof.Gen.Kernel7Ideal.Value
public import proofs.«01_k».proof.Proof.Ret.Pieces

@[expose] public section

noncomputable section

namespace Cert.Proof.RetSample

open Cert.Kernel7Ideal Cert.Kernel7Ideal.Gen Idealize.ShloMosaic Idealize.ShloMosaic.TcCoe Idealize.SL.Sem
open Cert.Proof.Ret (Loads head_fits lane_fits headBox)

variable {F : FTy → Type} [FloatOps F]

theorem tile_fits (h : ℕ) : ∀ a, (![0, 0, 128 * (h % 8)] : Fin 3 → ℕ) a + S1x64x128.size a ≤ S1x64x1024.size a := by
  intro a
  have hh := Nat.mod_lt h (show 0 < 8 by decide)
  fin_cases a <;> simp [Shape.size] <;> omega

/-- The box of head `h` in a block. -/
abbrev tileBox (h : ℕ) : Rect S1x64x1024 := Rect.unit ![0, 0, 128 * (h % 8)] S1x64x128.size (tile_fits h)

/-- The loads a point makes from its staged blocks. -/
def loads
  (arg2 : Memref sig .tc .vmem S1x64x1024 .f32) (harg2 : arg2.IsWhole)
  (arg3 : Memref sig .tc .vmem S1x64x1024 .f32) (harg3 : arg3.IsWhole)
  (arg4 : Memref sig .tc .vmem S1x64x1024 .f32) (harg4 : arg4.IsWhole)
  (arg5 : Memref sig .tc .vmem S1x64x1024 .f32) (harg5 : arg5.IsWhole)
  (arg6 : Memref sig .tc .vmem S64x128 .f32) (harg6 : arg6.IsWhole)
  (arg7 : Memref sig .tc .vmem S64x128 .f32) (harg7 : arg7.IsWhole)
  (arg8 : Memref sig .tc .vmem S8x64x64 .f32) (harg8 : arg8.IsWhole)
  (arg9 : Memref sig .tc .vmem S8x64x128 .f32) (harg9 : arg9.IsWhole)
  (arg10 : Memref sig .tc .vmem S8x64x128 .f32) (harg10 : arg10.IsWhole)
  (arg11 : Memref sig .tc .vmem S8x1x128 .f32) (harg11 : arg11.IsWhole)
  (arg12 : Memref sig .tc .vmem S1x1024 .f32) (harg12 : arg12.IsWhole)
  (x0 x1 x2 x3 : Vec F S1x64x1024 .f32) (x4 x5 : Vec F S64x128 .f32) (x6 : Vec F S8x64x64 .f32) (x7 x8 : Vec F S8x64x128 .f32)
  (x9 : Vec F S8x1x128 .f32) (x10 : Vec F S1x1024 .f32) : Loads F where
  q _ h := View.readAt (Elt F) arg2.view (tileBox h).toLoadRect (harg2.unread x0)
  k _ h := View.readAt (Elt F) arg3.view (tileBox h).toLoadRect (harg3.unread x1)
  v _ h := View.readAt (Elt F) arg4.view (tileBox h).toLoadRect (harg4.unread x2)
  z _ h := View.readAt (Elt F) arg5.view (tileBox h).toLoadRect (harg5.unread x3)
  cs _ := View.readAt (Elt F) arg6.view (Rect.unit (s := S64x128) ![0, 0] S64x128.size inb_S64x128_S64x128_0_0).toLoadRect (harg6.unread x4)
  sn _ := View.readAt (Elt F) arg7.view (Rect.unit (s := S64x128) ![0, 0] S64x128.size inb_S64x128_S64x128_0_0).toLoadRect (harg7.unread x5)
  dm h := View.readAt (Elt F) arg8.view (Rect.unit (s := S8x64x64) ![h % 8, 0, 0] S1x64x64.size (head_fits h)).toLoadRect (harg8.unread x6)
  xi h := View.readAt (Elt F) arg9.view (Rect.unit (s := S8x64x128) ![h % 8, 0, 0] S1x64x128.size (head_fits h)).toLoadRect (harg9.unread x7)
  zeta h := View.readAt (Elt F) arg10.view (Rect.unit (s := S8x64x128) ![h % 8, 0, 0] S1x64x128.size (head_fits h)).toLoadRect (harg10.unread x8)
  g h := View.readAt (Elt F) arg11.view (Rect.unit (s := S8x1x128) ![h % 8, 0, 0] S1x1x128.size (head_fits h)).toLoadRect (harg11.unread x9)
  rn h := View.readAt (Elt F) arg12.view (Rect.unit (s := S1x1024) ![0, 128 * (h % 8)] S1x128.size (lane_fits h)).toLoadRect (harg12.unread x10)

/-- The list of stored tiles, last first. -/
def tilePieces (L : Loads F) (S0 : ℕ → FVec F S128x128 .f32) : List (View.Piece (Elt F) S1x64x1024 .bf16) :=
  ((List.range 8).map fun h => ⟨tileBox h, L.tile S0 0 h⟩).reverse

/-- The list of stored states, last first. -/
def statePieces (L : Loads F) (S0 : ℕ → FVec F S128x128 .f32) : List (View.Piece (Elt F) S8x128x128 .f32) :=
  ((List.range 8).map fun h => ⟨headBox h, shapeCast S1x128x128 (L.state S0 h 1) shapeCasts_S128x128_S1x128x128⟩).reverse

section
variable (arg13 : Memref sig .tc .vmem S1x8x128x128 .f32) (harg13 : arg13.IsWhole) (arg17 : Memref sig .tc .vmem S8x128x128 .f32)
  (x11 : Vec F S1x8x128x128 .f32)

/-- The one store that puts the state passed in into the scratch. -/
def entered : List (View.Piece (Elt F) S8x128x128 .f32) :=
  [⟨Rect.unit ![0, 0, 0] S8x128x128.size inb_S8x128x128_S8x128x128_0_0_0,
    shapeCast S8x128x128
      (shapeCast S8x128x128
        (View.readAt (Elt F) arg13.view
          (Rect.unit (s := S1x8x128x128) ![0, 0, 0, 0] S1x8x128x128.size inb_S1x8x128x128_S1x8x128x128_0_0_0_0).toLoadRect (harg13.unread x11))
        shapeCasts_S1x8x128x128_S8x128x128) shapeCasts_S8x128x128_S8x128x128⟩]

/-- A head's state as loaded from the scratch. -/
def begun (h : ℕ) : FVec F S128x128 .f32 :=
  shapeCast S128x128 (arg17.view.readCov (entered arg13 harg13 x11) (headBox h).toLoadRect) shapeCasts_S1x128x128_S128x128

end

section Body

variable (c : Dev nD) (i : grid0.Coords)
  (arg2 : Memref sig .tc .vmem S1x64x1024 .f32) (harg2 : arg2.IsWhole)
  (arg3 : Memref sig .tc .vmem S1x64x1024 .f32) (harg3 : arg3.IsWhole)
  (arg4 : Memref sig .tc .vmem S1x64x1024 .f32) (harg4 : arg4.IsWhole)
  (arg5 : Memref sig .tc .vmem S1x64x1024 .f32) (harg5 : arg5.IsWhole)
  (arg6 : Memref sig .tc .vmem S64x128 .f32) (harg6 : arg6.IsWhole)
  (arg7 : Memref sig .tc .vmem S64x128 .f32) (harg7 : arg7.IsWhole)
  (arg8 : Memref sig .tc .vmem S8x64x64 .f32) (harg8 : arg8.IsWhole)
  (arg9 : Memref sig .tc .vmem S8x64x128 .f32) (harg9 : arg9.IsWhole)
  (arg10 : Memref sig .tc .vmem S8x64x128 .f32) (harg10 : arg10.IsWhole)
  (arg11 : Memref sig .tc .vmem S8x1x128 .f32) (harg11 : arg11.IsWhole)
  (arg12 : Memref sig .tc .vmem S1x1024 .f32) (harg12 : arg12.IsWhole)
  (arg13 : Memref sig .tc .vmem S1x8x128x128 .f32) (harg13 : arg13.IsWhole)
  (arg15 : Memref sig .tc .vmem S1x64x1024 .bf16) (harg15 : arg15.IsWhole)
  (arg16 : Memref sig .tc .vmem S1x1x8x128x128 .f32) (harg16 : arg16.IsWhole)
  (arg17 : Memref sig .tc .vmem S8x128x128 .f32) (harg17 : arg17.IsWhole)
  (hc0 : cond0_0 i) (hc1 : cond0_1 i)
  (x0 x1 x2 x3 : Vec F S1x64x1024 .f32) (x4 x5 : Vec F S64x128 .f32) (x6 : Vec F S8x64x64 .f32) (x7 x8 : Vec F S8x64x128 .f32)
  (x9 : Vec F S8x1x128 .f32) (x10 : Vec F S1x1024 .f32) (x11 : Vec F S1x8x128x128 .f32)

/-- A point stores these tiles. -/
theorem tiles_A :
    (kernelRun0_A c i arg2 harg2 arg3 harg3 arg4 harg4 arg5 harg5 arg6 harg6 arg7 harg7 arg8 harg8 arg9 harg9 arg10 harg10 arg11 harg11 arg12 harg12 arg13 harg13 arg15 harg15 arg16 harg16 arg17 harg17 hc0 hc1 x0 x1 x2 x3 x4 x5 x6 x7 x8 x9 x10 x11).1
      = tilePieces (loads arg2 harg2 arg3 harg3 arg4 harg4 arg5 harg5 arg6 harg6 arg7 harg7 arg8 harg8 arg9 harg9 arg10 harg10 arg11 harg11 arg12 harg12 x0 x1 x2 x3 x4 x5 x6 x7 x8 x9 x10) (begun arg13 harg13 arg17 x11) := by
  sl_kernel_rfl

/-- It stores the whole scratch as the state block. -/
theorem last_A :
    (kernelRun0_A c i arg2 harg2 arg3 harg3 arg4 harg4 arg5 harg5 arg6 harg6 arg7 harg7 arg8 harg8 arg9 harg9 arg10 harg10 arg11 harg11 arg12 harg12 arg13 harg13 arg15 harg15 arg16 harg16 arg17 harg17 hc0 hc1 x0 x1 x2 x3 x4 x5 x6 x7 x8 x9 x10 x11).2.1
      = [⟨Rect.unit ![0, 0, 0, 0, 0] S1x1x8x128x128.size inb_S1x1x8x128x128_S1x1x8x128x128_0_0_0_0_0,
          shapeCast S1x1x8x128x128
            (arg17.view.readCov (Val := Elt F)
              (statePieces (loads arg2 harg2 arg3 harg3 arg4 harg4 arg5 harg5 arg6 harg6 arg7 harg7 arg8 harg8 arg9 harg9 arg10 harg10 arg11 harg11 arg12 harg12 x0 x1 x2 x3 x4 x5 x6 x7 x8 x9 x10) (begun arg13 harg13 arg17 x11)
                ++ entered arg13 harg13 x11)
              (Rect.unit ![0, 0, 0] S8x128x128.size inb_S8x128x128_S8x128x128_0_0_0).toLoadRect)
            shapeCasts_S8x128x128_S1x1x8x128x128⟩] := by
  sl_kernel_rfl

end Body

end Cert.Proof.RetSample

end
-- ==== Proof.RetSample.Stage.lean ====
/-
  The tables and arrays the host code of the sample's retention call prepares: the reference's own, laid out for the call.
-/
module

public import proofs.«01_k».proof.Proof.RetSample.Agree
public import proofs.«01_k».proof.Proof.RetSample.Pieces
public import proofs.«01_k».proof.Proof.Common.Index

@[expose] public section

noncomputable section

namespace Cert.Proof.RetSample

open Cert.Proof.Common Cert.Kernel7Ideal Cert.Kernel7Ideal.Gen Idealize.ShloMosaic Idealize.ShloMosaic.TcCoe Idealize.SL.Sem

variable (m : (ℓ : Loc nD τ sig) → Buf (Elt Ideal) ℓ) (c : Dev nD)

/-- The reference's rotary angles' cosines and sines and its decay tables, laid out for the kernel. -/
def cosTab : FVec Ideal S64x128 .f32 :=
  let C : FVec Ideal S64x64 .f32 := Cert.Reference7Ideal.Step.K_main_v25 (F := Ideal)
  concatenate S64x128 1 [⟨S64x64, C⟩, ⟨S64x64, C⟩] concatenates_S64x64_S64x64_S64x128_d1

def sinTab : FVec Ideal S64x128 .f32 :=
  let C : FVec Ideal S64x64 .f32 := Cert.Reference7Ideal.Step.K_main_v27 (F := Ideal)
  let N : FVec Ideal S64x64 .f32 := Host.negf C
  concatenate S64x128 1 [⟨S64x64, N⟩, ⟨S64x64, C⟩] concatenates_S64x64_S64x64_S64x128_d1

def wide (T : FVec Ideal S8x64 .f32) : FVec Ideal S8x64x128 .f32 :=
  broadcastInDim S8x64x128 ![0, 1, 2] bcast_S8x64x1_S8x64x128_0_1_2 (broadcastInDim S8x64x1 ![0, 1] bcast_S8x64_S8x64x1_0_1 T)

def wideHead (T : FVec Ideal S8 .f32) : FVec Ideal S8x1x128 .f32 :=
  broadcastInDim S8x1x128 ![0, 1, 2] bcast_S8x1x1_S8x1x128_0_1_2
    (broadcastInDim S8x1x1 ![0, 1] bcast_S8x1_S8x1x1_0_1 (broadcastInDim S8x1 ![0] bcast_S8_S8x1_0 T))

set_option maxRecDepth 65536
set_option maxHeartbeats 1600000

theorem prepared_cos : (V m c main_v17 : FVec Ideal S64x128 .f32) = cosTab := by
  show StableHlo.after (List.flatten [hostOps0, hostOps0_1, hostOps0_2]) _ (Proc.devRef .tc main_v17) = _
  simp only [hostOps0, hostOps0_1, hostOps0_2, List.flatten_cons, List.flatten_nil, List.append_nil, List.cons_append, List.nil_append]
  after_results; rfl

theorem prepared_sin : (V m c main_v19 : FVec Ideal S64x128 .f32) = sinTab := by
  show StableHlo.after (List.flatten [hostOps0, hostOps0_1, hostOps0_2]) _ (Proc.devRef .tc main_v19) = _
  simp only [hostOps0, hostOps0_1, hostOps0_2, List.flatten_cons, List.flatten_nil, List.append_nil, List.cons_append, List.nil_append]
  after_results; rfl

theorem prepared_decay : (V m c main_v44 : FVec Ideal S8x64x64 .f32) = Cert.Reference7Ideal.Step.K_main_v101 (F := Ideal) := by
  show StableHlo.after (List.flatten [hostOps0, hostOps0_1, hostOps0_2]) _ (Proc.devRef .tc main_v44) = _
  simp only [hostOps0, hostOps0_1, hostOps0_2, List.flatten_cons, List.flatten_nil, List.append_nil, List.cons_append, List.nil_append]
  after_results; rfl

theorem prepared_xi : (V m c main_v65 : FVec Ideal S8x64x128 .f32) = wide (Cert.Reference7Ideal.Step.K_main_v113 (F := Ideal)) := by
  show StableHlo.after (List.flatten [hostOps0, hostOps0_1, hostOps0_2]) _ (Proc.devRef .tc main_v65) = _
  simp only [hostOps0, hostOps0_1, hostOps0_2, List.flatten_cons, List.flatten_nil, List.append_nil, List.cons_append, List.nil_append]
  after_results; rfl

theorem prepared_zeta : (V m c main_v67 : FVec Ideal S8x64x128 .f32) = wide (Cert.Reference7Ideal.Step.K_main_v122 (F := Ideal)) := by
  show StableHlo.after (List.flatten [hostOps0, hostOps0_1, hostOps0_2]) _ (Proc.devRef .tc main_v67) = _
  simp only [hostOps0, hostOps0_1, hostOps0_2, List.flatten_cons, List.flatten_nil, List.append_nil, List.cons_append, List.nil_append]
  after_results; rfl

theorem prepared_g : (V m c main_v70 : FVec Ideal S8x1x128 .f32) = wideHead (Cert.Reference7Ideal.Step.K_main_v126 (F := Ideal)) := by
  show StableHlo.after (List.flatten [hostOps0, hostOps0_1, hostOps0_2]) _ (Proc.devRef .tc main_v70) = _
  simp only [hostOps0, hostOps0_1, hostOps0_2, List.flatten_cons, List.flatten_nil, List.append_nil, List.cons_append, List.nil_append]
  after_results; rfl

theorem prepared_norm : (V m c main_v71 : FVec Ideal S1x1024 .f32)
    = shapeCast S1x1024 (m ((c : Thread nD τ).loc main_arg1)) shapeCasts_S8x128_S1x1024 := by
  show StableHlo.after (List.flatten [hostOps0, hostOps0_1, hostOps0_2]) _ (Proc.devRef .tc main_v71) = _
  simp only [hostOps0, hostOps0_1, hostOps0_2, List.flatten_cons, List.flatten_nil, List.append_nil, List.cons_append, List.nil_append]
  after_results; rfl

theorem prepared_state : (V m c main_v73 : FVec Ideal S8x8x128x128 .f32)
    = Cert.Reference7Ideal.Step.A_main_v78 (m ((c : Thread nD τ).loc main_arg0)) (m ((c : Thread nD τ).loc main_arg2)) := by
  show StableHlo.after (List.flatten [hostOps0, hostOps0_1, hostOps0_2]) _ (Proc.devRef .tc main_v73) = _
  simp only [hostOps0, hostOps0_1, hostOps0_2, List.flatten_cons, List.flatten_nil, List.append_nil, List.cons_append, List.nil_append]
  after_results; rfl

/-- The array of states the call writes into starts as the one passed in. -/
theorem entry_states : (V m c (Pipeline.arrRef spec0 13) : FVec Ideal S2x8x8x128x128 .f32) = m ((c : Thread nD τ).loc main_arg3) := by
  show StableHlo.after (List.flatten [hostOps0, hostOps0_1, hostOps0_2]) _ (Proc.devRef .tc main_v74_1) = _
  simp only [hostOps0, hostOps0_1, hostOps0_2, List.flatten_cons, List.flatten_nil, List.append_nil, List.cons_append, List.nil_append]
  after_results; rfl

end Cert.Proof.RetSample

end
-- ==== Proof.RetSample.Fit.lean ====
/-
  Every point's loads are the reference's: its sequence's rows of the projection's column groups, the tables, and the
  sequence's cached state.
-/
module

public import proofs.«01_k».proof.Proof.RetSample.Stage
public import proofs.«01_k».proof.Proof.Ret.Block
public import Idealize.ShloMosaic.Lib.VecWindow

@[expose] public section

noncomputable section

namespace Cert.Proof.RetSample

open Cert.Proof.Common Cert.Kernel7Ideal Cert.Kernel7Ideal.Gen Idealize.ShloMosaic Idealize.ShloMosaic.TcCoe Idealize.SL.Sem
open Cert.Proof.Ret (Loads headBox headBox_idx plane_apply lane lane_half)

variable (m : (ℓ : Loc nD τ sig) → Buf (Elt Ideal) ℓ) (c : Dev nD)

/-- What point `t` loads, and the states it starts from. -/
def pt (t : Fin cfg0.N) : Loads Ideal :=
  loads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t)

def st (t : Fin cfg0.N) : ℕ → FVec Ideal S128x128 .f32 := begun (ms0_11 t) (hs0_11 t) scM0_0 (iblk m c 11 t)

/-- A point's sequence. -/
def bat (t : Fin cfg0.N) : Fin 8 := ⟨t.val, t.isLt.trans_eq N_0⟩

/-- The block indices: the sequence windows go by sequence, in the column groups 8 to 11; the tables are whole; the cached
    state and the outputs go by sequence, the new states in the second layer. -/
theorem idx : ∀ t : Fin cfg0.N,
    (win0_0.index t 0 = t.val ∧ win0_0.index t 1 = 0 ∧ win0_0.index t 2 = 8)
    ∧ (win0_1.index t 0 = t.val ∧ win0_1.index t 1 = 0 ∧ win0_1.index t 2 = 9)
    ∧ (win0_2.index t 0 = t.val ∧ win0_2.index t 1 = 0 ∧ win0_2.index t 2 = 10)
    ∧ (win0_3.index t 0 = t.val ∧ win0_3.index t 1 = 0 ∧ win0_3.index t 2 = 11)
    ∧ (win0_4.index t 0 = 0 ∧ win0_4.index t 1 = 0) ∧ (win0_5.index t 0 = 0 ∧ win0_5.index t 1 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = 0 ∧ win0_8.index t 1 = 0 ∧ win0_8.index t 2 = 0)
    ∧ (win0_9.index t 0 = 0 ∧ win0_9.index t 1 = 0 ∧ win0_9.index t 2 = 0)
    ∧ (win0_10.index t 0 = 0 ∧ win0_10.index t 1 = 0)
    ∧ (win0_11.index t 0 = t.val ∧ win0_11.index t 1 = 0 ∧ win0_11.index t 2 = 0 ∧ win0_11.index t 3 = 0)
    ∧ (win0_12.index t 0 = t.val ∧ win0_12.index t 1 = 0 ∧ win0_12.index t 2 = 0)
    ∧ (win0_13.index t 0 = 1 ∧ win0_13.index t 1 = t.val ∧ win0_13.index t 2 = 0 ∧ win0_13.index t 3 = 0 ∧ win0_13.index t 4 = 0) :=
  (by decide +kernel : ∀ t : Fin grid0.N, _)

/-- Reading a window's array through its block: the element of the array at the block's place. -/
theorem iblk_apply (w : Fin cfg0.W) (t : Fin cfg0.N) (y) :
    iblk m c w t y = cast (congrArg (Elt Ideal) ((cfg0.win w).blk t).view.elt_eq)
      (V m c (Pipeline.arrRef spec0 w) (((cfg0.win w).blk t).view.emb y)) := by
  unfold iblk; rw [View.read_apply]

/-- Where an element of a window's block lies in its array, from the block's index. -/
theorem emb_row (w : Pipeline.Window sig grid0) (t : Fin grid0.N) (y : (w.xblock (grid0.coords t)).Idx)
    (a : Fin w.shape.rank) (n s : ℕ) (hk : w.kind = .blocked) (hn : w.index t a = n) (hs : w.size a = s) :
    ((w.rect t).emb y a : Nat) = n * s + y a := by
  rw [w.rect_emb_val t y a hk, hn, hs]

/-! The boxes the body loads, element by element. -/

theorem tileBox_idx (h : Fin 8) (r : Fin 64) (d : Fin 128) :
    (tileBox h).toLoadRect.idx (ix3 0 r d) = ix3 0 r ⟨128 * h.val + d.val, by omega⟩ := by
  have hh := h.isLt
  refine eq_ix3_of_val _ _ _ _ rfl ?_ ?_
  · show 0 + 1 * r.val = r.val; omega
  · show 128 * (h.val % 8) + 1 * d.val = 128 * h.val + d.val; omega

theorem tableBox_idx (r : Fin 64) (d : Fin 128) :
    (Rect.unit (s := S64x128) ![0, 0] S64x128.size inb_S64x128_S64x128_0_0).toLoadRect.idx (ix2 r d) = ix2 r d :=
  eq_ix2_of_val _ _ _ (by show 0 + 1 * r.val = r.val; omega) (by show 0 + 1 * d.val = d.val; omega)

section
variable (t : Fin cfg0.N)

/-- The four sequence windows' blocks. -/
theorem seq_q (r : Fin 64) (l : Fin 1024) :
    iblk m c 0 t (ix3 0 r l) = m ((c : Thread nD τ).loc main_arg0) (ix3 (bat t) r ⟨8192 + l.val, by omega⟩) := by
  obtain ⟨i0, -⟩ := idx t
  rw [iblk_apply, cast_eq, ← V_main_arg0 m c]
  exact congrArg (V m c main_arg0) (eq_ix3_of_val _ _ _ _ ((emb_row win0_0 t _ 0 _ _ rfl i0.1 rfl).trans (by simp [bat]))
    ((emb_row win0_0 t _ 1 _ _ rfl i0.2.1 rfl).trans (by simp)) ((emb_row win0_0 t _ 2 _ _ rfl i0.2.2 rfl).trans (by simp)))

theorem seq_k (r : Fin 64) (l : Fin 1024) :
    iblk m c 1 t (ix3 0 r l) = m ((c : Thread nD τ).loc main_arg0) (ix3 (bat t) r ⟨9216 + l.val, by omega⟩) := by
  obtain ⟨-, i1, -⟩ := idx t
  rw [iblk_apply, cast_eq, ← V_main_arg0 m c]
  exact congrArg (V m c main_arg0) (eq_ix3_of_val _ _ _ _ ((emb_row win0_1 t _ 0 _ _ rfl i1.1 rfl).trans (by simp [bat]))
    ((emb_row win0_1 t _ 1 _ _ rfl i1.2.1 rfl).trans (by simp)) ((emb_row win0_1 t _ 2 _ _ rfl i1.2.2 rfl).trans (by simp)))

theorem seq_v (r : Fin 64) (l : Fin 1024) :
    iblk m c 2 t (ix3 0 r l) = m ((c : Thread nD τ).loc main_arg0) (ix3 (bat t) r ⟨10240 + l.val, by omega⟩) := by
  obtain ⟨-, -, i2, -⟩ := idx t
  rw [iblk_apply, cast_eq, ← V_main_arg0 m c]
  exact congrArg (V m c main_arg0) (eq_ix3_of_val _ _ _ _ ((emb_row win0_2 t _ 0 _ _ rfl i2.1 rfl).trans (by simp [bat]))
    ((emb_row win0_2 t _ 1 _ _ rfl i2.2.1 rfl).trans (by simp)) ((emb_row win0_2 t _ 2 _ _ rfl i2.2.2 rfl).trans (by simp)))

theorem seq_z (r : Fin 64) (l : Fin 1024) :
    iblk m c 3 t (ix3 0 r l) = m ((c : Thread nD τ).loc main_arg0) (ix3 (bat t) r ⟨11264 + l.val, by omega⟩) := by
  obtain ⟨-, -, -, i3, -⟩ := idx t
  rw [iblk_apply, cast_eq, ← V_main_arg0 m c]
  exact congrArg (V m c main_arg0) (eq_ix3_of_val _ _ _ _ ((emb_row win0_3 t _ 0 _ _ rfl i3.1 rfl).trans (by simp [bat]))
    ((emb_row win0_3 t _ 1 _ _ rfl i3.2.1 rfl).trans (by simp)) ((emb_row win0_3 t _ 2 _ _ rfl i3.2.2 rfl).trans (by simp)))

theorem tab_cos (r : Fin 64) (d : Fin 128) : iblk m c 4 t (ix2 r d) = cosTab (ix2 r d) := by
  obtain ⟨-, -, -, -, i4, -⟩ := idx t
  rw [iblk_apply, cast_eq, ← prepared_cos m c]
  exact congrArg (V m c main_v17) (eq_ix2_of_val _ _ _ ((emb_row win0_4 t _ 0 _ _ rfl i4.1 rfl).trans (by simp))
    ((emb_row win0_4 t _ 1 _ _ rfl i4.2 rfl).trans (by simp)))

theorem tab_sin (r : Fin 64) (d : Fin 128) : iblk m c 5 t (ix2 r d) = sinTab (ix2 r d) := by
  obtain ⟨-, -, -, -, -, i5, -⟩ := idx t
  rw [iblk_apply, cast_eq, ← prepared_sin m c]
  exact congrArg (V m c main_v19) (eq_ix2_of_val _ _ _ ((emb_row win0_5 t _ 0 _ _ rfl i5.1 rfl).trans (by simp))
    ((emb_row win0_5 t _ 1 _ _ rfl i5.2 rfl).trans (by simp)))

/-- The other tables, whole. -/
theorem tab_decay (h : Fin 8) (r d : Fin 64) :
    iblk m c 6 t (ix3 h r d) = Cert.Reference7Ideal.Step.K_main_v101 (F := Ideal) (ix3 h r d) := by
  obtain ⟨-, -, -, -, -, -, i6, -⟩ := idx t
  rw [iblk_apply, cast_eq, ← prepared_decay m c]
  exact congrArg (V m c main_v44) (eq_ix3_of_val _ _ _ _ ((emb_row win0_6 t _ 0 _ _ rfl i6.1 rfl).trans (by simp))
    ((emb_row win0_6 t _ 1 _ _ rfl i6.2.1 rfl).trans (by simp)) ((emb_row win0_6 t _ 2 _ _ rfl i6.2.2 rfl).trans (by simp)))

theorem tab_xi (h : Fin 8) (r : Fin 64) (d : Fin 128) :
    iblk m c 7 t (ix3 h r d) = wide (Cert.Reference7Ideal.Step.K_main_v113 (F := Ideal)) (ix3 h r d) := by
  obtain ⟨-, -, -, -, -, -, -, i7, -⟩ := idx t
  rw [iblk_apply, cast_eq, ← prepared_xi m c]
  exact congrArg (V m c main_v65) (eq_ix3_of_val _ _ _ _ ((emb_row win0_7 t _ 0 _ _ rfl i7.1 rfl).trans (by simp))
    ((emb_row win0_7 t _ 1 _ _ rfl i7.2.1 rfl).trans (by simp)) ((emb_row win0_7 t _ 2 _ _ rfl i7.2.2 rfl).trans (by simp)))

theorem tab_zeta (h : Fin 8) (r : Fin 64) (d : Fin 128) :
    iblk m c 8 t (ix3 h r d) = wide (Cert.Reference7Ideal.Step.K_main_v122 (F := Ideal)) (ix3 h r d) := by
  obtain ⟨-, -, -, -, -, -, -, -, i8, -⟩ := idx t
  rw [iblk_apply, cast_eq, ← prepared_zeta m c]
  exact congrArg (V m c main_v67) (eq_ix3_of_val _ _ _ _ ((emb_row win0_8 t _ 0 _ _ rfl i8.1 rfl).trans (by simp))
    ((emb_row win0_8 t _ 1 _ _ rfl i8.2.1 rfl).trans (by simp)) ((emb_row win0_8 t _ 2 _ _ rfl i8.2.2 rfl).trans (by simp)))

theorem tab_g (h : Fin 8) (d : Fin 128) :
    iblk m c 9 t (ix3 h 0 d) = wideHead (Cert.Reference7Ideal.Step.K_main_v126 (F := Ideal)) (ix3 h 0 d) := by
  obtain ⟨-, -, -, -, -, -, -, -, -, i9, -⟩ := idx t
  rw [iblk_apply, cast_eq, ← prepared_g m c]
  exact congrArg (V m c main_v70) (eq_ix3_of_val _ _ _ _ ((emb_row win0_9 t _ 0 _ _ rfl i9.1 rfl).trans (by simp))
    ((emb_row win0_9 t _ 1 _ _ rfl i9.2.1 rfl).trans (by simp)) ((emb_row win0_9 t _ 2 _ _ rfl i9.2.2 rfl).trans (by simp)))

theorem tab_norm (l : Fin 1024) :
    iblk m c 10 t (ix2 0 l) = shapeCast S1x1024 (m ((c : Thread nD τ).loc main_arg1)) shapeCasts_S8x128_S1x1024 (ix2 0 l) := by
  obtain ⟨-, -, -, -, -, -, -, -, -, -, i10, -⟩ := idx t
  rw [iblk_apply, cast_eq, ← prepared_norm m c]
  exact congrArg (V m c main_v71) (eq_ix2_of_val _ _ _ ((emb_row win0_10 t _ 0 _ _ rfl i10.1 rfl).trans (by simp))
    ((emb_row win0_10 t _ 1 _ _ rfl i10.2 rfl).trans (by simp)))

/-- The sequence's cached state. -/
theorem cached (h : Fin 8) (i j : Fin 128) :
    iblk m c 11 t (ix4 0 h i j) = m ((c : Thread nD τ).loc main_arg2) (ix5 1 (bat t) h i j) := by
  obtain ⟨-, -, -, -, -, -, -, -, -, -, -, i11, -⟩ := idx t
  rw [iblk_apply, cast_eq]
  refine Eq.trans ?_ (start_state (bat t) h (m ((c : Thread nD τ).loc main_arg0)) (m ((c : Thread nD τ).loc main_arg2)) i j)
  refine Eq.trans ?_ (congrFun (prepared_state m c) _)
  exact congrArg (V m c main_v73) (eq_ix4_of_val _ _ _ _ _ ((emb_row win0_11 t _ 0 _ _ rfl i11.1 rfl).trans (by simp [bat]))
    ((emb_row win0_11 t _ 1 _ _ rfl i11.2.1 rfl).trans (by simp)) ((emb_row win0_11 t _ 2 _ _ rfl i11.2.2.1 rfl).trans (by simp))
    ((emb_row win0_11 t _ 3 _ _ rfl i11.2.2.2 rfl).trans (by simp)))

end

theorem cube_in (X : FVec Ideal S1x8x128x128 .f32) (h : Fin 8) (i j : Fin 128) :
    (shapeCast S8x128x128 (shapeCast S8x128x128 X shapeCasts_S1x8x128x128_S8x128x128) shapeCasts_S8x128x128_S8x128x128 : FVec Ideal S8x128x128 .f32) (ix3 h i j)
      = X (ix4 0 h i j) := by
  pointwise []

/-- So a point starts from its sequence's cached state. -/
theorem st_apply (t : Fin cfg0.N) (h : Fin 8) (i j : Fin 128) :
    st m c t h (ix2 i j) = m ((c : Thread nD τ).loc main_arg2) (ix5 1 (bat t) h i j) := by
  unfold st begun entered
  refine (plane_apply _ i j).trans ?_
  show scM0_0.view.read (Elt Ideal) (scM0_0.view.writes (Elt Ideal) scM0_0.view.junk _) ((headBox h).toLoadRect.idx (ix3 0 i j)) = _
  rw [headBox_idx]
  refine (congrFun (View.read_writes_full scM0_0.view _ inb_S8x128x128_S8x128x128_0_0_0 _ []) _).trans ?_
  refine (cube_in _ h i j).trans ((Memref.IsWhole.readAt_unread (hs0_11 t) _ _ _).trans ?_)
  refine (congrArg (iblk m c 11 t) (eq_ix4_of_val _ 0 h i j ?_ ?_ ?_ ?_)).trans (cached m c t h i j)
  · rfl
  · show 0 + 1 * h.val = h.val; omega
  · show 0 + 1 * i.val = i.val; omega
  · show 0 + 1 * j.val = j.val; omega

/-! The laid-out tables at an element. -/

theorem twice_lo (A B : FVec Ideal S64x64 .f32) (r : Fin 64) (e : Fin 64) :
    concatenate S64x128 1 [⟨S64x64, A⟩, ⟨S64x64, B⟩] concatenates_S64x64_S64x64_S64x128_d1 (ix2 r ⟨e.val, by omega⟩) = A (ix2 r e) := by
  pointwise []

theorem twice_hi (A B : FVec Ideal S64x64 .f32) (r : Fin 64) (e : Fin 64) :
    concatenate S64x128 1 [⟨S64x64, A⟩, ⟨S64x64, B⟩] concatenates_S64x64_S64x64_S64x128_d1 (ix2 r ⟨64 + e.val, by omega⟩) = B (ix2 r e) := by
  pointwise []

theorem wide_apply (T : FVec Ideal S8x64 .f32) (h : Fin 8) (r : Fin 64) (d : Fin 128) :
    wide T (ix3 h r d) = (broadcastInDim Cert.Reference7Ideal.S1x8x64x1 ![1, 2] Cert.Reference7Ideal.Gen.bcast_S8x64_S1x8x64x1_1_2 T : FVec Ideal Cert.Reference7Ideal.S1x8x64x1 .f32) (ix4 0 h r 0) := by
  unfold wide
  pointwise []

theorem wideHead_apply (T : FVec Ideal S8 .f32) (h : Fin 8) (d : Fin 128) :
    wideHead T (ix3 h 0 d) = (broadcastInDim Cert.Reference7Ideal.S1x8x1x1 ![1] Cert.Reference7Ideal.Gen.bcast_S8_S1x8x1x1_1 T : FVec Ideal Cert.Reference7Ideal.S1x8x1x1 .f32) (ix4 0 h 0 0) := by
  unfold wideHead
  pointwise []

theorem norm_row (w : FVec Ideal S8x128 .f32) (h : Fin 8) (d : Fin 128) :
    shapeCast S1x1024 w shapeCasts_S8x128_S1x1024 (ix2 0 ⟨128 * h.val + d.val, by omega⟩) = w (ix2 h d) := by
  pointwise []

/-- So every point's loads are the reference's. -/
theorem fits (t : Fin cfg0.N) :
    Fits (pt m c t) (m ((c : Thread nD τ).loc main_arg0)) (m ((c : Thread nD τ).loc main_arg1)) (bat t) where
  q h r d := by
    refine (Memref.IsWhole.readAt_unread (hs0_0 t) _ _ _).trans ((congrArg (iblk m c 0 t) (tileBox_idx h r d)).trans ((seq_q m c t _ _).trans ?_))
    exact congrArg (m ((c : Thread nD τ).loc main_arg0)) (eq_ix3_of_val _ _ _ _ rfl rfl (by simp [lane]; omega))
  k h r d := by
    refine (Memref.IsWhole.readAt_unread (hs0_1 t) _ _ _).trans ((congrArg (iblk m c 1 t) (tileBox_idx h r d)).trans ((seq_k m c t _ _).trans ?_))
    exact congrArg (m ((c : Thread nD τ).loc main_arg0)) (eq_ix3_of_val _ _ _ _ rfl rfl (by simp [lane]; omega))
  v h r d := by
    refine (Memref.IsWhole.readAt_unread (hs0_2 t) _ _ _).trans ((congrArg (iblk m c 2 t) (tileBox_idx h r d)).trans ((seq_v m c t _ _).trans ?_))
    exact congrArg (m ((c : Thread nD τ).loc main_arg0)) (eq_ix3_of_val _ _ _ _ rfl rfl (by simp [lane]; omega))
  z h r d := by
    refine (Memref.IsWhole.readAt_unread (hs0_3 t) _ _ _).trans ((congrArg (iblk m c 3 t) (tileBox_idx h r d)).trans ((seq_z m c t _ _).trans ?_))
    exact congrArg (m ((c : Thread nD τ).loc main_arg0)) (eq_ix3_of_val _ _ _ _ rfl rfl (by simp [lane]; omega))
  cs r d := by
    refine (Memref.IsWhole.readAt_unread (hs0_4 t) _ _ _).trans ((congrArg (iblk m c 4 t) (tableBox_idx r d)).trans ((tab_cos m c t _ _).trans ?_))
    obtain ⟨e, rfl⟩ | ⟨e, rfl⟩ := lane_half d
    · refine (twice_lo _ _ _ e).trans (congrArg (Cert.Reference7Ideal.Step.K_main_v25 (F := Ideal)) (eq_ix2_of_val _ _ _ rfl (by simp; omega)))
    · refine (twice_hi _ _ _ e).trans (congrArg (Cert.Reference7Ideal.Step.K_main_v25 (F := Ideal)) (eq_ix2_of_val _ _ _ rfl (by simp; omega)))
  lo r e := by
    refine (Memref.IsWhole.readAt_unread (hs0_5 t) _ _ _).trans ((congrArg (iblk m c 5 t) (tableBox_idx r _)).trans ((tab_sin m c t _ _).trans ((twice_lo _ _ _ e).trans ?_)))
    show -(Cert.Reference7Ideal.Step.K_main_v27 (F := Ideal) _) = -_
    exact congrArg (fun i => -(Cert.Reference7Ideal.Step.K_main_v27 (F := Ideal) i)) (eq_ix2_of_val _ _ _ rfl rfl)
  hi r e := by
    refine (Memref.IsWhole.readAt_unread (hs0_5 t) _ _ _).trans ((congrArg (iblk m c 5 t) (tableBox_idx r _)).trans ((tab_sin m c t _ _).trans ((twice_hi _ _ _ e).trans ?_)))
    exact congrArg (Cert.Reference7Ideal.Step.K_main_v27 (F := Ideal)) (eq_ix2_of_val _ _ _ rfl rfl)
  dm h r d := by
    have hh := h.isLt
    refine (Memref.IsWhole.readAt_unread (hs0_6 t) _ _ _).trans ((congrArg (iblk m c 6 t) (eq_ix3_of_val _ h r d ?_ ?_ ?_)).trans (tab_decay m c t h r d))
    · show h.val % 8 + 1 * 0 = h.val; omega
    · show 0 + 1 * r.val = r.val; omega
    · show 0 + 1 * d.val = d.val; omega
  xi h r d := by
    have hh := h.isLt
    refine (Memref.IsWhole.readAt_unread (hs0_7 t) _ _ _).trans ((congrArg (iblk m c 7 t) (eq_ix3_of_val _ h r d ?_ ?_ ?_)).trans ((tab_xi m c t h r d).trans (wide_apply _ h r d)))
    · show h.val % 8 + 1 * 0 = h.val; omega
    · show 0 + 1 * r.val = r.val; omega
    · show 0 + 1 * d.val = d.val; omega
  zeta h r d := by
    have hh := h.isLt
    refine (Memref.IsWhole.readAt_unread (hs0_8 t) _ _ _).trans ((congrArg (iblk m c 8 t) (eq_ix3_of_val _ h r d ?_ ?_ ?_)).trans ((tab_zeta m c t h r d).trans (wide_apply _ h r d)))
    · show h.val % 8 + 1 * 0 = h.val; omega
    · show 0 + 1 * r.val = r.val; omega
    · show 0 + 1 * d.val = d.val; omega
  g h d := by
    have hh := h.isLt
    refine (Memref.IsWhole.readAt_unread (hs0_9 t) _ _ _).trans ((congrArg (iblk m c 9 t) (eq_ix3_of_val _ h 0 d ?_ ?_ ?_)).trans ((tab_g m c t h d).trans (wideHead_apply _ h d)))
    · show h.val % 8 + 1 * 0 = h.val; omega
    · rfl
    · show 0 + 1 * d.val = d.val; omega
  rn h d := by
    have hh := h.isLt
    refine (Memref.IsWhole.readAt_unread (hs0_10 t) _ _ _).trans ((congrArg (iblk m c 10 t) (eq_ix2_of_val _ 0 ⟨128 * h.val + d.val, by omega⟩ ?_ ?_)).trans ((tab_norm m c t _).trans (norm_row _ h d)))
    · rfl
    · show 128 * (h.val % 8) + 1 * d.val = 128 * h.val + d.val; omega

end Cert.Proof.RetSample

end
-- ==== Proof.RetSample.Final.lean ====
/-
  What a point of the sample's retention call leaves in its two blocks, element by element, and so the call's two result
  arrays: the gated rows, and the stacked states, whose second layer every sequence's point writes.
-/
module

public import proofs.«01_k».proof.Proof.RetSample.Fit
public import Idealize.ShloMosaic.Lib.VecWindow

@[expose] public section

set_option maxRecDepth 16384

noncomputable section

namespace Cert.Proof.RetSample

open Cert.Proof.Common Cert.Kernel7Ideal Cert.Kernel7Ideal.Gen Idealize.ShloMosaic Idealize.ShloMosaic.TcCoe Idealize.SL.Sem
open Idealize.ShloMosaic.Pipeline (Dat)
open Cert.Proof.Ret (Loads headBox)

/-- The scratch after a point's stores: plane `h` is head `h`'s state after the chunk. -/
theorem read_states (v : View sig .tc .vmem S8x128x128 .f32) (f : v.ty.Contents (Elt Ideal)) (L : Loads Ideal)
    (S0 : ℕ → FVec Ideal S128x128 .f32) (h : Fin 8) (i j : Fin 128) :
    v.read (Elt Ideal) (v.writes (Elt Ideal) f (statePieces L S0)) (ix3 h i j) = L.state S0 h 1 (ix2 i j) := by
  refine (View.read_writes_apply_of_pieces v f (fun y : S8x128x128.Idx => L.state S0 (y 0).val 1 (ix2 (y 1) (y 2)))
    (statePieces L S0) ?_ (ix3 h i j) ?_)
  · intro p hp x
    obtain ⟨k, hk, rfl⟩ := List.mem_map.1 (List.mem_reverse.1 hp)
    have hk8 : k % 8 = k := Nat.mod_eq_of_lt (List.mem_range.1 hk)
    have hx : x = ix3 0 (x 1) (x 2) := (eq_ix3 (show S1x128x128.Idx from x)).trans (by
      congr 1; exact Subsingleton.elim _ _)
    have x0 : (x 0 : Nat) = 0 := Nat.lt_one_iff.1 (x 0).isLt
    have e0 : (((headBox k).emb x) 0 : Nat) = k := by
      rw [Rect.emb_apply]; show k % 8 + 1 * (x 0 : Nat) = k; omega
    have e1 : ((headBox k).emb x) 1 = x 1 := Fin.ext (by
      rw [Rect.emb_apply]; show 0 + 1 * (x 1 : Nat) = _; omega)
    have e2 : ((headBox k).emb x) 2 = x 2 := Fin.ext (by
      rw [Rect.emb_apply]; show 0 + 1 * (x 2 : Nat) = _; omega)
    show shapeCast S1x128x128 (L.state S0 k 1) shapeCasts_S128x128_S1x128x128 x
      = L.state S0 (((headBox k).emb x) 0).val 1 (ix2 (((headBox k).emb x) 1) (((headBox k).emb x) 2))
    rw [e0, e1, e2, hx]
    pointwise []
  · refine ⟨_, List.mem_reverse.2 (List.mem_map.2 ⟨h.val, List.mem_range.2 h.isLt, rfl⟩), ?_⟩
    rw [Rect.mem_set_unit]
    have := h.isLt
    intro a
    fin_cases a <;> simp [Shape.size] <;> omega

/-- The output block after a point's stores: lane `l` lies in head `l / 128`. -/
theorem read_tiles (v : View sig .tc .vmem S1x64x1024 .bf16) (f : v.ty.Contents (Elt Ideal)) (L : Loads Ideal)
    (S0 : ℕ → FVec Ideal S128x128 .f32) (h : Fin 8) (r : Fin 64) (d : Fin 128) :
    v.read (Elt Ideal) (v.writes (Elt Ideal) f (tilePieces L S0)) (ix3 0 r ⟨128 * h.val + d.val, by omega⟩)
      = L.tile S0 0 h (ix3 0 r d) := by
  refine (View.read_writes_apply_of_pieces v f (fun y : S1x64x1024.Idx =>
      L.tile S0 0 ((y 2).val / 128) (ix3 0 (y 1) ⟨(y 2).val % 128, Nat.mod_lt _ (by decide)⟩))
    (tilePieces L S0) ?_ _ ?_).trans ?_
  · intro p hp x
    obtain ⟨k, hk, rfl⟩ := List.mem_map.1 (List.mem_reverse.1 hp)
    have hk8 : k < 8 := List.mem_range.1 hk
    have hx : x = ix3 0 (x 1) (x 2) := (eq_ix3 (show S1x64x128.Idx from x)).trans (by
      congr 1; exact Subsingleton.elim _ _)
    have x2 : (x 2 : Nat) < 128 := (x 2).isLt
    have e1 : ((tileBox k).emb x) 1 = x 1 := Fin.ext (by
      rw [Rect.emb_apply]; show 0 + 1 * (x 1 : Nat) = _; omega)
    have e2 : (((tileBox k).emb x) 2 : Nat) = 128 * k + (x 2 : Nat) := by
      rw [Rect.emb_apply]; show 128 * (k % 8) + 1 * (x 2 : Nat) = _; omega
    show L.tile S0 0 k x
      = L.tile S0 0 ((((tileBox k).emb x) 2).val / 128) (ix3 0 (((tileBox k).emb x) 1) ⟨(((tileBox k).emb x) 2).val % 128, _⟩)
    have f2 : ∀ q, (⟨(((tileBox k).emb x) 2).val % 128, q⟩ : Fin 128) = x 2 :=
      fun q => Fin.ext (by show (((tileBox k).emb x) 2).val % 128 = _; rw [e2]; omega)
    rw [f2, e1, e2, show (128 * k + (x 2 : Nat)) / 128 = k by omega]
    exact congrArg _ hx
  · refine ⟨_, List.mem_reverse.2 (List.mem_map.2 ⟨h.val, List.mem_range.2 h.isLt, rfl⟩), ?_⟩
    rw [Rect.mem_set_unit]
    have := h.isLt
    intro a
    fin_cases a <;> simp [Shape.size] <;> omega
  · have a2 : (128 * h.val + d.val) / 128 = h.val := by omega
    have e : ∀ (y : S1x64x1024.Idx) (H : ℕ) (p : Fin 64) (q : Fin 128), (y 2).val / 128 = H → y 1 = p → (y 2).val % 128 = q.val →
        L.tile S0 0 ((y 2).val / 128) (ix3 0 (y 1) ⟨(y 2).val % 128, Nat.mod_lt _ (by decide)⟩) = L.tile S0 0 H (ix3 0 p q) := by
      intro y H p q h2 h3 h4
      subst h2 h3
      rw [show (⟨(y 2).val % 128, Nat.mod_lt _ (by decide)⟩ : Fin 128) = q from Fin.ext h4]
    exact e _ _ _ _ a2 rfl (by show (128 * h.val + d.val) % 128 = d.val; omega)

theorem cube_apply (X : FVec Ideal S8x128x128 .f32) (h : Fin 8) (i j : Fin 128) :
    (shapeCast S1x1x8x128x128 X shapeCasts_S8x128x128_S1x1x8x128x128 : FVec Ideal S1x1x8x128x128 .f32) (ix5 0 0 h i j) = X (ix3 h i j) := by
  pointwise []

variable (m : (ℓ : Loc nD τ sig) → Buf (Elt Ideal) ℓ) (c : Dev nD)

/-- The reference's state after its trip, and its results, of the kernel's arguments. -/
def last : Cert.Reference7Ideal.Step.State Ideal :=
  endState (m ((c : Thread nD τ).loc main_arg0)) (m ((c : Thread nD τ).loc main_arg2))

def outRows : Vec Ideal S8x64x1024 .bf16 :=
  Cert.Reference7Ideal.Step.R_main_v162 (last m c) (m ((c : Thread nD τ).loc main_arg0)) (m ((c : Thread nD τ).loc main_arg1))

def outStates : Vec Ideal S2x8x8x128x128 .f32 :=
  Cert.Reference7Ideal.Step.R_main_v167 (last m c) (m ((c : Thread nD τ).loc main_arg3))

/-- The tiles a point leaves. -/
theorem tiles_stored (t : Fin cfg0.N) :
    (outsAt0 m c t).1 = VO0_12.read (Elt Ideal) (VO0_12.writes (Elt Ideal) VO0_12.junk (tilePieces (pt m c t) (st m c t))) := by
  unfold outsAt0
  dsimp only
  unfold out0_A_12
  rw [tiles_A]
  rfl

/-- What a point writes back of the rows is its block of the reference's. -/
theorem rows_flushed (t : Fin cfg0.N) :
    (dats m 0 c).flushed 12 t = ((cfg0.win 12).blk t).view.read (Elt Ideal) (outRows m c) := by
  obtain ⟨-, -, -, -, -, -, -, -, -, -, -, -, i12, -⟩ := idx t
  rw [Cert.Kernel7Ideal.Value.flushed12]
  funext y
  obtain ⟨r, l, rfl⟩ : ∃ (r : Fin 64) (l : Fin 1024), y = ix3 0 r l := ⟨y 1, y 2, (eq_ix3 (show S1x64x1024.Idx from y)).trans (by congr 1; exact Subsingleton.elim _ _)⟩
  show (outsAt0 m c t).1 (ix3 0 r l) = _
  rw [tiles_stored]
  have er : ix3 (0 : Fin 1) r l = ix3 0 r ⟨128 * (⟨l.val / 128, by omega⟩ : Fin 8).val + (⟨l.val % 128, by omega⟩ : Fin 128).val, by simp; omega⟩ :=
    eq_ix3_of_val _ _ _ _ rfl rfl (by simp; omega)
  refine (congrArg _ er).trans ((read_tiles _ _ (pt m c t) (st m c t) _ _ _).trans ((tile_eq (fits m c t) _ (st m c t) (st_apply m c t) _ _ _).trans ?_))
  rw [View.read_apply, cast_eq]
  exact congrArg (outRows m c) (eq_ix3_of_val _ _ _ _ ((emb_row win0_12 t _ 0 _ _ rfl i12.1 rfl).trans (by simp [bat]))
    ((emb_row win0_12 t _ 1 _ _ rfl i12.2.1 rfl).trans (by simp))
    ((emb_row win0_12 t _ 2 _ _ rfl i12.2.2 rfl).trans (by simp; omega))).symm

/-- The blocks tile the rows. -/
theorem rows_cover (i : S8x64x1024.Idx) :
    ∃ t : Fin cfg0.N, (cfg0.win 12).flush t = true ∧ i ∈ ((cfg0.win 12).blk t).view.set := by
  have h0 : (i 0).val < 8 := (i 0).isLt
  have hN : cfg0.N = 8 := N_0
  have ht : (i 0).val < cfg0.N := by omega
  obtain ⟨-, -, -, -, -, -, -, -, -, -, -, -, i12, -⟩ := idx ⟨(i 0).val, ht⟩
  refine ⟨⟨_, ht⟩, flush0_12 _, ?_⟩
  have h : ((cfg0.win 12).blk ⟨_, ht⟩).view.emb (ix3 0 (i 1) (i 2)) = i :=
    (eq_ix3_of_val _ (i 0) (i 1) (i 2) ((emb_row win0_12 _ _ 0 _ _ rfl i12.1 rfl).trans (by simp))
      ((emb_row win0_12 _ _ 1 _ _ rfl i12.2.1 rfl).trans (by simp)) ((emb_row win0_12 _ _ 2 _ _ rfl i12.2.2 rfl).trans (by simp))).trans (eq_ix3 i).symm
  have h' := View.emb_mem_set ((cfg0.win 12).blk ⟨_, ht⟩).view (ix3 0 (i 1) (i 2))
  rwa [h] at h'

theorem rows_final : (dats m 0 c).arrAt 12 cfg0.N = outRows m c :=
  (dats m 0 c).arrAt_eq_of_cover 12 (outRows m c) (fun t _ => rows_flushed m c t) rows_cover

/-- The store of the whole scratch, as the state block: the block holds the states. -/
def lastPieces (L : Loads Ideal) (S0 : ℕ → FVec Ideal S128x128 .f32) (E : List (View.Piece (Elt Ideal) S8x128x128 .f32)) :
    List (View.Piece (Elt Ideal) S1x1x8x128x128 .f32) :=
  [⟨Rect.unit ![0, 0, 0, 0, 0] S1x1x8x128x128.size inb_S1x1x8x128x128_S1x1x8x128x128_0_0_0_0_0,
    shapeCast S1x1x8x128x128
      (scM0_0.view.readCov (Val := Elt Ideal) (statePieces L S0 ++ E)
        (Rect.unit ![0, 0, 0] S8x128x128.size inb_S8x128x128_S8x128x128_0_0_0).toLoadRect)
      shapeCasts_S8x128x128_S1x1x8x128x128⟩]

theorem whole_idx (h : Fin 8) (i j : Fin 128) :
    (Rect.unit (s := S8x128x128) ![0, 0, 0] S8x128x128.size inb_S8x128x128_S8x128x128_0_0_0).toLoadRect.idx (ix3 h i j) = ix3 h i j :=
  eq_ix3_of_val _ _ _ _ (by show 0 + 1 * h.val = h.val; omega) (by show 0 + 1 * i.val = i.val; omega) (by show 0 + 1 * j.val = j.val; omega)

theorem read_last (f) (L : Loads Ideal) (S0 : ℕ → FVec Ideal S128x128 .f32) (E : List (View.Piece (Elt Ideal) S8x128x128 .f32))
    (h : Fin 8) (i j : Fin 128) :
    VO0_13.read (Elt Ideal) (VO0_13.writes (Elt Ideal) f (lastPieces L S0 E)) (ix5 0 0 h i j) = L.state S0 h 1 (ix2 i j) := by
  unfold lastPieces
  refine (congrFun (View.read_writes_full VO0_13 f inb_S1x1x8x128x128_S1x1x8x128x128_0_0_0_0_0 _ []) _).trans ?_
  refine (cube_apply _ h i j).trans ?_
  refine Eq.trans ?_ (read_states scM0_0.view (scM0_0.view.writes (Elt Ideal) scM0_0.view.junk E) L S0 h i j)
  rw [← View.writes_append]
  exact congrArg (scM0_0.view.read (Elt Ideal) (scM0_0.view.writes (Elt Ideal) scM0_0.view.junk (statePieces L S0 ++ E))) (whole_idx h i j)

/-- What a point stores as its state block. -/
theorem last_stored (t : Fin cfg0.N) :
    (outsAt0 m c t).2 = VO0_13.read (Elt Ideal) (VO0_13.writes (Elt Ideal) VO0_13.junk
      (lastPieces (pt m c t) (st m c t) (entered (ms0_11 t) (hs0_11 t) (iblk m c 11 t)))) := by
  unfold outsAt0
  dsimp only
  unfold out0_A_13
  rw [last_A]
  rfl

theorem last_block (t : Fin cfg0.N) (h : Fin 8) (i j : Fin 128) :
    (outsAt0 m c t).2 (ix5 0 0 h i j) = (last m c).main_v133_8 (ix4 (bat t) h i j) := by
  rw [last_stored m c t]
  exact (read_last _ _ _ _ h i j).trans (state_eq (fits m c t) _ (st m c t) (st_apply m c t) h i j)

theorem states_flushed (t : Fin cfg0.N) :
    (dats m 0 c).flushed 13 t = ((cfg0.win 13).blk t).view.read (Elt Ideal) (outStates m c) := by
  obtain ⟨-, -, -, -, -, -, -, -, -, -, -, -, -, i13⟩ := idx t
  rw [Cert.Kernel7Ideal.Value.flushed13]
  funext y
  obtain ⟨h, i, j, rfl⟩ : ∃ (h : Fin 8) (i j : Fin 128), y = ix5 0 0 h i j :=
    ⟨y 2, y 3, y 4, (eq_ix5 (show S1x1x8x128x128.Idx from y)).trans (by congr 1 <;> exact Subsingleton.elim _ _)⟩
  show (outsAt0 m c t).2 (ix5 0 0 h i j) = _
  rw [last_block m c t, View.read_apply, cast_eq]
  refine (stacked_one (last m c) (m ((c : Thread nD τ).loc main_arg3)) (bat t) h i j).symm.trans ?_
  exact congrArg (outStates m c) (eq_ix5_of_val _ _ _ _ _ _ ((emb_row win0_13 t _ 0 _ _ rfl i13.1 rfl).trans (by simp))
    ((emb_row win0_13 t _ 1 _ _ rfl i13.2.1 rfl).trans (by simp [bat])) ((emb_row win0_13 t _ 2 _ _ rfl i13.2.2.1 rfl).trans (by simp))
    ((emb_row win0_13 t _ 3 _ _ rfl i13.2.2.2.1 rfl).trans (by simp)) ((emb_row win0_13 t _ 4 _ _ rfl i13.2.2.2.2 rfl).trans (by simp))).symm

/-- The blocks written back tile the second layer. -/
theorem states_cover (b h : Fin 8) (x y : Fin 128) :
    ∃ t : Fin cfg0.N, (cfg0.win 13).flush t = true ∧ (ix5 (1 : Fin 2) b h x y) ∈ ((cfg0.win 13).blk t).view.set := by
  have hN : cfg0.N = 8 := N_0
  have ht : b.val < cfg0.N := by omega
  obtain ⟨-, -, -, -, -, -, -, -, -, -, -, -, -, i13⟩ := idx ⟨b.val, ht⟩
  refine ⟨⟨b.val, ht⟩, flush0_13 _, ?_⟩
  have he : ((cfg0.win 13).blk ⟨b.val, ht⟩).view.emb (ix5 0 0 h x y) = ix5 1 b h x y :=
    eq_ix5_of_val _ _ _ _ _ _ ((emb_row win0_13 _ _ 0 _ _ rfl i13.1 rfl).trans (by simp))
      ((emb_row win0_13 _ _ 1 _ _ rfl i13.2.1 rfl).trans (by simp)) ((emb_row win0_13 _ _ 2 _ _ rfl i13.2.2.1 rfl).trans (by simp))
      ((emb_row win0_13 _ _ 3 _ _ rfl i13.2.2.2.1 rfl).trans (by simp)) ((emb_row win0_13 _ _ 4 _ _ rfl i13.2.2.2.2 rfl).trans (by simp))
  have h' := View.emb_mem_set ((cfg0.win 13).blk ⟨b.val, ht⟩).view (ix5 0 0 h x y)
  rwa [he] at h'

theorem states_zero (b h : Fin 8) (x y : Fin 128) :
    (V m c (Pipeline.arrRef spec0 13) : FVec Ideal S2x8x8x128x128 .f32) (ix5 0 b h x y) = outStates m c (ix5 0 b h x y) :=
  (congrFun (entry_states m c) _).trans (stacked_zero _ _ b h x y).symm

/-- They leave the first layer as it was passed in. -/
theorem states_final : (dats m 0 c).arrAt 13 cfg0.N = outStates m c := by
  funext i
  rw [(dats m 0 c).arrAt_eq_piecewise 13 (outStates m c) (fun t _ => states_flushed m c t) i]
  split
  · rfl
  · rename_i hi
    rw [A_eq]
    obtain ⟨l, b, h, x, y, rfl⟩ : ∃ (l : Fin 2) (b h : Fin 8) (x y : Fin 128), i = ix5 l b h x y :=
      ⟨i 0, i 1, i 2, i 3, i 4, eq_ix5 (show S2x8x8x128x128.Idx from i)⟩
    rcases (by omega : l.val = 0 ∨ l.val = 1) with hl | hl
    · obtain rfl : l = 0 := Fin.ext hl
      exact states_zero m c b h x y
    · obtain rfl : l = 1 := Fin.ext hl
      exact absurd (states_cover b h x y) hi

end Cert.Proof.RetSample

end
-- ==== Proof.RetSample.Claims.lean ====
/-
  The claims about the sample's retention call: the two frames from one run, the reference's frame, and the equality of the results.
-/
module

public import proofs.«01_k».proof.Defs
public import proofs.«01_k».proof.Proof.Gen.Kernel7
public import proofs.«01_k».proof.Proof.RetSample.Final

@[expose] public section

noncomputable section

namespace Cert.Proof.RetSample

open Idealize.ShloMosaic Idealize.ShloMosaic.TcCoe Idealize.SL.Sem

/-- The kernel and its ideal reading have the same body table at words: the one label's body is the same text. -/
theorem bodies_eq : Cert.Kernel7.defs₀ (F := Bits) = Cert.Kernel7Ideal.defs₀ (F := Bits) := by
  sl_kernel_rfl

theorem defs_eq : Cert.Kernel7.defs (F := Bits) = Cert.Kernel7Ideal.defs (F := Bits) := by
  unfold Cert.Kernel7.defs
  rw [bodies_eq]
  sl_kernel_rfl

theorem main_eq : Cert.Kernel7.main (F := Bits) = Cert.Kernel7Ideal.main (F := Bits) := by
  sl_kernel_rfl

theorem frame_kernel : Cert.quiescent_Kernel7 := by
  intro m ρ _
  rw [defs_eq, main_eq]
  exact Cert.Kernel7Ideal.Gen.frame (F := Bits) m ρ

theorem frame_kernelIdeal : Cert.quiescent_Kernel7Ideal := fun m ρ _ => Cert.Kernel7Ideal.Gen.frame (F := Ideal) m ρ

/-- The reference declares no semaphore, so its counters are zero at the end. -/
theorem frame_referenceIdeal : Cert.quiescent_Reference7Ideal := fun m ρ _ =>
  (θ_run Cert.Reference7Ideal.defs _ _).mono (fun r h => ⟨fun c => (h c).2, sem_eq_zero_of_no_sems (by decide) r.2⟩)
    (run_end (F := Ideal) m ρ)

/-- Both runs end with the reference's results of the common arguments. -/
theorem algebraic : Cert.algebraic_Kernel7Ideal_Reference7Ideal := by
  intro m ρ m' ρ' _ hagree
  refine ⟨outRows m, outStates m, ?_, ?_⟩
  · exact (θ_run Cert.Kernel7Ideal.defs _ _).mono
      (fun r h c => ⟨(h c).1.trans (rows_final m c), (h c).2.1.trans (states_final m c), (h c).2.2⟩)
      (Cert.Kernel7Ideal.Value.run_blocks (F := Ideal) m ρ)
  · refine (θ_run Cert.Reference7Ideal.defs _ _).mono (fun r h c => ⟨(h c).1.1.trans ?_, (h c).1.2.trans ?_, (h c).2⟩)
      (run_end (F := Ideal) m' ρ')
    all_goals
      obtain ⟨a0, a1, a2, a3⟩ := hagree c
      rw [a0, a2]
    · rw [a1]; rfl
    · rw [a3]; rfl

end Cert.Proof.RetSample

end
-- ==== Proof.DeltaSample.Tail.lean ====
/-
  What a point of the sample's delta call stores in its tail block: the last eight rows of the staged query, key and value
  columns, by way of the scratch that holds them head by head behind the eight rows from before the sequence.
-/
module

public import proofs.«01_k».proof.Proof.Gen.Kernel8Ideal.Value
public import proofs.«01_k».proof.Proof.Common.Index
public import Idealize.ShloMosaic.Lib.Pointwise
public import Idealize.ShloMosaic.Lib.WholeRead
public import Idealize.ShloMosaic.Lib.VecWindow

@[expose] public section

set_option maxRecDepth 16384

noncomputable section

namespace Cert.Proof.DeltaSample

open Cert.Kernel8Ideal Cert.Kernel8Ideal.Gen Cert.Proof.Common Idealize.ShloMosaic Idealize.ShloMosaic.TcCoe Idealize.SL.Sem

variable {F : FTy → Type} [FloatOps F]

theorem cols_fit (h : ℕ) : ∀ a, (![0, 0, 128 * (h % 8)] : Fin 3 → ℕ) a + S1x64x128.size a ≤ S1x64x1024.size a := by
  intro a
  have hh := Nat.mod_lt h (show 0 < 8 by decide)
  fin_cases a <;> simp [Shape.size] <;> omega

theorem lanes_fit (n : ℕ) : ∀ a, (![0, 0, 128 * (n % 24)] : Fin 3 → ℕ) a + S1x8x128.size a ≤ S1x8x3072.size a := by
  intro a
  have hn := Nat.mod_lt n (show 0 < 24 by decide)
  fin_cases a <;> simp [Shape.size] <;> omega

theorem tail_fits (n : ℕ) : ∀ a, (![0, 0, 0, 128 * (n % 24)] : Fin 4 → ℕ) a + S1x1x8x128.size a ≤ S1x1x8x3072.size a := by
  intro a
  have hn := Nat.mod_lt n (show 0 < 24 by decide)
  fin_cases a <;> simp [Shape.size] <;> omega

theorem before_fits (n : ℕ) : ∀ a, (![n / 8 % 3, n % 8, 0, 0] : Fin 4 → ℕ) a + S1x1x8x128.size a ≤ S3x8x72x128.size a := by
  intro a
  have hp := Nat.mod_lt (n / 8) (show 0 < 3 by decide)
  have hn := Nat.mod_lt n (show 0 < 8 by decide)
  fin_cases a <;> simp [Shape.size] <;> omega

theorem last_fits (n : ℕ) : ∀ a, (![n / 8 % 3, n % 8, 64, 0] : Fin 4 → ℕ) a + S1x1x8x128.size a ≤ S3x8x72x128.size a := by
  intro a
  have hp := Nat.mod_lt (n / 8) (show 0 < 3 by decide)
  have hn := Nat.mod_lt n (show 0 < 8 by decide)
  fin_cases a <;> simp [Shape.size] <;> omega

theorem staged_fits (p j : ℕ) : ∀ a, (![p % 3, j % 8, 8, 0] : Fin 4 → ℕ) a + S1x1x64x128.size a ≤ S3x8x72x128.size a := by
  intro a
  have hp := Nat.mod_lt p (show 0 < 3 by decide)
  have hj := Nat.mod_lt j (show 0 < 8 by decide)
  fin_cases a <;> simp [Shape.size] <;> omega

/-- Head `h`'s columns in a staged block. -/
abbrev colBox (h : ℕ) : Rect S1x64x1024 := Rect.unit ![0, 0, 128 * (h % 8)] S1x64x128.size (cols_fit h)

/-- The 24 groups of 128 columns of the rows from before the sequence, and of the tail block. -/
abbrev laneBox (n : ℕ) : Rect S1x8x3072 := Rect.unit ![0, 0, 128 * (n % 24)] S1x8x128.size (lanes_fit n)
abbrev tailBox (n : ℕ) : Rect S1x1x8x3072 := Rect.unit ![0, 0, 0, 128 * (n % 24)] S1x1x8x128.size (tail_fits n)

/-- The scratch's first eight rows of a group, its last eight, and the 64 rows behind the first eight. -/
abbrev beforeBox (n : ℕ) : Rect S3x8x72x128 := Rect.unit ![n / 8 % 3, n % 8, 0, 0] S1x1x8x128.size (before_fits n)
abbrev lastBox (n : ℕ) : Rect S3x8x72x128 := Rect.unit ![n / 8 % 3, n % 8, 64, 0] S1x1x8x128.size (last_fits n)
abbrev stagedBox (p j : ℕ) : Rect S3x8x72x128 := Rect.unit ![p % 3, j % 8, 8, 0] S1x1x64x128.size (staged_fits p j)

/-- The stores of one staged block into the scratch, head by head. -/
def staged (p : ℕ) (arg : Memref sig .tc .vmem S1x64x1024 .f32) (harg : arg.IsWhole) (x : Vec F S1x64x1024 .f32) :
    List (View.Piece (Elt F) S3x8x72x128 .f32) :=
  (List.range 8).map fun j => ⟨stagedBox p j, shapeCast S1x1x64x128
    (shapeCast S64x128 (View.readAt (Elt F) arg.view (colBox j).toLoadRect (harg.unread x)) shapeCasts_S1x64x128_S64x128)
    shapeCasts_S64x128_S1x1x64x128⟩

/-- The stores of the rows from before the sequence. -/
def before (arg : Memref sig .tc .vmem S1x8x3072 .f32) (harg : arg.IsWhole) (x : Vec F S1x8x3072 .f32) :
    List (View.Piece (Elt F) S3x8x72x128 .f32) :=
  (List.range 24).map fun n => ⟨beforeBox n, shapeCast S1x1x8x128
    (shapeCast S8x128 (View.readAt (Elt F) arg.view (laneBox n).toLoadRect (harg.unread x)) shapeCasts_S1x8x128_S8x128)
    shapeCasts_S8x128_S1x1x8x128⟩

/-- The stores into the tail block, last first, from a scratch with the stores `L` in it. -/
def tailPieces (arg18 : Memref sig .tc .vmem S3x8x72x128 .f32) (L : List (View.Piece (Elt F) S3x8x72x128 .f32)) :
    List (View.Piece (Elt F) S1x1x8x3072 .f32) :=
  ((List.range 24).map fun n => ⟨tailBox n, shapeCast S1x1x8x128
    (shapeCast S8x128 (arg18.view.readCov (Val := Elt F) L (lastBox n).toLoadRect) shapeCasts_S1x1x8x128_S8x128)
    shapeCasts_S8x128_S1x1x8x128⟩).reverse

section Run
variable (c : Dev nD) (i : grid0.Coords)
  (arg2 : Memref sig .tc .vmem S1x64x1024 .f32) (harg2 : arg2.IsWhole)
  (arg3 : Memref sig .tc .vmem S1x64x1024 .f32) (harg3 : arg3.IsWhole)
  (arg4 : Memref sig .tc .vmem S1x64x1024 .f32) (harg4 : arg4.IsWhole)
  (arg5 : Memref sig .tc .vmem S1x64x1024 .f32) (harg5 : arg5.IsWhole)
  (arg6 : Memref sig .tc .vmem S1x64x128 .f32) (harg6 : arg6.IsWhole)
  (arg7 : Memref sig .tc .vmem S4x3072 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x8x3072 .f32) (harg11 : arg11.IsWhole)
  (arg12 : Memref sig .tc .vmem S1x8x128x128 .f32) (harg12 : arg12.IsWhole)
  (arg15 : Memref sig .tc .vmem S1x64x1024 .bf16) (harg15 : arg15.IsWhole)
  (arg16 : Memref sig .tc .vmem S1x1x8x128x128 .f32) (harg16 : arg16.IsWhole)
  (arg17 : Memref sig .tc .vmem S1x1x8x3072 .f32) (harg17 : arg17.IsWhole)
  (arg18 : Memref sig .tc .vmem S3x8x72x128 .f32) (harg18 : arg18.IsWhole)
  (arg19 : Memref sig .tc .vmem S8x128x128 .f32) (harg19 : arg19.IsWhole)
  (hc0 : cond0_0 i) (hc1 : ¬cond0_1 i) (hc2 : cond0_2 i)
  (x0 x1 x2 x3 : Vec F S1x64x1024 .f32) (x4 : Vec F S1x64x128 .f32) (x5 : Vec F S4x3072 .f32) (x6 x7 x8 : Vec F S1x128 .f32)
  (x9 : Vec F S1x8x3072 .f32) (x10 : Vec F S1x8x128x128 .f32)

/-- A point stores this tail. -/
theorem tail_A :
    (kernelRun0_A c i arg2 harg2 arg3 harg3 arg4 harg4 arg5 harg5 arg6 harg6 arg7 harg7 arg8 harg8 arg9 harg9 arg10 harg10 arg11 harg11 arg12 harg12 arg15 harg15 arg16 harg16 arg17 harg17 arg18 harg18 arg19 harg19 hc0 hc1 hc2 x0 x1 x2 x3 x4 x5 x6 x7 x8 x9 x10).2.2.1
      = tailPieces arg18 ((staged 0 arg2 harg2 x0 ++ staged 1 arg3 harg3 x1 ++ staged 2 arg4 harg4 x2).reverse ++ (before arg11 harg11 x9).reverse) := by
  sl_kernel_rfl

end Run

theorem colBox_idx (h : Fin 8) (r : Fin 64) (d : Fin 128) :
    (colBox h).toLoadRect.idx (ix3 0 r d) = ix3 0 r ⟨128 * h.val + d.val, by omega⟩ := by
  have hh := h.isLt
  refine eq_ix3_of_val _ _ _ _ rfl ?_ ?_
  · show 0 + 1 * r.val = r.val; omega
  · show 128 * (h.val % 8) + 1 * d.val = 128 * h.val + d.val; omega

theorem lastBox_idx (n : Fin 24) (r : Fin 8) (d : Fin 128) :
    (lastBox n).toLoadRect.idx (ix4 0 0 r d) = ix4 ⟨n.val / 8, by omega⟩ ⟨n.val % 8, by omega⟩ ⟨64 + r.val, by omega⟩ d := by
  have hn := n.isLt
  refine eq_ix4_of_val _ _ _ _ _ ?_ ?_ ?_ ?_
  · show n.val / 8 % 3 + 1 * 0 = n.val / 8; omega
  · show n.val % 8 + 1 * 0 = n.val % 8; omega
  · show 64 + 1 * r.val = 64 + r.val; omega
  · show 0 + 1 * d.val = d.val; omega

/-- A head's columns as a tile of the scratch, and a tile of the scratch as columns of the tail. -/
theorem tile_in (X : FVec F S1x64x128 .f32) (r : Fin 64) (d : Fin 128) :
    (shapeCast S1x1x64x128 (shapeCast S64x128 X shapeCasts_S1x64x128_S64x128) shapeCasts_S64x128_S1x1x64x128 :
      FVec F S1x1x64x128 .f32) (ix4 0 0 r d) = X (ix3 0 r d) := by
  pointwise []

theorem tile_out (X : FVec F S1x1x8x128 .f32) (r : Fin 8) (d : Fin 128) :
    (shapeCast S1x1x8x128 (shapeCast S8x128 X shapeCasts_S1x1x8x128_S8x128) shapeCasts_S8x128_S1x1x8x128 :
      FVec F S1x1x8x128 .f32) (ix4 0 0 r d) = X (ix4 0 0 r d) := by
  pointwise []

/-- The three staged blocks by number. -/
def source (x0 x1 x2 : Vec F S1x64x1024 .f32) (p : ℕ) : Vec F S1x64x1024 .f32 :=
  if p = 0 then x0 else if p = 1 then x1 else x2

/-- The element that belongs at an index of the scratch, behind its first eight rows. -/
def scratchAt (G : ℕ → Vec F S1x64x1024 .f32) (y : S3x8x72x128.Idx) : Elt F .f32 :=
  G (y 0).val (ix3 0 ⟨(y 2).val - 8, by have h : (y 2).val < 72 := (y 2).isLt; omega⟩
    ⟨128 * (y 1).val + (y 3).val, by
      have h1 : (y 1).val < 8 := (y 1).isLt
      have h3 : (y 3).val < 128 := (y 3).isLt
      omega⟩)

/-- Each store of a staged block puts there what belongs there. -/
theorem staged_ok (p : ℕ) (hp : p < 3) (arg : Memref sig .tc .vmem S1x64x1024 .f32) (harg : arg.IsWhole) (x : Vec F S1x64x1024 .f32)
    (G : ℕ → Vec F S1x64x1024 .f32) (hG : G p = x) (q : View.Piece (Elt F) S3x8x72x128 .f32) (hq : q ∈ staged p arg harg x)
    (y : q.1.shape.Idx) : q.2 y = scratchAt G (q.1.emb y) := by
  obtain ⟨j, hj, rfl⟩ := List.mem_map.1 hq
  have hj8 : j < 8 := List.mem_range.1 hj
  obtain ⟨r, d, rfl⟩ : ∃ (r : Fin 64) (d : Fin 128), y = ix4 0 0 r d :=
    ⟨y 2, y 3, (eq_ix4 (show S1x1x64x128.Idx from y)).trans (by congr 1 <;> exact Subsingleton.elim _ _)⟩
  have hemb : (stagedBox p j).emb (ix4 0 0 r d) = ix4 ⟨p, hp⟩ ⟨j, hj8⟩ ⟨8 + r.val, by omega⟩ d := by
    refine eq_ix4_of_val _ _ _ _ _ ?_ ?_ ?_ ?_
    · rw [Rect.emb_apply]; show p % 3 + 1 * 0 = p; omega
    · rw [Rect.emb_apply]; show j % 8 + 1 * 0 = j; omega
    · rw [Rect.emb_apply]; show 8 + 1 * r.val = 8 + r.val; omega
    · rw [Rect.emb_apply]; show 0 + 1 * d.val = d.val; omega
  show _ = scratchAt G ((stagedBox p j).emb (ix4 0 0 r d))
  rw [hemb]
  refine (tile_in (View.readAt (Elt F) arg.view (colBox j).toLoadRect (harg.unread x)) r d).trans ((Memref.IsWhole.readAt_unread harg x _ _).trans ?_)
  show _ = G p _
  rw [hG]
  exact congrArg x ((colBox_idx ⟨j, hj8⟩ r d).trans (eq_ix3_of_val _ _ _ _ rfl (by show r.val = 8 + r.val - 8; omega) rfl))

/-- The scratch after the stores, in its last eight rows. -/
theorem read_scratch (v : View sig .tc .vmem S3x8x72x128 .f32) (f : v.ty.Contents (Elt F))
    (arg2 : Memref sig .tc .vmem S1x64x1024 .f32) (harg2 : arg2.IsWhole)
    (arg3 : Memref sig .tc .vmem S1x64x1024 .f32) (harg3 : arg3.IsWhole)
    (arg4 : Memref sig .tc .vmem S1x64x1024 .f32) (harg4 : arg4.IsWhole) (x0 x1 x2 : Vec F S1x64x1024 .f32)
    (p : Fin 3) (j : Fin 8) (r : Fin 8) (d : Fin 128) :
    v.read (Elt F) (v.writes (Elt F) f (staged 0 arg2 harg2 x0 ++ staged 1 arg3 harg3 x1 ++ staged 2 arg4 harg4 x2).reverse)
        (ix4 p j ⟨64 + r.val, by omega⟩ d)
      = source x0 x1 x2 p.val (ix3 0 ⟨56 + r.val, by omega⟩ ⟨128 * j.val + d.val, by omega⟩) := by
  refine (View.read_writes_apply_of_pieces v f (scratchAt (source x0 x1 x2)) _ ?_ (ix4 p j ⟨64 + r.val, by omega⟩ d) ?_).trans ?_
  · intro q hq y
    rcases List.mem_append.1 (List.mem_reverse.1 hq) with hq | hq
    · rcases List.mem_append.1 hq with hq | hq
      · exact staged_ok 0 (by decide) arg2 harg2 x0 _ rfl q hq y
      · exact staged_ok 1 (by decide) arg3 harg3 x1 _ rfl q hq y
    · exact staged_ok 2 (by decide) arg4 harg4 x2 _ rfl q hq y
  · have hj := j.isLt
    have hd := d.isLt
    have hr := r.isLt
    have hm : (ix4 p j ⟨64 + r.val, by omega⟩ d : S3x8x72x128.Idx) ∈ (stagedBox p.val j.val).set := by
      rw [Rect.mem_set_unit]
      have hp := p.isLt
      intro a
      fin_cases a <;> simp [Shape.size] <;> omega
    rcases (by omega : p.val = 0 ∨ p.val = 1 ∨ p.val = 2) with hp | hp | hp <;> rw [hp] at hm
    · exact ⟨_, List.mem_reverse.2 (List.mem_append_left _ (List.mem_append_left _ (List.mem_map.2 ⟨j.val, List.mem_range.2 hj, rfl⟩))), hm⟩
    · exact ⟨_, List.mem_reverse.2 (List.mem_append_left _ (List.mem_append_right _ (List.mem_map.2 ⟨j.val, List.mem_range.2 hj, rfl⟩))), hm⟩
    · exact ⟨_, List.mem_reverse.2 (List.mem_append_right _ (List.mem_map.2 ⟨j.val, List.mem_range.2 hj, rfl⟩)), hm⟩
  · exact congrArg (source x0 x1 x2 p.val) (eq_ix3_of_val _ _ _ _ rfl (by show 64 + r.val - 8 = 56 + r.val; omega) rfl)

/-- The element that belongs at an index of the tail block. -/
def tailAt (G : ℕ → Vec F S1x64x1024 .f32) (y : S1x1x8x3072.Idx) : Elt F .f32 :=
  G ((y 3).val / 1024) (ix3 0 ⟨56 + (y 2).val, by have h : (y 2).val < 8 := (y 2).isLt; omega⟩
    ⟨(y 3).val % 1024, Nat.mod_lt _ (by decide)⟩)

/-- The tail block after the stores. -/
theorem read_tail (v : View sig .tc .vmem S1x1x8x3072 .f32) (f : v.ty.Contents (Elt F))
    (arg18 : Memref sig .tc .vmem S3x8x72x128 .f32)
    (arg2 : Memref sig .tc .vmem S1x64x1024 .f32) (harg2 : arg2.IsWhole)
    (arg3 : Memref sig .tc .vmem S1x64x1024 .f32) (harg3 : arg3.IsWhole)
    (arg4 : Memref sig .tc .vmem S1x64x1024 .f32) (harg4 : arg4.IsWhole) (x0 x1 x2 : Vec F S1x64x1024 .f32)
    (E : List (View.Piece (Elt F) S3x8x72x128 .f32)) (r : Fin 8) (l : Fin 3072) :
    v.read (Elt F) (v.writes (Elt F) f (tailPieces arg18
        ((staged 0 arg2 harg2 x0 ++ staged 1 arg3 harg3 x1 ++ staged 2 arg4 harg4 x2).reverse ++ E))) (ix4 0 0 r l)
      = source x0 x1 x2 (l.val / 1024) (ix3 0 ⟨56 + r.val, by omega⟩ ⟨l.val % 1024, Nat.mod_lt _ (by decide)⟩) := by
  refine View.read_writes_apply_of_pieces v f (tailAt (source x0 x1 x2)) _ ?_ (ix4 0 0 r l) ?_
  · intro q hq y
    obtain ⟨n, hn, rfl⟩ := List.mem_map.1 (List.mem_reverse.1 hq)
    have hn24 : n < 24 := List.mem_range.1 hn
    obtain ⟨s, d, rfl⟩ : ∃ (s : Fin 8) (d : Fin 128), y = ix4 0 0 s d :=
      ⟨y 2, y 3, (eq_ix4 (show S1x1x8x128.Idx from y)).trans (by congr 1 <;> exact Subsingleton.elim _ _)⟩
    have hd := d.isLt
    have hemb : (tailBox n).emb (ix4 0 0 s d) = ix4 0 0 s ⟨128 * n + d.val, by omega⟩ := by
      refine eq_ix4_of_val _ _ _ _ _ rfl rfl ?_ ?_
      · rw [Rect.emb_apply]; show 0 + 1 * s.val = s.val; omega
      · rw [Rect.emb_apply]; show 128 * (n % 24) + 1 * d.val = 128 * n + d.val; omega
    show _ = tailAt (source x0 x1 x2) ((tailBox n).emb (ix4 0 0 s d))
    rw [hemb]
    refine (tile_out (arg18.view.readCov (Val := Elt F)
      ((staged 0 arg2 harg2 x0 ++ staged 1 arg3 harg3 x1 ++ staged 2 arg4 harg4 x2).reverse ++ E) (lastBox n).toLoadRect) s d).trans ?_
    show arg18.view.read (Elt F) (arg18.view.writes (Elt F) arg18.view.junk _) ((lastBox n).toLoadRect.idx (ix4 0 0 s d)) = _
    rw [View.writes_append]
    refine (congrArg (arg18.view.read (Elt F) _) (lastBox_idx ⟨n, hn24⟩ s d)).trans ((read_scratch arg18.view _ arg2 harg2 arg3 harg3 arg4 harg4 x0 x1 x2 _ _ s d).trans ?_)
    show source x0 x1 x2 (n / 8) _ = source x0 x1 x2 ((128 * n + d.val) / 1024) _
    rw [(by omega : (128 * n + d.val) / 1024 = n / 8)]
    exact congrArg (source x0 x1 x2 (n / 8)) (eq_ix3_of_val _ _ _ _ rfl rfl (by show 128 * (n % 8) + d.val = (128 * n + d.val) % 1024; omega))
  · have hl := l.isLt
    have hr := r.isLt
    refine ⟨_, List.mem_reverse.2 (List.mem_map.2 ⟨l.val / 128, List.mem_range.2 (by omega), rfl⟩), ?_⟩
    rw [Rect.mem_set_unit]
    intro a
    fin_cases a <;> simp [Shape.size] <;> omega

end Cert.Proof.DeltaSample

end
-- ==== Proof.DeltaSample.Final.lean ====
/-
  The sample's tail array of the delta call: the second layer holds the last eight rows of the projection's query, key and
  value columns, written by each batch's point; the first layer is the one passed in.
-/
module

public import proofs.«01_k».proof.Proof.DeltaSample.Tail
public import proofs.«01_k».proof.Proof.Gen.Reference8Ideal.Read

@[expose] public section

set_option maxRecDepth 16384

noncomputable section

namespace Cert.Proof.DeltaSample

open Cert.Proof.Common Cert.Kernel8Ideal Cert.Kernel8Ideal.Gen Idealize.ShloMosaic Idealize.ShloMosaic.TcCoe Idealize.SL.Sem
open Idealize.ShloMosaic.Pipeline (Dat)

section
variable (p : (⟨Cert.Reference8Ideal.S8x64x18432, .f32⟩ : BufTy).Contents (Elt Ideal))
  (C : (⟨Cert.Reference8Ideal.S2x8x3x3072, .f32⟩ : BufTy).Contents (Elt Ideal))
  (P : (⟨Cert.Reference8Ideal.S2x8x8x3072, .f32⟩ : BufTy).Contents (Elt Ideal)) (b : Fin 8) (r : Fin 8) (l : Fin 3072)

open Cert.Reference8Ideal.Read

/-- The reference's stacked tails: the first layer's is the one passed in, the second layer's the last eight rows. -/
theorem tails_zero : val_main_v9 p C P (ix4 0 b r l) = P (ix4 0 b r l) := by
  pointwise [val_main_v9, val_main_v8, val_main_v7, val_main_v5, val_main_v4]

theorem tails_one : val_main_v9 p C P (ix4 1 b r l) = p (ix3 b ⟨56 + r.val, by omega⟩ ⟨4096 + l.val, by omega⟩) := by
  pointwise [val_main_v9, val_main_v8, val_main_v7, val_main_v6, val_main_v3, val_main_v2, val_main_v1, val_main_v0]
  rw [dif_neg (by omega)]
  exact congrArg p (eq_ix3_of_val _ _ _ _ rfl (by show 59 + r.val - 3 = 56 + r.val; omega) rfl)

end

/-- A point's batch. -/
def bat (t : Fin cfg0.N) : Fin 8 := ⟨t.val, t.isLt.trans_eq N_0⟩

/-- The block indices of the query, key and value columns, and of the tails. -/
theorem idx : ∀ t : Fin cfg0.N,
    (win0_0.index t 0 = t.val ∧ win0_0.index t 1 = 0 ∧ win0_0.index t 2 = 4)
    ∧ (win0_1.index t 0 = t.val ∧ win0_1.index t 1 = 0 ∧ win0_1.index t 2 = 5)
    ∧ (win0_2.index t 0 = t.val ∧ win0_2.index t 1 = 0 ∧ win0_2.index t 2 = 6) :=
  (by decide +kernel : ∀ t : Fin grid0.N, _)

theorem tail_idx : ∀ t : Fin cfg0.N,
    win0_13.index t 0 = 1 ∧ win0_13.index t 1 = t.val ∧ win0_13.index t 2 = 0 ∧ win0_13.index t 3 = 0 :=
  (by decide +kernel : ∀ t : Fin grid0.N, _)

variable (m : (ℓ : Loc nD τ sig) → Buf (Elt Ideal) ℓ) (c : Dev nD)

/-- Reading a window's array through its block: the element of the array at the block's place. -/
theorem iblk_apply (w : Fin cfg0.W) (t : Fin cfg0.N) (y) :
    iblk m c w t y = cast (congrArg (Elt Ideal) ((cfg0.win w).blk t).view.elt_eq)
      (V m c (Pipeline.arrRef spec0 w) (((cfg0.win w).blk t).view.emb y)) := by
  unfold iblk; rw [View.read_apply]

/-- Where an element of a window's block lies in its array, from the block's index. -/
theorem emb_row (w : Pipeline.Window sig grid0) (t : Fin grid0.N) (y : (w.xblock (grid0.coords t)).Idx)
    (a : Fin w.shape.rank) (n s : ℕ) (hk : w.kind = .blocked) (hn : w.index t a = n) (hs : w.size a = s) :
    ((w.rect t).emb y a : Nat) = n * s + y a := by
  rw [w.rect_emb_val t y a hk, hn, hs]

theorem seq_q (t : Fin cfg0.N) (r : Fin 64) (l : Fin 1024) :
    iblk m c 0 t (ix3 0 r l) = m ((c : Thread nD τ).loc main_arg0) (ix3 (bat t) r ⟨4096 + l.val, by omega⟩) := by
  obtain ⟨i0, -, -⟩ := idx t
  rw [iblk_apply, cast_eq, ← V_main_arg0 m c]
  exact congrArg (V m c main_arg0) (eq_ix3_of_val _ _ _ _ ((emb_row win0_0 t _ 0 _ _ rfl i0.1 rfl).trans (by simp [bat]))
    ((emb_row win0_0 t _ 1 _ _ rfl i0.2.1 rfl).trans (by simp)) ((emb_row win0_0 t _ 2 _ _ rfl i0.2.2 rfl).trans (by simp)))

theorem seq_k (t : Fin cfg0.N) (r : Fin 64) (l : Fin 1024) :
    iblk m c 1 t (ix3 0 r l) = m ((c : Thread nD τ).loc main_arg0) (ix3 (bat t) r ⟨5120 + l.val, by omega⟩) := by
  obtain ⟨-, i1, -⟩ := idx t
  rw [iblk_apply, cast_eq, ← V_main_arg0 m c]
  exact congrArg (V m c main_arg0) (eq_ix3_of_val _ _ _ _ ((emb_row win0_1 t _ 0 _ _ rfl i1.1 rfl).trans (by simp [bat]))
    ((emb_row win0_1 t _ 1 _ _ rfl i1.2.1 rfl).trans (by simp)) ((emb_row win0_1 t _ 2 _ _ rfl i1.2.2 rfl).trans (by simp)))

theorem seq_v (t : Fin cfg0.N) (r : Fin 64) (l : Fin 1024) :
    iblk m c 2 t (ix3 0 r l) = m ((c : Thread nD τ).loc main_arg0) (ix3 (bat t) r ⟨6144 + l.val, by omega⟩) := by
  obtain ⟨-, -, i2⟩ := idx t
  rw [iblk_apply, cast_eq, ← V_main_arg0 m c]
  exact congrArg (V m c main_arg0) (eq_ix3_of_val _ _ _ _ ((emb_row win0_2 t _ 0 _ _ rfl i2.1 rfl).trans (by simp [bat]))
    ((emb_row win0_2 t _ 1 _ _ rfl i2.2.1 rfl).trans (by simp)) ((emb_row win0_2 t _ 2 _ _ rfl i2.2.2 rfl).trans (by simp)))

/-- The three staged blocks side by side are the projection's columns from 4096. -/
theorem source_eq (t : Fin cfg0.N) (r : Fin 64) (l : Fin 3072) :
    source (iblk m c 0 t) (iblk m c 1 t) (iblk m c 2 t) (l.val / 1024) (ix3 0 r ⟨l.val % 1024, Nat.mod_lt _ (by decide)⟩)
      = m ((c : Thread nD τ).loc main_arg0) (ix3 (bat t) r ⟨4096 + l.val, by omega⟩) := by
  have hl := l.isLt
  unfold source
  rcases (by omega : l.val / 1024 = 0 ∨ l.val / 1024 = 1 ∨ l.val / 1024 = 2) with h | h | h
  · rw [if_pos h]
    exact (seq_q m c t r _).trans (congrArg _ (eq_ix3_of_val _ _ _ _ rfl rfl (by show 4096 + l.val % 1024 = 4096 + l.val; omega)))
  · rw [if_neg (by omega), if_pos h]
    exact (seq_k m c t r _).trans (congrArg _ (eq_ix3_of_val _ _ _ _ rfl rfl (by show 5120 + l.val % 1024 = 4096 + l.val; omega)))
  · rw [if_neg (by omega), if_neg (by omega)]
    exact (seq_v m c t r _).trans (congrArg _ (eq_ix3_of_val _ _ _ _ rfl rfl (by show 6144 + l.val % 1024 = 4096 + l.val; omega)))

/-- The reference's result of the kernel's arguments. -/
def tailsOut : Vec Ideal S2x8x8x3072 .f32 :=
  Cert.Reference8Ideal.Read.val_main_v9 (m ((c : Thread nD τ).loc main_arg0)) (m ((c : Thread nD τ).loc main_arg6)) (m ((c : Thread nD τ).loc main_arg9))

/-- What a point leaves in its tail block. -/
theorem tail_block (t : Fin cfg0.N) (r : Fin 8) (l : Fin 3072) :
    (outsAt0 m c t).2.2 (ix4 0 0 r l)
      = m ((c : Thread nD τ).loc main_arg0) (ix3 (bat t) ⟨56 + r.val, by omega⟩ ⟨4096 + l.val, by omega⟩) := by
  unfold outsAt0
  dsimp only
  unfold out0_A_13
  rw [tail_A]
  exact (read_tail _ _ _ _ _ _ _ _ _ _ _ _ _ r l).trans (source_eq m c t _ l)

theorem tails_entry : (V m c (Pipeline.arrRef spec0 13) : FVec Ideal S2x8x8x3072 .f32) = m ((c : Thread nD τ).loc main_arg9) := by
  show StableHlo.after (List.flatten [hostOps0, hostOps0_1, hostOps0_2]) _ (Proc.devRef .tc main_v16_2) = _
  simp only [hostOps0, hostOps0_1, hostOps0_2, List.flatten_cons, List.flatten_nil, List.append_nil, List.cons_append, List.nil_append]
  after_results; rfl

/-- Where the tail block lies in its array. -/
theorem tail_place (t : Fin cfg0.N) (r : Fin 8) (l : Fin 3072) :
    ((cfg0.win 13).blk t).view.emb (ix4 0 0 r l) = ix4 1 (bat t) r l := by
  have iw := tail_idx t
  exact eq_ix4_of_val _ _ _ _ _ ((emb_row win0_13 t _ 0 _ _ rfl iw.1 rfl).trans (by simp))
    ((emb_row win0_13 t _ 1 _ _ rfl iw.2.1 rfl).trans (by simp [bat])) ((emb_row win0_13 t _ 2 _ _ rfl iw.2.2.1 rfl).trans (by simp))
    ((emb_row win0_13 t _ 3 _ _ rfl iw.2.2.2 rfl).trans (by simp))

theorem tails_flushed (t : Fin cfg0.N) :
    (dats m 0 c).flushed 13 t = ((cfg0.win 13).blk t).view.read (Elt Ideal) (tailsOut m c) := by
  rw [Cert.Kernel8Ideal.Value.flushed13]
  funext y
  obtain ⟨r, l, rfl⟩ : ∃ (r : Fin 8) (l : Fin 3072), y = ix4 0 0 r l :=
    ⟨y 2, y 3, (eq_ix4 (show S1x1x8x3072.Idx from y)).trans (by congr 1 <;> exact Subsingleton.elim _ _)⟩
  show (outsAt0 m c t).2.2 (ix4 0 0 r l) = _
  rw [tail_block m c t, View.read_apply, cast_eq]
  refine (tails_one (m ((c : Thread nD τ).loc main_arg0)) (m ((c : Thread nD τ).loc main_arg6)) (m ((c : Thread nD τ).loc main_arg9)) (bat t) r l).symm.trans ?_
  exact congrArg (tailsOut m c) (tail_place t r l).symm

/-- The blocks written back tile the second layer and leave the first as it was passed in. -/
theorem tails_final : (dats m 0 c).arrAt 13 cfg0.N = tailsOut m c := by
  funext i
  rw [(dats m 0 c).arrAt_eq_piecewise 13 (tailsOut m c) (fun t _ => tails_flushed m c t) i]
  split
  · rfl
  · rename_i hi
    rw [A_eq]
    obtain ⟨n, b, r, l, rfl⟩ : ∃ (n : Fin 2) (b : Fin 8) (r : Fin 8) (l : Fin 3072), i = ix4 n b r l :=
      ⟨i 0, i 1, i 2, i 3, eq_ix4 (show S2x8x8x3072.Idx from i)⟩
    rcases (by omega : n.val = 0 ∨ n.val = 1) with hn | hn
    · obtain rfl : n = 0 := Fin.ext hn
      exact (congrFun (tails_entry m c) _).trans (tails_zero _ _ _ b r l).symm
    · obtain rfl : n = 1 := Fin.ext hn
      have ht : b.val < cfg0.N := b.isLt.trans_eq N_0.symm
      refine absurd ⟨⟨b.val, ht⟩, flush0_13 _, ?_⟩ hi
      have h' := View.emb_mem_set ((cfg0.win 13).blk ⟨b.val, ht⟩).view (ix4 0 0 r l)
      rwa [tail_place] at h'

end Cert.Proof.DeltaSample

end
-- ==== Proof.DeltaSample.Claims.lean ====
/-
  The claims about the sample's delta call: its programs return with everything as they should leave it, and the tail array
  holds the reference's.
-/
module

public import proofs.«01_k».proof.Defs
public import proofs.«01_k».proof.Proof.DeltaSample.Final
public import proofs.«01_k».proof.Proof.Gen.Reference8Ideal
public import proofs.«01_k».proof.Proof.Gen.Kernel8
public import Idealize.ShloMosaic.Lib.Claim

@[expose] public section

set_option maxRecDepth 16384

noncomputable section

namespace Cert.Proof.DeltaSample

open Idealize.ShloMosaic Idealize.ShloMosaic.TcCoe Idealize.SL.Sem

/-- The kernel and its ideal reading have the same body table at words: the one label's body is the same text. -/
theorem bodies_eq : Cert.Kernel8.defs₀ (F := Bits) = Cert.Kernel8Ideal.defs₀ (F := Bits) := by
  sl_kernel_rfl

theorem defs_eq : Cert.Kernel8.defs (F := Bits) = Cert.Kernel8Ideal.defs (F := Bits) := by
  unfold Cert.Kernel8.defs
  rw [bodies_eq]
  rfl

theorem main_eq : Cert.Kernel8.main (F := Bits) = Cert.Kernel8Ideal.main (F := Bits) := by
  sl_kernel_rfl

theorem frame_kernel : Cert.quiescent_Kernel8 := by
  intro m ρ _
  rw [defs_eq, main_eq]
  exact Cert.Kernel8Ideal.Gen.frame (F := Bits) m ρ

theorem frame_kernelIdeal : Cert.quiescent_Kernel8Ideal := fun m ρ _ => Cert.Kernel8Ideal.Gen.frame (F := Ideal) m ρ

/-- The reference declares no semaphore, so its counters are zero at the end. -/
theorem frame_referenceIdeal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Both runs end with the reference's tails of the common arguments. -/
theorem algebraic : Cert.algebraic_Kernel8Ideal_Reference8Ideal := by
  intro m ρ m' ρ' _ hagree
  refine ⟨tailsOut m, ?_, ?_⟩
  · exact (θ_run Cert.Kernel8Ideal.defs _ _).mono
      (fun r h c => ⟨(h c).2.2.1.trans (tails_final m c), (h c).2.2.2⟩)
      (Cert.Kernel8Ideal.Value.run_blocks (F := Ideal) m ρ)
  · refine (θ_run Cert.Reference8Ideal.defs _ _).mono (fun r h c => ⟨(h c).1.trans ?_, (h c).2⟩)
      (Cert.Reference8Ideal.Value.run (F := Ideal) m' ρ')
    obtain ⟨a0, a1, a2, a3, a4, a5, a6, a7, a8, a9⟩ := hagree c
    rw [a0, a6, a9]
    exact (Cert.Reference8Ideal.Read.val_main_v9_eq _ _ _).symm

end Cert.Proof.DeltaSample

end
-- ==== Proof.Delta.Tail.lean ====
/-
  What a batch's last point of the prompt's delta call stores in its tail block: the last eight rows of the staged query, key and value
  columns, by way of the scratch that holds them head by head behind the eight rows that came before.
-/
module

public import proofs.«01_k».proof.Proof.Gen.Kernel9Ideal.Value
public import proofs.«01_k».proof.Proof.Common.Index
public import Idealize.ShloMosaic.Lib.Pointwise
public import Idealize.ShloMosaic.Lib.WholeRead
public import Idealize.ShloMosaic.Lib.VecWindow

@[expose] public section

set_option maxRecDepth 16384

noncomputable section

namespace Cert.Proof.Delta

open Cert.Kernel9Ideal Cert.Kernel9Ideal.Gen Cert.Proof.Common Idealize.ShloMosaic Idealize.ShloMosaic.TcCoe Idealize.SL.Sem

variable {F : FTy → Type} [FloatOps F]

theorem cols_fit (h : ℕ) : ∀ a, (![0, 0, 128 * (h % 8)] : Fin 3 → ℕ) a + S1x256x128.size a ≤ S1x256x1024.size a := by
  intro a
  have hh := Nat.mod_lt h (show 0 < 8 by decide)
  fin_cases a <;> simp [Shape.size] <;> omega

theorem tail_fits (n : ℕ) : ∀ a, (![0, 0, 0, 128 * (n % 24)] : Fin 4 → ℕ) a + S1x1x8x128.size a ≤ S1x1x8x3072.size a := by
  intro a
  have hn := Nat.mod_lt n (show 0 < 24 by decide)
  fin_cases a <;> simp [Shape.size] <;> omega

theorem last_fits (n : ℕ) : ∀ a, (![n / 8 % 3, n % 8, 256, 0] : Fin 4 → ℕ) a + S1x1x8x128.size a ≤ S3x8x264x128.size a := by
  intro a
  have hp := Nat.mod_lt (n / 8) (show 0 < 3 by decide)
  have hn := Nat.mod_lt n (show 0 < 8 by decide)
  fin_cases a <;> simp [Shape.size] <;> omega

theorem staged_fits (p j : ℕ) : ∀ a, (![p % 3, j % 8, 8, 0] : Fin 4 → ℕ) a + S1x1x256x128.size a ≤ S3x8x264x128.size a := by
  intro a
  have hp := Nat.mod_lt p (show 0 < 3 by decide)
  have hj := Nat.mod_lt j (show 0 < 8 by decide)
  fin_cases a <;> simp [Shape.size] <;> omega

/-- Head `h`'s columns in a staged block. -/
abbrev colBox (h : ℕ) : Rect S1x256x1024 := Rect.unit ![0, 0, 128 * (h % 8)] S1x256x128.size (cols_fit h)

/-- The 24 groups of 128 columns of the tail block. -/
abbrev tailBox (n : ℕ) : Rect S1x1x8x3072 := Rect.unit ![0, 0, 0, 128 * (n % 24)] S1x1x8x128.size (tail_fits n)

/-- The scratch's last eight rows of a group, and the 256 rows behind its first eight. -/
abbrev lastBox (n : ℕ) : Rect S3x8x264x128 := Rect.unit ![n / 8 % 3, n % 8, 256, 0] S1x1x8x128.size (last_fits n)
abbrev stagedBox (p j : ℕ) : Rect S3x8x264x128 := Rect.unit ![p % 3, j % 8, 8, 0] S1x1x256x128.size (staged_fits p j)

/-- The stores of one staged block into the scratch, head by head. -/
def staged (p : ℕ) (arg : Memref sig .tc .vmem S1x256x1024 .f32) (harg : arg.IsWhole) (x : Vec F S1x256x1024 .f32) :
    List (View.Piece (Elt F) S3x8x264x128 .f32) :=
  (List.range 8).map fun j => ⟨stagedBox p j, shapeCast S1x1x256x128
    (shapeCast S256x128 (View.readAt (Elt F) arg.view (colBox j).toLoadRect (harg.unread x)) shapeCasts_S1x256x128_S256x128)
    shapeCasts_S256x128_S1x1x256x128⟩

/-- The store that moves the scratch's last eight rows to its front. -/
def moved (arg : Memref sig .tc .vmem S3x8x264x128 .f32) (harg : arg.IsWhole) (x : Vec F S3x8x264x128 .f32) :
    View.Piece (Elt F) S3x8x264x128 .f32 :=
  ⟨Rect.unit (s := S3x8x264x128) ![0, 0, 0, 0] S3x8x8x128.size inb_S3x8x264x128_S3x8x8x128_0_0_0_0, shapeCast S3x8x8x128
    (View.readAt (Elt F) arg.view (Rect.unit (s := S3x8x264x128) ![0, 0, 256, 0] S3x8x8x128.size inb_S3x8x264x128_S3x8x8x128_0_0_256_0).toLoadRect (harg.unread x))
    shapeCasts_S3x8x8x128_S3x8x8x128⟩

/-- The stores into the tail block, last first, from a scratch with the stores `L` in it. -/
def tailPieces (arg16 : Memref sig .tc .vmem S3x8x264x128 .f32) (L : List (View.Piece (Elt F) S3x8x264x128 .f32)) :
    List (View.Piece (Elt F) S1x1x8x3072 .f32) :=
  ((List.range 24).map fun n => ⟨tailBox n, shapeCast S1x1x8x128
    (shapeCast S8x128 (arg16.view.readCov (Val := Elt F) L (lastBox n).toLoadRect) shapeCasts_S1x1x8x128_S8x128)
    shapeCasts_S8x128_S1x1x8x128⟩).reverse

section Run
variable (c : Dev nD) (i : grid0.Coords)
  (arg2 : Memref sig .tc .vmem S1x256x1024 .f32) (harg2 : arg2.IsWhole)
  (arg3 : Memref sig .tc .vmem S1x256x1024 .f32) (harg3 : arg3.IsWhole)
  (arg4 : Memref sig .tc .vmem S1x256x1024 .f32) (harg4 : arg4.IsWhole)
  (arg5 : Memref sig .tc .vmem S1x256x1024 .f32) (harg5 : arg5.IsWhole)
  (arg6 : Memref sig .tc .vmem S1x256x128 .f32) (harg6 : arg6.IsWhole)
  (arg7 : Memref sig .tc .vmem S4x3072 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg13 : Memref sig .tc .vmem S1x256x1024 .bf16) (harg13 : arg13.IsWhole)
  (arg14 : Memref sig .tc .vmem S1x1x8x128x128 .f32) (harg14 : arg14.IsWhole)
  (arg15 : Memref sig .tc .vmem S1x1x8x3072 .f32) (harg15 : arg15.IsWhole)
  (arg16 : Memref sig .tc .vmem S3x8x264x128 .f32) (harg16 : arg16.IsWhole)
  (arg17 : Memref sig .tc .vmem S8x128x128 .f32) (harg17 : arg17.IsWhole)
  (hc0 : ¬cond0_0 i) (hc1 : cond0_1 i) (hc2 : cond0_2 i)
  (x0 x1 x2 x3 : Vec F S1x256x1024 .f32) (x4 : Vec F S1x256x128 .f32) (x5 : Vec F S4x3072 .f32) (x6 x7 x8 : Vec F S1x128 .f32)
  (xs0 : Vec F S3x8x264x128 .f32) (xs1 : Vec F S8x128x128 .f32)

/-- A batch's last point stores this tail. -/
theorem tail_C :
    (kernelRun0_C c i arg2 harg2 arg3 harg3 arg4 harg4 arg5 harg5 arg6 harg6 arg7 harg7 arg8 harg8 arg9 harg9 arg10 harg10 arg13 harg13 arg14 harg14 arg15 harg15 arg16 harg16 arg17 harg17 hc0 hc1 hc2 x0 x1 x2 x3 x4 x5 x6 x7 x8 xs0 xs1).2.2.1
      = tailPieces arg16 ((staged 0 arg2 harg2 x0 ++ staged 1 arg3 harg3 x1 ++ staged 2 arg4 harg4 x2).reverse ++ [moved arg16 harg16 xs0]) := by
  sl_kernel_rfl

end Run

theorem colBox_idx (h : Fin 8) (r : Fin 256) (d : Fin 128) :
    (colBox h).toLoadRect.idx (ix3 0 r d) = ix3 0 r ⟨128 * h.val + d.val, by omega⟩ := by
  have hh := h.isLt
  refine eq_ix3_of_val _ _ _ _ rfl ?_ ?_
  · show 0 + 1 * r.val = r.val; omega
  · show 128 * (h.val % 8) + 1 * d.val = 128 * h.val + d.val; omega

theorem lastBox_idx (n : Fin 24) (r : Fin 8) (d : Fin 128) :
    (lastBox n).toLoadRect.idx (ix4 0 0 r d) = ix4 ⟨n.val / 8, by omega⟩ ⟨n.val % 8, by omega⟩ ⟨256 + r.val, by omega⟩ d := by
  have hn := n.isLt
  refine eq_ix4_of_val _ _ _ _ _ ?_ ?_ ?_ ?_
  · show n.val / 8 % 3 + 1 * 0 = n.val / 8; omega
  · show n.val % 8 + 1 * 0 = n.val % 8; omega
  · show 256 + 1 * r.val = 256 + r.val; omega
  · show 0 + 1 * d.val = d.val; omega

/-- A head's columns as a tile of the scratch, and a tile of the scratch as columns of the tail. -/
theorem tile_in (X : FVec F S1x256x128 .f32) (r : Fin 256) (d : Fin 128) :
    (shapeCast S1x1x256x128 (shapeCast S256x128 X shapeCasts_S1x256x128_S256x128) shapeCasts_S256x128_S1x1x256x128 :
      FVec F S1x1x256x128 .f32) (ix4 0 0 r d) = X (ix3 0 r d) := by
  pointwise []

theorem tile_out (X : FVec F S1x1x8x128 .f32) (r : Fin 8) (d : Fin 128) :
    (shapeCast S1x1x8x128 (shapeCast S8x128 X shapeCasts_S1x1x8x128_S8x128) shapeCasts_S8x128_S1x1x8x128 :
      FVec F S1x1x8x128 .f32) (ix4 0 0 r d) = X (ix4 0 0 r d) := by
  pointwise []

/-- The three staged blocks by number. -/
def source (x0 x1 x2 : Vec F S1x256x1024 .f32) (p : ℕ) : Vec F S1x256x1024 .f32 :=
  if p = 0 then x0 else if p = 1 then x1 else x2

/-- The element that belongs at an index of the scratch, behind its first eight rows. -/
def scratchAt (G : ℕ → Vec F S1x256x1024 .f32) (y : S3x8x264x128.Idx) : Elt F .f32 :=
  G (y 0).val (ix3 0 ⟨(y 2).val - 8, by have h : (y 2).val < 264 := (y 2).isLt; omega⟩
    ⟨128 * (y 1).val + (y 3).val, by
      have h1 : (y 1).val < 8 := (y 1).isLt
      have h3 : (y 3).val < 128 := (y 3).isLt
      omega⟩)

/-- Each store of a staged block puts there what belongs there. -/
theorem staged_ok (p : ℕ) (hp : p < 3) (arg : Memref sig .tc .vmem S1x256x1024 .f32) (harg : arg.IsWhole) (x : Vec F S1x256x1024 .f32)
    (G : ℕ → Vec F S1x256x1024 .f32) (hG : G p = x) (q : View.Piece (Elt F) S3x8x264x128 .f32) (hq : q ∈ staged p arg harg x)
    (y : q.1.shape.Idx) : q.2 y = scratchAt G (q.1.emb y) := by
  obtain ⟨j, hj, rfl⟩ := List.mem_map.1 hq
  have hj8 : j < 8 := List.mem_range.1 hj
  obtain ⟨r, d, rfl⟩ : ∃ (r : Fin 256) (d : Fin 128), y = ix4 0 0 r d :=
    ⟨y 2, y 3, (eq_ix4 (show S1x1x256x128.Idx from y)).trans (by congr 1 <;> exact Subsingleton.elim _ _)⟩
  have hemb : (stagedBox p j).emb (ix4 0 0 r d) = ix4 ⟨p, hp⟩ ⟨j, hj8⟩ ⟨8 + r.val, by omega⟩ d := by
    refine eq_ix4_of_val _ _ _ _ _ ?_ ?_ ?_ ?_
    · rw [Rect.emb_apply]; show p % 3 + 1 * 0 = p; omega
    · rw [Rect.emb_apply]; show j % 8 + 1 * 0 = j; omega
    · rw [Rect.emb_apply]; show 8 + 1 * r.val = 8 + r.val; omega
    · rw [Rect.emb_apply]; show 0 + 1 * d.val = d.val; omega
  show _ = scratchAt G ((stagedBox p j).emb (ix4 0 0 r d))
  rw [hemb]
  refine (tile_in (View.readAt (Elt F) arg.view (colBox j).toLoadRect (harg.unread x)) r d).trans ((Memref.IsWhole.readAt_unread harg x _ _).trans ?_)
  show _ = G p _
  rw [hG]
  exact congrArg x ((colBox_idx ⟨j, hj8⟩ r d).trans (eq_ix3_of_val _ _ _ _ rfl (by show r.val = 8 + r.val - 8; omega) rfl))

/-- The scratch after the stores, in its last eight rows. -/
theorem read_scratch (v : View sig .tc .vmem S3x8x264x128 .f32) (f : v.ty.Contents (Elt F))
    (arg2 : Memref sig .tc .vmem S1x256x1024 .f32) (harg2 : arg2.IsWhole)
    (arg3 : Memref sig .tc .vmem S1x256x1024 .f32) (harg3 : arg3.IsWhole)
    (arg4 : Memref sig .tc .vmem S1x256x1024 .f32) (harg4 : arg4.IsWhole) (x0 x1 x2 : Vec F S1x256x1024 .f32)
    (p : Fin 3) (j : Fin 8) (r : Fin 8) (d : Fin 128) :
    v.read (Elt F) (v.writes (Elt F) f (staged 0 arg2 harg2 x0 ++ staged 1 arg3 harg3 x1 ++ staged 2 arg4 harg4 x2).reverse)
        (ix4 p j ⟨256 + r.val, by omega⟩ d)
      = source x0 x1 x2 p.val (ix3 0 ⟨248 + r.val, by omega⟩ ⟨128 * j.val + d.val, by omega⟩) := by
  refine (View.read_writes_apply_of_pieces v f (scratchAt (source x0 x1 x2)) _ ?_ (ix4 p j ⟨256 + r.val, by omega⟩ d) ?_).trans ?_
  · intro q hq y
    rcases List.mem_append.1 (List.mem_reverse.1 hq) with hq | hq
    · rcases List.mem_append.1 hq with hq | hq
      · exact staged_ok 0 (by decide) arg2 harg2 x0 _ rfl q hq y
      · exact staged_ok 1 (by decide) arg3 harg3 x1 _ rfl q hq y
    · exact staged_ok 2 (by decide) arg4 harg4 x2 _ rfl q hq y
  · have hj := j.isLt
    have hd := d.isLt
    have hr := r.isLt
    have hm : (ix4 p j ⟨256 + r.val, by omega⟩ d : S3x8x264x128.Idx) ∈ (stagedBox p.val j.val).set := by
      rw [Rect.mem_set_unit]
      have hp := p.isLt
      intro a
      fin_cases a <;> simp [Shape.size] <;> omega
    rcases (by omega : p.val = 0 ∨ p.val = 1 ∨ p.val = 2) with hp | hp | hp <;> rw [hp] at hm
    · exact ⟨_, List.mem_reverse.2 (List.mem_append_left _ (List.mem_append_left _ (List.mem_map.2 ⟨j.val, List.mem_range.2 hj, rfl⟩))), hm⟩
    · exact ⟨_, List.mem_reverse.2 (List.mem_append_left _ (List.mem_append_right _ (List.mem_map.2 ⟨j.val, List.mem_range.2 hj, rfl⟩))), hm⟩
    · exact ⟨_, List.mem_reverse.2 (List.mem_append_right _ (List.mem_map.2 ⟨j.val, List.mem_range.2 hj, rfl⟩)), hm⟩
  · exact congrArg (source x0 x1 x2 p.val) (eq_ix3_of_val _ _ _ _ rfl (by show 256 + r.val - 8 = 248 + r.val; omega) rfl)

/-- The element that belongs at an index of the tail block. -/
def tailAt (G : ℕ → Vec F S1x256x1024 .f32) (y : S1x1x8x3072.Idx) : Elt F .f32 :=
  G ((y 3).val / 1024) (ix3 0 ⟨248 + (y 2).val, by have h : (y 2).val < 8 := (y 2).isLt; omega⟩
    ⟨(y 3).val % 1024, Nat.mod_lt _ (by decide)⟩)

/-- The tail block after the stores. -/
theorem read_tail (v : View sig .tc .vmem S1x1x8x3072 .f32) (f : v.ty.Contents (Elt F))
    (arg16 : Memref sig .tc .vmem S3x8x264x128 .f32)
    (arg2 : Memref sig .tc .vmem S1x256x1024 .f32) (harg2 : arg2.IsWhole)
    (arg3 : Memref sig .tc .vmem S1x256x1024 .f32) (harg3 : arg3.IsWhole)
    (arg4 : Memref sig .tc .vmem S1x256x1024 .f32) (harg4 : arg4.IsWhole) (x0 x1 x2 : Vec F S1x256x1024 .f32)
    (E : List (View.Piece (Elt F) S3x8x264x128 .f32)) (r : Fin 8) (l : Fin 3072) :
    v.read (Elt F) (v.writes (Elt F) f (tailPieces arg16
        ((staged 0 arg2 harg2 x0 ++ staged 1 arg3 harg3 x1 ++ staged 2 arg4 harg4 x2).reverse ++ E))) (ix4 0 0 r l)
      = source x0 x1 x2 (l.val / 1024) (ix3 0 ⟨248 + r.val, by omega⟩ ⟨l.val % 1024, Nat.mod_lt _ (by decide)⟩) := by
  refine View.read_writes_apply_of_pieces v f (tailAt (source x0 x1 x2)) _ ?_ (ix4 0 0 r l) ?_
  · intro q hq y
    obtain ⟨n, hn, rfl⟩ := List.mem_map.1 (List.mem_reverse.1 hq)
    have hn24 : n < 24 := List.mem_range.1 hn
    obtain ⟨s, d, rfl⟩ : ∃ (s : Fin 8) (d : Fin 128), y = ix4 0 0 s d :=
      ⟨y 2, y 3, (eq_ix4 (show S1x1x8x128.Idx from y)).trans (by congr 1 <;> exact Subsingleton.elim _ _)⟩
    have hd := d.isLt
    have hemb : (tailBox n).emb (ix4 0 0 s d) = ix4 0 0 s ⟨128 * n + d.val, by omega⟩ := by
      refine eq_ix4_of_val _ _ _ _ _ rfl rfl ?_ ?_
      · rw [Rect.emb_apply]; show 0 + 1 * s.val = s.val; omega
      · rw [Rect.emb_apply]; show 128 * (n % 24) + 1 * d.val = 128 * n + d.val; omega
    show _ = tailAt (source x0 x1 x2) ((tailBox n).emb (ix4 0 0 s d))
    rw [hemb]
    refine (tile_out (arg16.view.readCov (Val := Elt F)
      ((staged 0 arg2 harg2 x0 ++ staged 1 arg3 harg3 x1 ++ staged 2 arg4 harg4 x2).reverse ++ E) (lastBox n).toLoadRect) s d).trans ?_
    show arg16.view.read (Elt F) (arg16.view.writes (Elt F) arg16.view.junk _) ((lastBox n).toLoadRect.idx (ix4 0 0 s d)) = _
    rw [View.writes_append]
    refine (congrArg (arg16.view.read (Elt F) _) (lastBox_idx ⟨n, hn24⟩ s d)).trans ((read_scratch arg16.view _ arg2 harg2 arg3 harg3 arg4 harg4 x0 x1 x2 _ _ s d).trans ?_)
    show source x0 x1 x2 (n / 8) _ = source x0 x1 x2 ((128 * n + d.val) / 1024) _
    rw [(by omega : (128 * n + d.val) / 1024 = n / 8)]
    exact congrArg (source x0 x1 x2 (n / 8)) (eq_ix3_of_val _ _ _ _ rfl rfl (by show 128 * (n % 8) + d.val = (128 * n + d.val) % 1024; omega))
  · have hl := l.isLt
    have hr := r.isLt
    refine ⟨_, List.mem_reverse.2 (List.mem_map.2 ⟨l.val / 128, List.mem_range.2 (by omega), rfl⟩), ?_⟩
    rw [Rect.mem_set_unit]
    intro a
    fin_cases a <;> simp [Shape.size] <;> omega

end Cert.Proof.Delta

end
-- ==== Proof.Delta.Final.lean ====
/-
  The prompt's tail array of the delta call: the second layer holds the last eight rows of the projection's query, key and
  value columns, written by each batch's last point; the first layer is the one passed in.
-/
module

public import proofs.«01_k».proof.Proof.Delta.Tail
public import proofs.«01_k».proof.Proof.Gen.Reference9Ideal.Read

@[expose] public section

set_option maxRecDepth 16384

noncomputable section

namespace Cert.Proof.Delta

open Cert.Proof.Common Cert.Kernel9Ideal Cert.Kernel9Ideal.Gen Idealize.ShloMosaic Idealize.ShloMosaic.TcCoe Idealize.SL.Sem
open Idealize.ShloMosaic.Pipeline (Dat)

section
variable (p : (⟨Cert.Reference9Ideal.S4x4096x18432, .f32⟩ : BufTy).Contents (Elt Ideal))
  (P : (⟨Cert.Reference9Ideal.S2x4x8x3072, .f32⟩ : BufTy).Contents (Elt Ideal)) (b : Fin 4) (r : Fin 8) (l : Fin 3072)

open Cert.Reference9Ideal.Read

/-- The reference's stacked tails: the first layer's is the one passed in, the second layer's the last eight rows. -/
theorem tails_zero : val_main_v8 p P (ix4 0 b r l) = P (ix4 0 b r l) := by
  pointwise [val_main_v8, val_main_v7, val_main_v6, val_main_v4, val_main_v3]

theorem tails_one : val_main_v8 p P (ix4 1 b r l) = p (ix3 b ⟨4088 + r.val, by omega⟩ ⟨4096 + l.val, by omega⟩) := by
  pointwise [val_main_v8, val_main_v7, val_main_v6, val_main_v5, val_main_v2, val_main_v1, val_main_v0]
  rw [dif_neg (by omega)]
  exact congrArg p (eq_ix3_of_val _ _ _ _ rfl (by show 4091 + r.val - 3 = 4088 + r.val; omega) rfl)

end

/-- A point's batch. -/
def bat (t : Fin cfg0.N) : Fin 4 := ⟨t.val / 16, by have h : t.val < 64 := t.isLt.trans_eq N_0; omega⟩

/-- The block indices of the query, key and value columns, and of the tails. -/
theorem idx : ∀ t : Fin cfg0.N,
    (win0_0.index t 0 = t.val / 16 ∧ win0_0.index t 1 = t.val % 16 ∧ win0_0.index t 2 = 4)
    ∧ (win0_1.index t 0 = t.val / 16 ∧ win0_1.index t 1 = t.val % 16 ∧ win0_1.index t 2 = 5)
    ∧ (win0_2.index t 0 = t.val / 16 ∧ win0_2.index t 1 = t.val % 16 ∧ win0_2.index t 2 = 6) :=
  (by decide +kernel : ∀ t : Fin grid0.N, _)

theorem tail_idx : ∀ t : Fin cfg0.N,
    win0_11.index t 0 = 1 ∧ win0_11.index t 1 = t.val / 16 ∧ win0_11.index t 2 = 0 ∧ win0_11.index t 3 = 0 :=
  (by decide +kernel : ∀ t : Fin grid0.N, _)

variable (m : (ℓ : Loc nD τ sig) → Buf (Elt Ideal) ℓ) (c : Dev nD)

/-- Reading a window's array through its block: the element of the array at the block's place. -/
theorem iblk_apply (w : Fin cfg0.W) (t : Fin cfg0.N) (y) :
    iblk m c w t y = cast (congrArg (Elt Ideal) ((cfg0.win w).blk t).view.elt_eq)
      (V m c (Pipeline.arrRef spec0 w) (((cfg0.win w).blk t).view.emb y)) := by
  unfold iblk; rw [View.read_apply]

/-- Where an element of a window's block lies in its array, from the block's index. -/
theorem emb_row (w : Pipeline.Window sig grid0) (t : Fin grid0.N) (y : (w.xblock (grid0.coords t)).Idx)
    (a : Fin w.shape.rank) (n s : ℕ) (hk : w.kind = .blocked) (hn : w.index t a = n) (hs : w.size a = s) :
    ((w.rect t).emb y a : Nat) = n * s + y a := by
  rw [w.rect_emb_val t y a hk, hn, hs]

theorem seq_q (t : Fin cfg0.N) (r : Fin 256) (l : Fin 1024) :
    iblk m c 0 t (ix3 0 r l) = m ((c : Thread nD τ).loc main_arg0) (ix3 (bat t) ⟨256 * (t.val % 16) + r.val, by omega⟩ ⟨4096 + l.val, by omega⟩) := by
  obtain ⟨i0, -, -⟩ := idx t
  rw [iblk_apply, cast_eq, ← V_main_arg0 m c]
  exact congrArg (V m c main_arg0) (eq_ix3_of_val _ _ _ _ ((emb_row win0_0 t _ 0 _ _ rfl i0.1 rfl).trans (by simp [bat]))
    ((emb_row win0_0 t _ 1 _ _ rfl i0.2.1 rfl).trans (by simp; omega)) ((emb_row win0_0 t _ 2 _ _ rfl i0.2.2 rfl).trans (by simp)))

theorem seq_k (t : Fin cfg0.N) (r : Fin 256) (l : Fin 1024) :
    iblk m c 1 t (ix3 0 r l) = m ((c : Thread nD τ).loc main_arg0) (ix3 (bat t) ⟨256 * (t.val % 16) + r.val, by omega⟩ ⟨5120 + l.val, by omega⟩) := by
  obtain ⟨-, i1, -⟩ := idx t
  rw [iblk_apply, cast_eq, ← V_main_arg0 m c]
  exact congrArg (V m c main_arg0) (eq_ix3_of_val _ _ _ _ ((emb_row win0_1 t _ 0 _ _ rfl i1.1 rfl).trans (by simp [bat]))
    ((emb_row win0_1 t _ 1 _ _ rfl i1.2.1 rfl).trans (by simp; omega)) ((emb_row win0_1 t _ 2 _ _ rfl i1.2.2 rfl).trans (by simp)))

theorem seq_v (t : Fin cfg0.N) (r : Fin 256) (l : Fin 1024) :
    iblk m c 2 t (ix3 0 r l) = m ((c : Thread nD τ).loc main_arg0) (ix3 (bat t) ⟨256 * (t.val % 16) + r.val, by omega⟩ ⟨6144 + l.val, by omega⟩) := by
  obtain ⟨-, -, i2⟩ := idx t
  rw [iblk_apply, cast_eq, ← V_main_arg0 m c]
  exact congrArg (V m c main_arg0) (eq_ix3_of_val _ _ _ _ ((emb_row win0_2 t _ 0 _ _ rfl i2.1 rfl).trans (by simp [bat]))
    ((emb_row win0_2 t _ 1 _ _ rfl i2.2.1 rfl).trans (by simp; omega)) ((emb_row win0_2 t _ 2 _ _ rfl i2.2.2 rfl).trans (by simp)))

/-- The three staged blocks side by side are the projection's columns from 4096. -/
theorem source_eq (t : Fin cfg0.N) (r : Fin 256) (l : Fin 3072) :
    source (iblk m c 0 t) (iblk m c 1 t) (iblk m c 2 t) (l.val / 1024) (ix3 0 r ⟨l.val % 1024, Nat.mod_lt _ (by decide)⟩)
      = m ((c : Thread nD τ).loc main_arg0) (ix3 (bat t) ⟨256 * (t.val % 16) + r.val, by omega⟩ ⟨4096 + l.val, by omega⟩) := by
  have hl := l.isLt
  unfold source
  rcases (by omega : l.val / 1024 = 0 ∨ l.val / 1024 = 1 ∨ l.val / 1024 = 2) with h | h | h
  · rw [if_pos h]
    exact (seq_q m c t r _).trans (congrArg _ (eq_ix3_of_val _ _ _ _ rfl rfl (by show 4096 + l.val % 1024 = 4096 + l.val; omega)))
  · rw [if_neg (by omega), if_pos h]
    exact (seq_k m c t r _).trans (congrArg _ (eq_ix3_of_val _ _ _ _ rfl rfl (by show 5120 + l.val % 1024 = 4096 + l.val; omega)))
  · rw [if_neg (by omega), if_neg (by omega)]
    exact (seq_v m c t r _).trans (congrArg _ (eq_ix3_of_val _ _ _ _ rfl rfl (by show 6144 + l.val % 1024 = 4096 + l.val; omega)))

/-- The reference's result of the kernel's arguments. -/
def tailsOut : Vec Ideal S2x4x8x3072 .f32 :=
  Cert.Reference9Ideal.Read.val_main_v8 (m ((c : Thread nD τ).loc main_arg0)) (m ((c : Thread nD τ).loc main_arg7))

/-- What a batch's last point leaves in its tail block. -/
theorem tail_block (t : Fin cfg0.N) (h2 : t.val % 16 = 15) (r : Fin 8) (l : Fin 3072) :
    (outsAt0 m c t.val t.isLt).2.2.1 (ix4 0 0 r l)
      = m ((c : Thread nD τ).loc main_arg0) (ix3 (bat t) ⟨4088 + r.val, by omega⟩ ⟨4096 + l.val, by omega⟩) := by
  have h0 : ¬t.val % 16 = 0 := by omega
  rw [outsAt0_C m c t h0 (by omega) h2]
  dsimp only
  unfold out0_C_11
  rw [tail_C]
  refine (read_tail _ _ _ _ _ _ _ _ _ _ _ _ _ r l).trans ((source_eq m c t _ l).trans ?_)
  exact congrArg (m ((c : Thread nD τ).loc main_arg0)) (eq_ix3_of_val _ _ _ _ rfl (by show 256 * (t.val % 16) + (248 + r.val) = 4088 + r.val; omega) rfl)

theorem tails_entry : (V m c (Pipeline.arrRef spec0 11) : FVec Ideal S2x4x8x3072 .f32) = m ((c : Thread nD τ).loc main_arg7) := by
  show StableHlo.after (List.flatten [hostOps0]) _ (Proc.devRef .tc main_v11_2) = _
  simp only [hostOps0, List.flatten_cons, List.flatten_nil, List.append_nil, List.cons_append, List.nil_append]
  after_results; rfl

/-- Where the tail block lies in its array. -/
theorem tail_place (t : Fin cfg0.N) (r : Fin 8) (l : Fin 3072) :
    ((cfg0.win 11).blk t).view.emb (ix4 0 0 r l) = ix4 1 (bat t) r l := by
  have iw := tail_idx t
  exact eq_ix4_of_val _ _ _ _ _ ((emb_row win0_11 t _ 0 _ _ rfl iw.1 rfl).trans (by simp))
    ((emb_row win0_11 t _ 1 _ _ rfl iw.2.1 rfl).trans (by simp [bat])) ((emb_row win0_11 t _ 2 _ _ rfl iw.2.2.1 rfl).trans (by simp))
    ((emb_row win0_11 t _ 3 _ _ rfl iw.2.2.2 rfl).trans (by simp))

theorem tails_flushed (t : Fin cfg0.N) (hf : (cfg0.win 11).flush t = true) :
    (dats m 0 c).flushed 11 t = ((cfg0.win 11).blk t).view.read (Elt Ideal) (tailsOut m c) := by
  have h2 := (flush0_11 t).1 hf
  rw [Cert.Kernel9Ideal.Value.flushed11]
  funext y
  obtain ⟨r, l, rfl⟩ : ∃ (r : Fin 8) (l : Fin 3072), y = ix4 0 0 r l :=
    ⟨y 2, y 3, (eq_ix4 (show S1x1x8x3072.Idx from y)).trans (by congr 1 <;> exact Subsingleton.elim _ _)⟩
  show (outsAt0 m c t.val t.isLt).2.2.1 (ix4 0 0 r l) = _
  rw [tail_block m c t h2, View.read_apply, cast_eq]
  refine (tails_one (m ((c : Thread nD τ).loc main_arg0)) (m ((c : Thread nD τ).loc main_arg7)) (bat t) r l).symm.trans ?_
  exact congrArg (tailsOut m c) (tail_place t r l).symm

/-- The blocks written back tile the second layer and leave the first as it was passed in. -/
theorem tails_final : (dats m 0 c).arrAt 11 cfg0.N = tailsOut m c := by
  funext i
  rw [(dats m 0 c).arrAt_eq_piecewise 11 (tailsOut m c) (fun t hf => tails_flushed m c t hf) i]
  split
  · rfl
  · rename_i hi
    rw [A_eq]
    obtain ⟨n, b, r, l, rfl⟩ : ∃ (n : Fin 2) (b : Fin 4) (r : Fin 8) (l : Fin 3072), i = ix4 n b r l :=
      ⟨i 0, i 1, i 2, i 3, eq_ix4 (show S2x4x8x3072.Idx from i)⟩
    rcases (by omega : n.val = 0 ∨ n.val = 1) with hn | hn
    · obtain rfl : n = 0 := Fin.ext hn
      exact (congrFun (tails_entry m c) _).trans (tails_zero _ _ b r l).symm
    · obtain rfl : n = 1 := Fin.ext hn
      have hN : cfg0.N = 64 := N_0
      have ht : 16 * b.val + 15 < cfg0.N := by omega
      refine absurd ⟨⟨16 * b.val + 15, ht⟩, (flush0_11 _).2 (by show (16 * b.val + 15) % 16 = 15; omega), ?_⟩ hi
      have hb : bat ⟨16 * b.val + 15, ht⟩ = b := Fin.ext (by show (16 * b.val + 15) / 16 = b.val; omega)
      have h' := View.emb_mem_set ((cfg0.win 11).blk ⟨16 * b.val + 15, ht⟩).view (ix4 0 0 r l)
      rwa [tail_place, hb] at h'

end Cert.Proof.Delta

end
-- ==== Proof.Delta.Claims.lean ====
/-
  The claims about the prompt's delta call: its programs return with everything as they should leave it, and the tail array
  holds the reference's.
-/
module

public import proofs.«01_k».proof.Defs
public import proofs.«01_k».proof.Proof.Delta.Final
public import proofs.«01_k».proof.Proof.Gen.Reference9Ideal
public import proofs.«01_k».proof.Proof.Gen.Kernel9
public import Idealize.ShloMosaic.Lib.Claim

@[expose] public section

set_option maxRecDepth 16384

noncomputable section

namespace Cert.Proof.Delta

open Idealize.ShloMosaic Idealize.ShloMosaic.TcCoe Idealize.SL.Sem

/-- The kernel and its ideal reading have the same body table at words: the one label's body is the same text. -/
theorem bodies_eq : Cert.Kernel9.defs₀ (F := Bits) = Cert.Kernel9Ideal.defs₀ (F := Bits) := by
  sl_kernel_rfl

theorem defs_eq : Cert.Kernel9.defs (F := Bits) = Cert.Kernel9Ideal.defs (F := Bits) := by
  unfold Cert.Kernel9.defs
  rw [bodies_eq]
  rfl

theorem main_eq : Cert.Kernel9.main (F := Bits) = Cert.Kernel9Ideal.main (F := Bits) := by
  sl_kernel_rfl

theorem frame_kernel : Cert.quiescent_Kernel9 := by
  intro m ρ _
  rw [defs_eq, main_eq]
  exact Cert.Kernel9Ideal.Gen.frame (F := Bits) m ρ

theorem frame_kernelIdeal : Cert.quiescent_Kernel9Ideal := fun m ρ _ => Cert.Kernel9Ideal.Gen.frame (F := Ideal) m ρ

/-- The reference declares no semaphore, so its counters are zero at the end. -/
theorem frame_referenceIdeal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Both runs end with the reference's tails of the common arguments. -/
theorem algebraic : Cert.algebraic_Kernel9Ideal_Reference9Ideal := by
  intro m ρ m' ρ' _ hagree
  refine ⟨tailsOut m, ?_, ?_⟩
  · exact (θ_run Cert.Kernel9Ideal.defs _ _).mono
      (fun r h c => ⟨(h c).2.2.1.trans (tails_final m c), (h c).2.2.2⟩)
      (Cert.Kernel9Ideal.Value.run_blocks (F := Ideal) m ρ)
  · refine (θ_run Cert.Reference9Ideal.defs _ _).mono (fun r h c => ⟨(h c).1.trans ?_, (h c).2⟩)
      (Cert.Reference9Ideal.Value.run (F := Ideal) m' ρ')
    obtain ⟨a0, a1, a2, a3, a4, a5, a6, a7⟩ := hagree c
    rw [a0, a7]
    exact (Cert.Reference9Ideal.Read.val_main_v8_eq _ _).symm

end Cert.Proof.Delta

end
-- ==== Proof.lean ====
/-
  The proof of `Cert.Claim`: for each call its three frames, that the ideal reading is sanctioned, and that kernel and
  reference end with the same results.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Step
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Ret.Claims
public import proofs.«01_k».proof.Proof.Merge.Claims
public import proofs.«01_k».proof.Proof.Inproj.Claims
public import proofs.«01_k».proof.Proof.Attn.Claims
public import proofs.«01_k».proof.Proof.MergeSample.Claims
public import proofs.«01_k».proof.Proof.AttnSample.Claims
public import proofs.«01_k».proof.Proof.RetSample.Claims
public import proofs.«01_k».proof.Proof.DeltaSample.Claims
public import proofs.«01_k».proof.Proof.Delta.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Ret.frame_kernel, Ret.frame_kernelIdeal, Ret.frame_referenceIdeal,
    Merge.frame_kernel, Merge.frame_kernelIdeal, Merge.frame_referenceIdeal,
    Inproj.frame_kernel, Inproj.frame_kernelIdeal, Inproj.frame_referenceIdeal,
    Attn.frame_kernel, Attn.frame_kernelIdeal, Attn.frame_referenceIdeal,
    MergeSample.frame_kernel, MergeSample.frame_kernelIdeal, MergeSample.frame_referenceIdeal,
    AttnSample.frame_kernel, AttnSample.frame_kernelIdeal, AttnSample.frame_referenceIdeal,
    RetSample.frame_kernel, RetSample.frame_kernelIdeal, RetSample.frame_referenceIdeal,
    DeltaSample.frame_kernel, DeltaSample.frame_kernelIdeal, DeltaSample.frame_referenceIdeal,
    Delta.frame_kernel, Delta.frame_kernelIdeal, Delta.frame_referenceIdeal,
    trivial, Ret.algebraic, trivial, Merge.algebraic, trivial, Inproj.algebraic,
    trivial, Attn.algebraic, trivial, MergeSample.algebraic, trivial, AttnSample.algebraic,
    trivial, RetSample.algebraic, trivial, DeltaSample.algebraic, trivial, Delta.algebraic⟩

end Cert.Proof

end
